-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S32x1x2560 : Shape := ⟨3, ![32, 1, 2560]⟩
abbrev S5x2560x2560 : Shape := ⟨3, ![5, 2560, 2560]⟩
abbrev S5x2560 : Shape := ⟨2, ![5, 2560]⟩
abbrev S2560x152064 : Shape := ⟨2, ![2560, 152064]⟩
abbrev S152064 : Shape := ⟨1, ![152064]⟩
abbrev S32x1x5x10 : Shape := ⟨4, ![32, 1, 5, 10]⟩
abbrev S_ : Shape := ⟨0, ![]⟩

class Facts : Prop where
  bcast_S_S32x1x5x10 : S_.BroadcastsInDim S32x1x5x10 (![] : Fin 0 → Fin S32x1x5x10.rank)
  reducesTo_S32x1x5x10_S_d0_1_2_3 : S32x1x5x10.ReducesTo [0, 1, 2, 3] S_
  h_S_ : 0 < S_.numel

variable [Facts]

def fn {F : FTy → Type} [FloatOps F] (main_arg0 : FVec F S32x1x2560 .bf16) (main_arg1 : FVec F S5x2560x2560 .fp8e4m3) (main_arg2 : FVec F S5x2560 .f32) (main_arg3 : FVec F S5x2560 .f32) (main_arg4 : FVec F S2560x152064 .fp8e4m3) (main_arg5 : FVec F S152064 .f32) (main_arg6 : IVec S32x1x5x10 32) : IVec S_ 1 :=
  let main_c : IVec S_ 32 := constantI S_ 32 0#32
  let main_v0 : IVec S32x1x5x10 32 := broadcastInDim S32x1x5x10 ![] bcast_S_S32x1x5x10 main_c
  let main_v1 : IVec S32x1x5x10 1 := cmpi .sge main_arg6 main_v0
  let main_c_0 : IVec S_ 32 := constantI S_ 32 152064#32
  let main_v2 : IVec S32x1x5x10 32 := broadcastInDim S32x1x5x10 ![] bcast_S_S32x1x5x10 main_c_0
  let main_v3 : IVec S32x1x5x10 1 := cmpi .slt main_arg6 main_v2
  let main_v4 : IVec S32x1x5x10 1 := andi main_v1 main_v3
  let main_c_1 : IVec S_ 1 := constantI S_ 1 1#1
  let main_v5 : IVec S_ 1 := (fun x v => Host.reduce IntOp.andi x v reducesTo_S32x1x5x10_S_d0_1_2_3 h_S_) main_v4 main_c_1
  main_v5
-- ==== Kernel.lean ====
abbrev S32x1x2560 : Shape := ⟨3, ![32, 1, 2560]⟩
abbrev S5x2560x2560 : Shape := ⟨3, ![5, 2560, 2560]⟩
abbrev S5x2560 : Shape := ⟨2, ![5, 2560]⟩
abbrev S2560x152064 : Shape := ⟨2, ![2560, 152064]⟩
abbrev S152064 : Shape := ⟨1, ![152064]⟩
abbrev S32x1x5x10 : Shape := ⟨4, ![32, 1, 5, 10]⟩
abbrev S1x152064 : Shape := ⟨2, ![1, 152064]⟩
abbrev S32x1x5 : Shape := ⟨3, ![32, 1, 5]⟩
abbrev S32x1 : Shape := ⟨2, ![32, 1]⟩
abbrev S32x1x5x2560 : Shape := ⟨4, ![32, 1, 5, 2560]⟩
abbrev S5x2560x1536 : Shape := ⟨3, ![5, 2560, 1536]⟩
abbrev S160x2560 : Shape := ⟨2, ![160, 2560]⟩
abbrev S160x128 : Shape := ⟨2, ![160, 128]⟩
abbrev S5 : Shape := ⟨1, ![5]⟩
abbrev S7 : Shape := ⟨1, ![7]⟩
abbrev S1 : Shape := ⟨1, ![1]⟩
abbrev S_ : Shape := ⟨0, ![]⟩
abbrev S1x2560x2560 : Shape := ⟨3, ![1, 2560, 2560]⟩
abbrev S2560x2560 : Shape := ⟨2, ![2560, 2560]⟩
abbrev S1x2560x1536 : Shape := ⟨3, ![1, 2560, 1536]⟩
abbrev S2560x1536 : Shape := ⟨2, ![2560, 1536]⟩
abbrev S32x2560 : Shape := ⟨2, ![32, 2560]⟩
abbrev S32 : Shape := ⟨1, ![32]⟩
abbrev S32x128 : Shape := ⟨2, ![32, 128]⟩
abbrev S1x2560 : Shape := ⟨2, ![1, 2560]⟩
abbrev S32x5x2560 : Shape := ⟨3, ![32, 5, 2560]⟩
abbrev S32x5 : Shape := ⟨2, ![32, 5]⟩
abbrev S32x1x1x10 : Shape := ⟨4, ![32, 1, 1, 10]⟩
abbrev S32x10 : Shape := ⟨2, ![32, 10]⟩
abbrev S1x2560x512 : Shape := ⟨3, ![1, 2560, 512]⟩
abbrev S2560x512 : Shape := ⟨2, ![2560, 512]⟩
abbrev S160x512 : Shape := ⟨2, ![160, 512]⟩
abbrev S1x128 : Shape := ⟨2, ![1, 128]⟩
abbrev S32x128x1 : Shape := ⟨3, ![32, 128, 1]⟩

abbrev nBuf : Space → Nat
  | .hbm => 15
  | .vmem => 21
  | .smem => 0
  | _ => 0

abbrev bufTy : (tb : Table) → Fin (tcTables nBuf tb) → BufTy
  | .hbm, ⟨0, _⟩ => ⟨S32x1x2560, .bf16⟩
  | .hbm, ⟨1, _⟩ => ⟨S5x2560x2560, .fp8e4m3⟩
  | .hbm, ⟨2, _⟩ => ⟨S5x2560, .f32⟩
  | .hbm, ⟨3, _⟩ => ⟨S5x2560, .f32⟩
  | .hbm, ⟨4, _⟩ => ⟨S2560x152064, .fp8e4m3⟩
  | .hbm, ⟨5, _⟩ => ⟨S152064, .f32⟩
  | .hbm, ⟨6, _⟩ => ⟨S32x1x5x10, .i32⟩
  | .hbm, ⟨7, _⟩ => ⟨S1x152064, .f32⟩
  | .hbm, ⟨8, _⟩ => ⟨S32x1x5, .f32⟩
  | .hbm, ⟨9, _⟩ => ⟨S32x1x5, .f32⟩
  | .hbm, ⟨10, _⟩ => ⟨S32x1x5x10, .f32⟩
  | .hbm, ⟨11, _⟩ => ⟨S32x1x2560, .fp8e4m3⟩
  | .hbm, ⟨12, _⟩ => ⟨S32x1, .f32⟩
  | .hbm, ⟨13, _⟩ => ⟨S32x1x5x2560, .fp8e4m3⟩
  | .hbm, ⟨14, _⟩ => ⟨S32x1x5, .f32⟩
  | .local _ .vmem, ⟨0, _⟩ => ⟨S32x1x2560, .bf16⟩
  | .local _ .vmem, ⟨1, _⟩ => ⟨S5x2560, .f32⟩
  | .local _ .vmem, ⟨2, _⟩ => ⟨S5x2560, .f32⟩
  | .local _ .vmem, ⟨3, _⟩ => ⟨S1x152064, .f32⟩
  | .local _ .vmem, ⟨4, _⟩ => ⟨S32x1x5x10, .i32⟩
  | .local _ .vmem, ⟨5, _⟩ => ⟨S5x2560x2560, .fp8e4m3⟩
  | .local _ .vmem, ⟨6, _⟩ => ⟨S5x2560x1536, .fp8e4m3⟩
  | .local _ .vmem, ⟨7, _⟩ => ⟨S160x2560, .fp8e4m3⟩
  | .local _ .vmem, ⟨8, _⟩ => ⟨S160x128, .f32⟩
  | .local _ .vmem, ⟨9, _⟩ => ⟨S160x128, .i32⟩
  | .local _ .vmem, ⟨10, _⟩ => ⟨S160x128, .i32⟩
  | .local _ .vmem, ⟨11, _⟩ => ⟨S160x128, .f32⟩
  | .local _ .vmem, ⟨12, _⟩ => ⟨S160x128, .f32⟩
  | .local _ .vmem, ⟨13, _⟩ => ⟨S160x128, .f32⟩
  | .local _ .vmem, ⟨14, _⟩ => ⟨S32x1x5, .f32⟩
  | .local _ .vmem, ⟨15, _⟩ => ⟨S32x1x5, .f32⟩
  | .local _ .vmem, ⟨16, _⟩ => ⟨S32x1x5x10, .f32⟩
  | .local _ .vmem, ⟨17, _⟩ => ⟨S32x1x2560, .fp8e4m3⟩
  | .local _ .vmem, ⟨18, _⟩ => ⟨S32x1, .f32⟩
  | .local _ .vmem, ⟨19, _⟩ => ⟨S32x1x5x2560, .fp8e4m3⟩
  | .local _ .vmem, ⟨20, _⟩ => ⟨S32x1x5, .f32⟩
  | _, _ => ⟨S32x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩

abbrev nD : Nat := 1
abbrev τ : Topo := Topo.v7x

variable {F : FTy → Type} [FloatOps F]

abbrev grid0 : Pipeline.Grid := .none

def k0_mult1 : BitVec 32 :=
  let c0_i32_35 : BitVec 32 := 0#32
  c0_i32_35
def k0_mult2 : BitVec 32 :=
  let c1536_i32 : BitVec 32 := 1536#32
  c1536_i32
def k0_mult3 : BitVec 32 :=
  let c3072_i32 : BitVec 32 := 3072#32
  c3072_i32
def k0_mult4 : BitVec 32 :=
  let c4608_i32 : BitVec 32 := 4608#32
  c4608_i32
def k0_mult5 : BitVec 32 :=
  let c6144_i32 : BitVec 32 := 6144#32
  c6144_i32
@[reducible] def k0_t1_loop : Scf.Loop 32 :=
  let c0_i32_426 : BitVec 32 := 0#32
  let c99_i32 : BitVec 32 := 99#32
  let v912 : BitVec 32 := Scalar.addi c0_i32_426 c99_i32
  let c1_i32_427 : BitVec 32 := 1#32
  ⟨c0_i32_426, v912, c1_i32_427⟩
def k0_mult6 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c1536_i32_516 : BitVec 32 := 1536#32
  let v1074 : BitVec 32 := Scalar.muli arg39 c1536_i32_516
  v1074
def k0_off1 (k0_t1 : Fin k0_t1_loop.trips) : Fin 1 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  ![v1073.toNat]
def k0_off2 (k0_t1 : Fin k0_t1_loop.trips) : Fin 3 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  let c0_i32_517 : BitVec 32 := 0#32
  let c0_i32_518 : BitVec 32 := 0#32
  ![v1073.toNat, 0, 0]
def k0_off3 (k0_t1 : Fin k0_t1_loop.trips) : Fin 2 → Nat :=
  let c0_i32_519 : BitVec 32 := 0#32
  let c0_i32_426 : BitVec 32 := 0#32
  let c1_i32_427 : BitVec 32 := 1#32
  let arg39 : BitVec 32 := Scf.iv c0_i32_426 c1_i32_427 k0_t1
  let c1536_i32_516 : BitVec 32 := 1536#32
  let v1074 : BitVec 32 := Scalar.muli arg39 c1536_i32_516
  let v1075 : BitVec 32 := v1074
  ![0, v1075.toNat]
def k0_off4 (k0_t1 : Fin k0_t1_loop.trips) : Fin 3 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  let v1081 : Index := Scalar.indexCast v1073
  let c0_520 : Index := 0#32
  let c0_521 : Index := 0#32
  ![v1081.toNat, 0, 0]
def k0_mult7 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32 : BitVec 32 := 12#32
  let v1086 : BitVec 32 := Scalar.muli arg39 c12_i32
  let c0_i32_525 : BitVec 32 := 0#32
  let v1087 : BitVec 32 := Scalar.addi v1086 c0_i32_525
  let c0_i32_526 : BitVec 32 := 0#32
  let v1088 : BitVec 32 := Scalar.addi v1087 c0_i32_526
  let c128_i32_527 : BitVec 32 := 128#32
  let v1089 : BitVec 32 := Scalar.muli v1088 c128_i32_527
  v1089
def k0_off5 (k0_t1 : Fin k0_t1_loop.trips) (c0_i32_525 : BitVec 32) (c0_i32_526 : BitVec 32) : Fin 2 → Nat :=
  let c0_528 : Index := 0#32
  let c0_i32_426 : BitVec 32 := 0#32
  let c1_i32_427 : BitVec 32 := 1#32
  let arg39 : BitVec 32 := Scf.iv c0_i32_426 c1_i32_427 k0_t1
  let c12_i32 : BitVec 32 := 12#32
  let v1086 : BitVec 32 := Scalar.muli arg39 c12_i32
  let v1087 : BitVec 32 := Scalar.addi v1086 c0_i32_525
  let v1088 : BitVec 32 := Scalar.addi v1087 c0_i32_526
  let c128_i32_527 : BitVec 32 := 128#32
  let v1089 : BitVec 32 := Scalar.muli v1088 c128_i32_527
  let v1090 : BitVec 32 := v1089
  let v1091 : Index := Scalar.indexCast v1090
  ![0, v1091.toNat]
def k0_mult8 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32 : BitVec 32 := 12#32
  let v1086 : BitVec 32 := Scalar.muli arg39 c12_i32
  let c0_i32_525 : BitVec 32 := 0#32
  let v1087 : BitVec 32 := Scalar.addi v1086 c0_i32_525
  let c1_i32_529 : BitVec 32 := 1#32
  let v1093 : BitVec 32 := Scalar.addi v1087 c1_i32_529
  let c128_i32_530 : BitVec 32 := 128#32
  let v1094 : BitVec 32 := Scalar.muli v1093 c128_i32_530
  v1094
def k0_mult9 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32 : BitVec 32 := 12#32
  let v1086 : BitVec 32 := Scalar.muli arg39 c12_i32
  let c0_i32_525 : BitVec 32 := 0#32
  let v1087 : BitVec 32 := Scalar.addi v1086 c0_i32_525
  let c2_i32_532 : BitVec 32 := 2#32
  let v1098 : BitVec 32 := Scalar.addi v1087 c2_i32_532
  let c128_i32_533 : BitVec 32 := 128#32
  let v1099 : BitVec 32 := Scalar.muli v1098 c128_i32_533
  v1099
def k0_mult10 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32 : BitVec 32 := 12#32
  let v1086 : BitVec 32 := Scalar.muli arg39 c12_i32
  let c0_i32_525 : BitVec 32 := 0#32
  let v1087 : BitVec 32 := Scalar.addi v1086 c0_i32_525
  let c3_i32_535 : BitVec 32 := 3#32
  let v1103 : BitVec 32 := Scalar.addi v1087 c3_i32_535
  let c128_i32_536 : BitVec 32 := 128#32
  let v1104 : BitVec 32 := Scalar.muli v1103 c128_i32_536
  v1104
def k0_off6 (k0_t1 : Fin k0_t1_loop.trips) : Fin 3 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  let v1598 : Index := Scalar.indexCast v1073
  let c0_688 : Index := 0#32
  let c512 : Index := 512#32
  ![v1598.toNat, 0, 512]
def k0_mult11 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_692 : BitVec 32 := 12#32
  let v1603 : BitVec 32 := Scalar.muli arg39 c12_i32_692
  let c4_i32_693 : BitVec 32 := 4#32
  let v1604 : BitVec 32 := Scalar.addi v1603 c4_i32_693
  let c0_i32_694 : BitVec 32 := 0#32
  let v1605 : BitVec 32 := Scalar.addi v1604 c0_i32_694
  let c128_i32_695 : BitVec 32 := 128#32
  let v1606 : BitVec 32 := Scalar.muli v1605 c128_i32_695
  v1606
def k0_mult12 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_692 : BitVec 32 := 12#32
  let v1603 : BitVec 32 := Scalar.muli arg39 c12_i32_692
  let c4_i32_693 : BitVec 32 := 4#32
  let v1604 : BitVec 32 := Scalar.addi v1603 c4_i32_693
  let c1_i32_697 : BitVec 32 := 1#32
  let v1610 : BitVec 32 := Scalar.addi v1604 c1_i32_697
  let c128_i32_698 : BitVec 32 := 128#32
  let v1611 : BitVec 32 := Scalar.muli v1610 c128_i32_698
  v1611
def k0_mult13 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_692 : BitVec 32 := 12#32
  let v1603 : BitVec 32 := Scalar.muli arg39 c12_i32_692
  let c4_i32_693 : BitVec 32 := 4#32
  let v1604 : BitVec 32 := Scalar.addi v1603 c4_i32_693
  let c2_i32_700 : BitVec 32 := 2#32
  let v1615 : BitVec 32 := Scalar.addi v1604 c2_i32_700
  let c128_i32_701 : BitVec 32 := 128#32
  let v1616 : BitVec 32 := Scalar.muli v1615 c128_i32_701
  v1616
def k0_mult14 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_692 : BitVec 32 := 12#32
  let v1603 : BitVec 32 := Scalar.muli arg39 c12_i32_692
  let c4_i32_693 : BitVec 32 := 4#32
  let v1604 : BitVec 32 := Scalar.addi v1603 c4_i32_693
  let c3_i32_703 : BitVec 32 := 3#32
  let v1620 : BitVec 32 := Scalar.addi v1604 c3_i32_703
  let c128_i32_704 : BitVec 32 := 128#32
  let v1621 : BitVec 32 := Scalar.muli v1620 c128_i32_704
  v1621
def k0_off7 (k0_t1 : Fin k0_t1_loop.trips) : Fin 3 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  let v2115 : Index := Scalar.indexCast v1073
  let c0_856 : Index := 0#32
  let c1024 : Index := 1024#32
  ![v2115.toNat, 0, 1024]
def k0_mult15 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_860 : BitVec 32 := 12#32
  let v2120 : BitVec 32 := Scalar.muli arg39 c12_i32_860
  let c8_i32_861 : BitVec 32 := 8#32
  let v2121 : BitVec 32 := Scalar.addi v2120 c8_i32_861
  let c0_i32_862 : BitVec 32 := 0#32
  let v2122 : BitVec 32 := Scalar.addi v2121 c0_i32_862
  let c128_i32_863 : BitVec 32 := 128#32
  let v2123 : BitVec 32 := Scalar.muli v2122 c128_i32_863
  v2123
def k0_mult16 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_860 : BitVec 32 := 12#32
  let v2120 : BitVec 32 := Scalar.muli arg39 c12_i32_860
  let c8_i32_861 : BitVec 32 := 8#32
  let v2121 : BitVec 32 := Scalar.addi v2120 c8_i32_861
  let c1_i32_865 : BitVec 32 := 1#32
  let v2127 : BitVec 32 := Scalar.addi v2121 c1_i32_865
  let c128_i32_866 : BitVec 32 := 128#32
  let v2128 : BitVec 32 := Scalar.muli v2127 c128_i32_866
  v2128
def k0_mult17 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_860 : BitVec 32 := 12#32
  let v2120 : BitVec 32 := Scalar.muli arg39 c12_i32_860
  let c8_i32_861 : BitVec 32 := 8#32
  let v2121 : BitVec 32 := Scalar.addi v2120 c8_i32_861
  let c2_i32_868 : BitVec 32 := 2#32
  let v2132 : BitVec 32 := Scalar.addi v2121 c2_i32_868
  let c128_i32_869 : BitVec 32 := 128#32
  let v2133 : BitVec 32 := Scalar.muli v2132 c128_i32_869
  v2133
def k0_mult18 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c12_i32_860 : BitVec 32 := 12#32
  let v2120 : BitVec 32 := Scalar.muli arg39 c12_i32_860
  let c8_i32_861 : BitVec 32 := 8#32
  let v2121 : BitVec 32 := Scalar.addi v2120 c8_i32_861
  let c3_i32_871 : BitVec 32 := 3#32
  let v2137 : BitVec 32 := Scalar.addi v2121 c3_i32_871
  let c128_i32_872 : BitVec 32 := 128#32
  let v2138 : BitVec 32 := Scalar.muli v2137 c128_i32_872
  v2138
def k0_cond1 (k0_t1 : Fin k0_t1_loop.trips) : BitVec 1 :=
  let c0_i32_426 : BitVec 32 := 0#32
  let c1_i32_427 : BitVec 32 := 1#32
  let arg39 : BitVec 32 := Scf.iv c0_i32_426 c1_i32_427 k0_t1
  let c5_i32_1024 : BitVec 32 := 5#32
  let v2632 : BitVec 32 := Scalar.addi arg39 c5_i32_1024
  let c99_i32_1025 : BitVec 32 := 99#32
  let v2633 : BitVec 1 := Scalar.cmpi .slt v2632 c99_i32_1025
  let v2634 : BitVec 32 := Scalar.extui v2633
  let c0_i32_1026 : BitVec 32 := 0#32
  let v2635 : BitVec 1 := Scalar.cmpi .ne v2634 c0_i32_1026
  v2635

def k0_mult19 (k0_t1 : Fin k0_t1_loop.trips) : BitVec 32 :=
  let c0_i32_426 : BitVec 32 := 0#32
  let c1_i32_427 : BitVec 32 := 1#32
  let arg39 : BitVec 32 := Scf.iv c0_i32_426 c1_i32_427 k0_t1
  let c5_i32_1027 : BitVec 32 := 5#32
  let v2636 : BitVec 32 := Scalar.addi arg39 c5_i32_1027
  let c1536_i32_1028 : BitVec 32 := 1536#32
  let v2637 : BitVec 32 := Scalar.muli v2636 c1536_i32_1028
  v2637
def k0_off8 (k0_t1 : Fin k0_t1_loop.trips) : Fin 1 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  ![v1073.toNat]
def k0_off9 (k0_t1 : Fin k0_t1_loop.trips) : Fin 3 → Nat :=
  let c0_i32_426 : BitVec 32 := 0#32
  let c1_i32_427 : BitVec 32 := 1#32
  let arg39 : BitVec 32 := Scf.iv c0_i32_426 c1_i32_427 k0_t1
  let c5_i32_515 : BitVec 32 := 5#32
  let v1073 : BitVec 32 := Scalar.remsi arg39 c5_i32_515
  let c0_i32_1029 : BitVec 32 := 0#32
  let c0_i32_1030 : BitVec 32 := 0#32
  ![v1073.toNat, 0, 0]
def k0_off10 (k0_t1 : Fin k0_t1_loop.trips) : Fin 2 → Nat :=
  let c0_i32_1031 : BitVec 32 := 0#32
  let c0_i32_426 : BitVec 32 := 0#32
  let c1_i32_427 : BitVec 32 := 1#32
  let arg39 : BitVec 32 := Scf.iv c0_i32_426 c1_i32_427 k0_t1
  let c5_i32_1027 : BitVec 32 := 5#32
  let v2636 : BitVec 32 := Scalar.addi arg39 c5_i32_1027
  let c1536_i32_1028 : BitVec 32 := 1536#32
  let v2637 : BitVec 32 := Scalar.muli v2636 c1536_i32_1028
  let v2638 : BitVec 32 := v2637
  ![0, v2638.toNat]
-- ==== ReferenceIdeal.lean ====
abbrev S32x1x2560 : Shape := ⟨3, ![32, 1, 2560]⟩
abbrev S5x2560x2560 : Shape := ⟨3, ![5, 2560, 2560]⟩
abbrev S5x2560 : Shape := ⟨2, ![5, 2560]⟩
abbrev S2560x152064 : Shape := ⟨2, ![2560, 152064]⟩
abbrev S152064 : Shape := ⟨1, ![152064]⟩
abbrev S32x1x5x10 : Shape := ⟨4, ![32, 1, 5, 10]⟩
abbrev S1x152064 : Shape := ⟨2, ![1, 152064]⟩
abbrev S32x1x5 : Shape := ⟨3, ![32, 1, 5]⟩
abbrev S5x32x152064 : Shape := ⟨3, ![5, 32, 152064]⟩
abbrev S32x1 : Shape := ⟨2, ![32, 1]⟩
abbrev S32x1x5x2560 : Shape := ⟨4, ![32, 1, 5, 2560]⟩
abbrev S32x2560 : Shape := ⟨2, ![32, 2560]⟩
abbrev S32 : Shape := ⟨1, ![32]⟩
abbrev S1x2560x2560 : Shape := ⟨3, ![1, 2560, 2560]⟩
abbrev S2560x2560 : Shape := ⟨2, ![2560, 2560]⟩
abbrev S1x2560 : Shape := ⟨2, ![1, 2560]⟩
abbrev S32x152064 : Shape := ⟨2, ![32, 152064]⟩
abbrev S1x32x152064 : Shape := ⟨3, ![1, 32, 152064]⟩
abbrev S32x5x2560 : Shape := ⟨3, ![32, 5, 2560]⟩
abbrev S32x5 : Shape := ⟨2, ![32, 5]⟩
abbrev S32x5x152064 : Shape := ⟨3, ![32, 5, 152064]⟩
abbrev S32x1x5x152064 : Shape := ⟨4, ![32, 1, 5, 152064]⟩
abbrev S_ : Shape := ⟨0, ![]⟩
abbrev S32x5x10x1 : Shape := ⟨4, ![32, 5, 10, 1]⟩
abbrev S1 : Shape := ⟨1, ![1]⟩
abbrev S1x1x1x1 : Shape := ⟨4, ![1, 1, 1, 1]⟩
abbrev S32x5x10 : Shape := ⟨3, ![32, 5, 10]⟩

abbrev nBuf : Space → Nat
  | .hbm => 40
  | .vmem => 13
  | .smem => 0
  | _ => 0

abbrev bufTy : (tb : Table) → Fin (tcTables nBuf tb) → BufTy
  | .hbm, ⟨0, _⟩ => ⟨S32x1x2560, .bf16⟩
  | .hbm, ⟨1, _⟩ => ⟨S5x2560x2560, .fp8e4m3⟩
  | .hbm, ⟨2, _⟩ => ⟨S5x2560, .f32⟩
  | .hbm, ⟨3, _⟩ => ⟨S5x2560, .f32⟩
  | .hbm, ⟨4, _⟩ => ⟨S2560x152064, .fp8e4m3⟩
  | .hbm, ⟨5, _⟩ => ⟨S152064, .f32⟩
  | .hbm, ⟨6, _⟩ => ⟨S32x1x5x10, .i32⟩
  | .hbm, ⟨7, _⟩ => ⟨S1x152064, .f32⟩
  | .hbm, ⟨8, _⟩ => ⟨S32x1x5, .f32⟩
  | .hbm, ⟨9, _⟩ => ⟨S32x1x5, .f32⟩
  | .hbm, ⟨10, _⟩ => ⟨S5x32x152064, .f32⟩
  | .hbm, ⟨11, _⟩ => ⟨S32x1x2560, .fp8e4m3⟩
  | .hbm, ⟨12, _⟩ => ⟨S32x1, .f32⟩
  | .hbm, ⟨13, _⟩ => ⟨S32x1x5x2560, .fp8e4m3⟩
  | .hbm, ⟨14, _⟩ => ⟨S32x1x5, .f32⟩
  | .hbm, ⟨15, _⟩ => ⟨S32x5x152064, .f32⟩
  | .hbm, ⟨16, _⟩ => ⟨S32x1x5x152064, .f32⟩
  | .hbm, ⟨17, _⟩ => ⟨S_, .i32⟩
  | .hbm, ⟨18, _⟩ => ⟨S32x1x5x10, .i32⟩
  | .hbm, ⟨19, _⟩ => ⟨S32x1x5x10, .i1⟩
  | .hbm, ⟨20, _⟩ => ⟨S_, .i32⟩
  | .hbm, ⟨21, _⟩ => ⟨S32x1x5x10, .i32⟩
  | .hbm, ⟨22, _⟩ => ⟨S32x1x5x10, .i32⟩
  | .hbm, ⟨23, _⟩ => ⟨S32x1x5x10, .i32⟩
  | .hbm, ⟨24, _⟩ => ⟨S32x5x10x1, .i32⟩
  | .hbm, ⟨25, _⟩ => ⟨S1, .i32⟩
  | .hbm, ⟨26, _⟩ => ⟨S_, .i32⟩
  | .hbm, ⟨27, _⟩ => ⟨S32x5x10x1, .i32⟩
  | .hbm, ⟨28, _⟩ => ⟨S32x5x10x1, .i1⟩
  | .hbm, ⟨29, _⟩ => ⟨S1x1x1x1, .i32⟩
  | .hbm, ⟨30, _⟩ => ⟨S32x5x10x1, .i32⟩
  | .hbm, ⟨31, _⟩ => ⟨S32x5x10x1, .i1⟩
  | .hbm, ⟨32, _⟩ => ⟨S32x5x10x1, .i1⟩
  | .hbm, ⟨33, _⟩ => ⟨S_, .i1⟩
  | .hbm, ⟨34, _⟩ => ⟨S32x5x10, .i1⟩
  | .hbm, ⟨35, _⟩ => ⟨S32x1x5x10, .f32⟩
  | .hbm, ⟨36, _⟩ => ⟨S32x1x5x10, .i1⟩
  | .hbm, ⟨37, _⟩ => ⟨S_, .f32⟩
  | .hbm, ⟨38, _⟩ => ⟨S32x1x5x10, .f32⟩
  | .hbm, ⟨39, _⟩ => ⟨S32x1x5x10, .f32⟩
  | .local _ .vmem, ⟨0, _⟩ => ⟨S32x1x2560, .bf16⟩
  | .local _ .vmem, ⟨1, _⟩ => ⟨S5x2560x2560, .fp8e4m3⟩
  | .local _ .vmem, ⟨2, _⟩ => ⟨S5x2560, .f32⟩
  | .local _ .vmem, ⟨3, _⟩ => ⟨S5x2560, .f32⟩
  | .local _ .vmem, ⟨4, _⟩ => ⟨S2560x152064, .fp8e4m3⟩
  | .local _ .vmem, ⟨5, _⟩ => ⟨S1x152064, .f32⟩
  | .local _ .vmem, ⟨6, _⟩ => ⟨S32x1x5, .f32⟩
  | .local _ .vmem, ⟨7, _⟩ => ⟨S32x1x5, .f32⟩
  | .local _ .vmem, ⟨8, _⟩ => ⟨S5x32x152064, .f32⟩
  | .local _ .vmem, ⟨9, _⟩ => ⟨S32x1x2560, .fp8e4m3⟩
  | .local _ .vmem, ⟨10, _⟩ => ⟨S32x1, .f32⟩
  | .local _ .vmem, ⟨11, _⟩ => ⟨S32x1x5x2560, .fp8e4m3⟩
  | .local _ .vmem, ⟨12, _⟩ => ⟨S32x1x5, .f32⟩
  | _, _ => ⟨S32x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S32x1x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x2560x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x152064 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x152064 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x32x152064 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1x5x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Medusa.Ring.lean ====
/-
  The vocabulary blocks of `KernelIdeal` and the ring that carries them: the 99 blocks of 1536 columns of the
  vocabulary matrix, the five slots of the ring and their DMA semaphores under names of their own (`blk`, `rslot`,
  `csm`), the loop's offsets in closed form, and the equations by which the kernel's slices are those names. Then the
  resources of the ring before trip `k`: the slot of block `k + j` (`j < 5`) in flight while there is such a block and
  free after the last, every other block at home (`ringAt`), with what one trip takes out and puts back.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

omit [FloatOps F] in
theorem entails_of_eq {P Q : sProp 𝕄} (e : P = Q) : P ⊢ Q := e ▸ .rfl

/-! ## Names: block `b` of the vocabulary matrix, slot `s` of the ring, slot `s`'s semaphore -/

abbrev wvM : Memref sig .tc .hbm S2560x152064 .fp8e4m3 := Memref.whole main_arg4
abbrev ringM : Memref sig .tc .vmem S5x2560x1536 .fp8e4m3 := Memref.whole cc0_scratch6

abbrev blkOff (b : Fin 99) : Fin 2 → Nat := ![0, b.val * 1536]
theorem blkOff_inb (b : Fin 99) : ∀ a, blkOff b a + S2560x1536.size a ≤ S2560x152064.size a := by
  have := b.isLt; intro a; fin_cases a
  · show 0 + 2560 ≤ 2560; omega
  · show b.val * 1536 + 1536 ≤ 152064; omega
abbrev slotOff (s : Fin 5) : Fin 3 → Nat := ![s.val, 0, 0]
theorem slotOff_inb (s : Fin 5) : ∀ a, slotOff s a + S1x2560x1536.size a ≤ S5x2560x1536.size a := by
  have := s.isLt; intro a; fin_cases a
  · show s.val + 1 ≤ 5; omega
  · show 0 + 2560 ≤ 2560; omega
  · show 0 + 1536 ≤ 1536; omega
abbrev semOff (s : Fin 5) : Fin 1 → Nat := ![s.val]
theorem semOff_inb (s : Fin 5) : ∀ a, semOff s a + S1.size a ≤ S5.size a := by
  have := s.isLt; intro a; fin_cases a; show s.val + 1 ≤ 5; omega

/-- Block `b` of the vocabulary matrix, as the body slices it. -/
def blk (b : Fin 99) : Memref sig .tc .hbm S2560x1536 .fp8e4m3 :=
  wvM.slice (Rect.unit (s := S2560x152064) (blkOff b) S2560x1536.size (blkOff_inb b)) (fun _ => rfl)
/-- Slot `s` of the ring, as the body slices and squeezes it. -/
def rslot (s : Fin 5) : Memref sig .tc .vmem S2560x1536 .fp8e4m3 :=
  (ringM.slice (Rect.unit (s := S5x2560x1536) (slotOff s) S1x2560x1536.size (slotOff_inb s)) (fun _ => rfl)).squeeze S2560x1536 squeezes_S1x2560x1536_S2560x1536
theorem headOff_inb (s : Fin 5) : ∀ a, slotOff s a + S1x2560x2560.size a ≤ S5x2560x2560.size a := by
  have := s.isLt; intro a; fin_cases a
  · show s.val + 1 ≤ 5; omega
  · show 0 + 2560 ≤ 2560; omega
  · show 0 + 2560 ≤ 2560; omega
abbrev headsM : Memref sig .tc .vmem S5x2560x2560 .fp8e4m3 := Memref.whole cc0_scratch5
/-- Head `s`'s part of the buffer of the residual blocks' matrices, as the body slices and squeezes it. -/
def wslot (s : Fin 5) : Memref sig .tc .vmem S2560x2560 .fp8e4m3 :=
  (headsM.slice (Rect.unit (s := S5x2560x2560) (slotOff s) S1x2560x2560.size (headOff_inb s)) (fun _ => rfl)).squeeze S2560x2560 squeezes_S1x2560x2560_S2560x2560
/-- Slot `s`'s DMA semaphore. -/
def csm (s : Fin 5) : DmaSems sig S_ := (cc0_scratch23.slice (Rect.unit (s := S5) (semOff s) S1.size (semOff_inb s))).squeeze S_ squeezes_S1_S_

instance (s : Fin 5) : ClosedOff (slotOff s) := ⟨slotOff s, rfl⟩
instance (b : Fin 99) : ClosedOff (blkOff b) := ⟨blkOff b, rfl⟩

/-! ## The loop's offsets in closed form -/

section Chain
open Affine

theorem trips_eq : k0_t1_loop.trips = 99 := by decide

theorem trip_lt (k : Fin k0_t1_loop.trips) : k.val < 99 := Nat.lt_of_lt_of_eq k.isLt trips_eq

theorem isInt_iv (k : Fin k0_t1_loop.trips) : IsInt (Scf.iv 0#32 1#32 k.val) k.val := by
  have := trip_lt k
  exact iv (e := k.val) (ofNat (e := 0) 0 ⟨rfl, by decide⟩) (ofNat (e := 1) 1 ⟨rfl, by decide⟩) k.val ⟨by omega, by omega, by omega⟩
theorem isInt_rem (k : Fin k0_t1_loop.trips) : IsInt (Scalar.remsi (Scf.iv 0#32 1#32 k.val) 5#32) (k.val % 5 : Nat) :=
  remsi (e := (k.val % 5 : Nat)) (isInt_iv k) (ofNat (e := 5) 5 ⟨rfl, by decide⟩) ⟨by omega, by omega, by omega⟩
theorem isInt_mul (k : Fin k0_t1_loop.trips) : IsInt (Scalar.muli (Scf.iv 0#32 1#32 k.val) 1536#32) (k.val * 1536 : Nat) := by
  have := trip_lt k
  exact muli (e := (k.val * 1536 : Nat)) (isInt_iv k) (ofNat (e := 1536) 1536 ⟨rfl, by decide⟩) ⟨by push_cast; omega, by omega, by push_cast; omega⟩
theorem isInt_add5 (k : Fin k0_t1_loop.trips) : IsInt (Scalar.addi (Scf.iv 0#32 1#32 k.val) 5#32) (k.val + 5 : Nat) := by
  have := trip_lt k
  exact addi (e := (k.val + 5 : Nat)) (isInt_iv k) (ofNat (e := 5) 5 ⟨rfl, by decide⟩) ⟨by push_cast; omega, by omega, by push_cast; omega⟩
theorem isInt_mul5 (k : Fin k0_t1_loop.trips) : IsInt (Scalar.muli (Scalar.addi (Scf.iv 0#32 1#32 k.val) 5#32) 1536#32) ((k.val + 5) * 1536 : Nat) := by
  have := trip_lt k
  exact muli (e := ((k.val + 5) * 1536 : Nat)) (isInt_add5 k) (ofNat (e := 1536) 1536 ⟨rfl, by decide⟩) ⟨by push_cast; omega, by omega, by push_cast; omega⟩

theorem off1_eq (k : Fin k0_t1_loop.trips) : k0_off1 k = semOff (Ring.sl 5 k.val) :=
  vec_cons (isInt_rem k) (by simp [Ring.sl, Fin.ofNat]) vec_nil
theorem off8_eq (k : Fin k0_t1_loop.trips) : k0_off8 k = semOff (Ring.sl 5 k.val) :=
  vec_cons (isInt_rem k) (by simp [Ring.sl, Fin.ofNat]) vec_nil
theorem off2_eq (k : Fin k0_t1_loop.trips) : k0_off2 k = slotOff (Ring.sl 5 k.val) :=
  vec_cons (isInt_rem k) (by simp [Ring.sl, Fin.ofNat]) rfl
theorem off9_eq (k : Fin k0_t1_loop.trips) : k0_off9 k = slotOff (Ring.sl 5 k.val) :=
  vec_cons (isInt_rem k) (by simp [Ring.sl, Fin.ofNat]) rfl
theorem off4_eq (k : Fin k0_t1_loop.trips) : k0_off4 k = ![(Ring.sl 5 k.val).val, 0, 0] :=
  vec_cons (indexCast (isInt_rem k)) (by simp [Ring.sl, Fin.ofNat]) rfl
theorem off6_eq (k : Fin k0_t1_loop.trips) : k0_off6 k = ![(Ring.sl 5 k.val).val, 0, 512] :=
  vec_cons (indexCast (isInt_rem k)) (by simp [Ring.sl, Fin.ofNat]) rfl
theorem off7_eq (k : Fin k0_t1_loop.trips) : k0_off7 k = ![(Ring.sl 5 k.val).val, 0, 1024] :=
  vec_cons (indexCast (isInt_rem k)) (by simp [Ring.sl, Fin.ofNat]) rfl
theorem off3_eq (k : Fin k0_t1_loop.trips) : k0_off3 k = blkOff (Ring.bk 99 k.val) := by
  show (![0, _] : Fin 2 → Nat) = _
  refine congrArg (Matrix.vecCons 0) (vec_cons (isInt_mul k) (by rw [Ring.bk_val (trip_lt k)]) vec_nil)
theorem off10_eq (k : Fin k0_t1_loop.trips) (h : k.val + 5 < 99) : k0_off10 k = blkOff (Ring.bk 99 (k.val + 5)) := by
  show (![0, _] : Fin 2 → Nat) = _
  refine congrArg (Matrix.vecCons 0) (vec_cons (isInt_mul5 k) (by rw [Ring.bk_val h]) vec_nil)

/-- The condition under which a trip starts another copy: there is a block five on. -/
theorem cond1_iff : ∀ k : Fin k0_t1_loop.trips, k0_cond1 k = 1#1 ↔ k.val + 5 < 99 := by decide +kernel

instance (k : Fin k0_t1_loop.trips) : ClosedOff (k0_off2 k) := ⟨slotOff (Ring.sl 5 k.val), off2_eq k⟩
instance (k : Fin k0_t1_loop.trips) : ClosedOff (k0_off4 k) := ⟨![(Ring.sl 5 k.val).val, 0, 0], off4_eq k⟩
instance (k : Fin k0_t1_loop.trips) : ClosedOff (k0_off6 k) := ⟨![(Ring.sl 5 k.val).val, 0, 512], off6_eq k⟩
instance (k : Fin k0_t1_loop.trips) : ClosedOff (k0_off7 k) := ⟨![(Ring.sl 5 k.val).val, 0, 1024], off7_eq k⟩

end Chain

/-! ### The equations: the body's slices are `csm`, `rslot`, `blk` -/

section Canon

private theorem csm_congr {off : Fin 1 → Nat} {s : Fin 5} (e : off = semOff s) (hh) :
    (cc0_scratch23.slice (Rect.unit (s := S5) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 5} (e : off = slotOff s) (hh hs) :
    (ringM.slice (Rect.unit (s := S5x2560x1536) off S1x2560x1536.size hh) hs).squeeze S2560x1536 squeezes_S1x2560x1536_S2560x1536 = rslot s :=
  congrArg (fun M : Memref sig .tc .vmem S1x2560x1536 .fp8e4m3 => M.squeeze S2560x1536 squeezes_S1x2560x1536_S2560x1536) (Memref.slice_unit_congr _ e _ _ _ _)
private theorem blk_congr {off : Fin 2 → Nat} {b : Fin 99} (e : off = blkOff b) (hh hs) :
    wvM.slice (Rect.unit (s := S2560x152064) off S2560x1536.size hh) hs = blk b :=
  Memref.slice_unit_congr _ e _ _ _ (fun _ => rfl)

@[sl_canon] theorem semL0 (hh) : (cc0_scratch23.slice (Rect.unit (s := S5) ![0] S1.size hh)).squeeze S_ squeezes_S1_S_ = csm 0 := csm_congr (by decide) _
@[sl_canon] theorem semL1 (hh) : (cc0_scratch23.slice (Rect.unit (s := S5) ![1] S1.size hh)).squeeze S_ squeezes_S1_S_ = csm 1 := csm_congr (by decide) _
@[sl_canon] theorem semL2 (hh) : (cc0_scratch23.slice (Rect.unit (s := S5) ![2] S1.size hh)).squeeze S_ squeezes_S1_S_ = csm 2 := csm_congr (by decide) _
@[sl_canon] theorem semL3 (hh) : (cc0_scratch23.slice (Rect.unit (s := S5) ![3] S1.size hh)).squeeze S_ squeezes_S1_S_ = csm 3 := csm_congr (by decide) _
@[sl_canon] theorem semL4 (hh) : (cc0_scratch23.slice (Rect.unit (s := S5) ![4] S1.size hh)).squeeze S_ squeezes_S1_S_ = csm 4 := csm_congr (by decide) _
@[sl_canon] theorem slotL0 (hh hs) : (ringM.slice (Rect.unit (s := S5x2560x1536) ![0, 0, 0] S1x2560x1536.size hh) hs).squeeze S2560x1536 squeezes_S1x2560x1536_S2560x1536 = rslot 0 := rslot_congr (by decide) _ _
@[sl_canon] theorem slotL1 (hh hs) : (ringM.slice (Rect.unit (s := S5x2560x1536) ![1, 0, 0] S1x2560x1536.size hh) hs).squeeze S2560x1536 squeezes_S1x2560x1536_S2560x1536 = rslot 1 := rslot_congr (by decide) _ _
@[sl_canon] theorem slotL2 (hh hs) : (ringM.slice (Rect.unit (s := S5x2560x1536) ![2, 0, 0] S1x2560x1536.size hh) hs).squeeze S2560x1536 squeezes_S1x2560x1536_S2560x1536 = rslot 2 := rslot_congr (by decide) _ _
@[sl_canon] theorem slotL3 (hh hs) : (ringM.slice (Rect.unit (s := S5x2560x1536) ![3, 0, 0] S1x2560x1536.size hh) hs).squeeze S2560x1536 squeezes_S1x2560x1536_S2560x1536 = rslot 3 := rslot_congr (by decide) _ _
@[sl_canon] theorem slotL4 (hh hs) : (ringM.slice (Rect.unit (s := S5x2560x1536) ![4, 0, 0] S1x2560x1536.size hh) hs).squeeze S2560x1536 squeezes_S1x2560x1536_S2560x1536 = rslot 4 := rslot_congr (by decide) _ _
@[sl_canon] theorem blkL0 (hh hs) : wvM.slice (Rect.unit (s := S2560x152064) ![0, 0] S2560x1536.size hh) hs = blk 0 := blk_congr (by decide) _ _
@[sl_canon] theorem blkL1 (hh hs) : wvM.slice (Rect.unit (s := S2560x152064) ![0, 1536] S2560x1536.size hh) hs = blk 1 := blk_congr (by decide) _ _
@[sl_canon] theorem blkL2 (hh hs) : wvM.slice (Rect.unit (s := S2560x152064) ![0, 3072] S2560x1536.size hh) hs = blk 2 := blk_congr (by decide) _ _
@[sl_canon] theorem blkL3 (hh hs) : wvM.slice (Rect.unit (s := S2560x152064) ![0, 4608] S2560x1536.size hh) hs = blk 3 := blk_congr (by decide) _ _
@[sl_canon] theorem blkL4 (hh hs) : wvM.slice (Rect.unit (s := S2560x152064) ![0, 6144] S2560x1536.size hh) hs = blk 4 := blk_congr (by decide) _ _

private theorem wslot_congr {off : Fin 3 → Nat} {s : Fin 5} (e : off = slotOff s) (hh hs) :
    (headsM.slice (Rect.unit (s := S5x2560x2560) off S1x2560x2560.size hh) hs).squeeze S2560x2560 squeezes_S1x2560x2560_S2560x2560 = wslot s :=
  congrArg (fun M : Memref sig .tc .vmem S1x2560x2560 .fp8e4m3 => M.squeeze S2560x2560 squeezes_S1x2560x2560_S2560x2560) (Memref.slice_unit_congr _ e _ _ _ _)
@[sl_canon] theorem headL0 (hh hs) : (headsM.slice (Rect.unit (s := S5x2560x2560) ![0, 0, 0] S1x2560x2560.size hh) hs).squeeze S2560x2560 squeezes_S1x2560x2560_S2560x2560 = wslot 0 := wslot_congr (by decide) _ _
@[sl_canon] theorem headL1 (hh hs) : (headsM.slice (Rect.unit (s := S5x2560x2560) ![1, 0, 0] S1x2560x2560.size hh) hs).squeeze S2560x2560 squeezes_S1x2560x2560_S2560x2560 = wslot 1 := wslot_congr (by decide) _ _
@[sl_canon] theorem headL2 (hh hs) : (headsM.slice (Rect.unit (s := S5x2560x2560) ![2, 0, 0] S1x2560x2560.size hh) hs).squeeze S2560x2560 squeezes_S1x2560x2560_S2560x2560 = wslot 2 := wslot_congr (by decide) _ _
@[sl_canon] theorem headL3 (hh hs) : (headsM.slice (Rect.unit (s := S5x2560x2560) ![3, 0, 0] S1x2560x2560.size hh) hs).squeeze S2560x2560 squeezes_S1x2560x2560_S2560x2560 = wslot 3 := wslot_congr (by decide) _ _
@[sl_canon] theorem headL4 (hh hs) : (headsM.slice (Rect.unit (s := S5x2560x2560) ![4, 0, 0] S1x2560x2560.size hh) hs).squeeze S2560x2560 squeezes_S1x2560x2560_S2560x2560 = wslot 4 := wslot_congr (by decide) _ _

@[sl_canon] theorem semK (k : Fin k0_t1_loop.trips) (hh) :
    (cc0_scratch23.slice (Rect.unit (s := S5) (k0_off1 k) S1.size hh)).squeeze S_ squeezes_S1_S_ = csm (Ring.sl 5 k.val) := csm_congr (off1_eq k) _
@[sl_canon] theorem semI (k : Fin k0_t1_loop.trips) (hh) :
    (cc0_scratch23.slice (Rect.unit (s := S5) (k0_off8 k) S1.size hh)).squeeze S_ squeezes_S1_S_ = csm (Ring.sl 5 k.val) := csm_congr (off8_eq k) _
@[sl_canon] theorem slotK (k : Fin k0_t1_loop.trips) (hh hs) :
    (ringM.slice (Rect.unit (s := S5x2560x1536) (k0_off2 k) S1x2560x1536.size hh) hs).squeeze S2560x1536 squeezes_S1x2560x1536_S2560x1536 = rslot (Ring.sl 5 k.val) := rslot_congr (off2_eq k) _ _
@[sl_canon] theorem slotI (k : Fin k0_t1_loop.trips) (hh hs) :
    (ringM.slice (Rect.unit (s := S5x2560x1536) (k0_off9 k) S1x2560x1536.size hh) hs).squeeze S2560x1536 squeezes_S1x2560x1536_S2560x1536 = rslot (Ring.sl 5 k.val) := rslot_congr (off9_eq k) _ _
@[sl_canon] theorem blkW (k : Fin k0_t1_loop.trips) (hh hs) :
    wvM.slice (Rect.unit (s := S2560x152064) (k0_off3 k) S2560x1536.size hh) hs = blk (Ring.bk 99 k.val) := blk_congr (off3_eq k) _ _
@[sl_canon] theorem blkI (k : Fin k0_t1_loop.trips) (hk : k.val + 5 < 99) (hh hs) :
    wvM.slice (Rect.unit (s := S2560x152064) (k0_off10 k) S2560x1536.size hh) hs = blk (Ring.bk 99 (k.val + 5)) := blk_congr (off10_eq k hk) _ _

end Canon

/-! ## The pieces: a block at home, a slot held, a slot's semaphore, a slot in flight -/

section Pieces
variable (c : Dev nD) (XW : Buf (Elt F) (wvM.view.loc (c : Thread nD τ)))

abbrev cellP (s : Fin 5) : sProp 𝕄 := semVal ((c : Thread nD τ), SemLoc.dma (csm s).sem) 0
abbrev slotP (s : Fin 5) (f : Buf (Elt F) ((rslot s).view.loc (c : Thread nD τ))) : sProp 𝕄 :=
  (rslot s).view.loc (c : Thread nD τ) ↦[(rslot s).view.set]{fullShare} f
/-- Block `b` at HOME: held on its elements at the matrix's contents. -/
abbrev homeP (b : Fin 99) : sProp 𝕄 := (blk b).view.loc (c : Thread nD τ) ↦[(blk b).view.set]{fullShare} XW
/-- Block `b`'s elements as a slot's payload. -/
abbrev payload (b : Fin 99) : S2560x1536.Idx → Elt F .fp8e4m3 := ReadAs.same.apply ((blk b).view.read (Elt F) XW)
/-- What block `b`'s transfer leaves in slot `s` over prior contents `f`: the block, written whole. -/
abbrev landed (s : Fin 5) (b : Fin 99) (f : Buf (Elt F) ((rslot s).view.loc (c : Thread nD τ))) : Buf (Elt F) ((rslot s).view.loc (c : Thread nD τ)) :=
  (rslot s).view.writes (Elt F) f [⟨Rect.whole S2560x1536, payload c XW b⟩]
/-- What a block's transfer moves on its semaphore. -/
abbrev NN : ℕ := 122880
/-- Slot `s` IN FLIGHT with block `b`, issued over `f`. -/
abbrev flightP (s : Fin 5) (b : Fin 99) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)

/-- The ring's slot of number `p`: in flight with block `p` while there is one, free after the last. -/
def roleP (p : ℕ) : sProp 𝕄 :=
  if p < 99 then iprop(∃ f, flightP c XW (Ring.sl 5 p) (Ring.bk 99 p) f) else iprop((∃ f, slotP c (Ring.sl 5 p) f) ∗ cellP c (Ring.sl 5 p))
theorem roleP_lt {p : ℕ} (h : p < 99) : roleP c XW p = iprop(∃ f, flightP c XW (Ring.sl 5 p) (Ring.bk 99 p) f) := if_pos h
theorem roleP_ge {p : ℕ} (h : ¬ p < 99) : roleP c XW p = iprop((∃ f, slotP c (Ring.sl 5 p) f) ∗ cellP c (Ring.sl 5 p)) := if_neg h

/-- The ring before trip `k`: its five slots by number, the blocks outside it at home. -/
def ringAt (k : ℕ) : sProp 𝕄 :=
  iprop(roleP c XW k ∗ roleP c XW (k + 1) ∗ roleP c XW (k + 2) ∗ roleP c XW (k + 3) ∗ roleP c XW (k + 4)
    ∗ bigSep (Ring.homeSet 5 k) (homeP c XW))

/-- Trip `k`'s homes while another block is to go out: that block beside the rest. -/
theorem homes_here (k : ℕ) (hk : k + 5 < 99) :
    bigSep (Ring.homeSet 5 k) (homeP c XW) = iprop(homeP c XW (Ring.bk 99 (k + 5)) ∗ bigSep ((Ring.homeSet 5 k).erase (Ring.bk 99 (k + 5))) (homeP c XW)) := by
  conv_lhs => rw [Ring.homeSet_out 5 k hk, bigSep_insert (Ring.bkL_not_mem_erase 5 k)]
  rfl
/-- The next trip's homes: block `k`, just back, beside that rest; -/
theorem homes_next (k : ℕ) (hk : k + 5 < 99) :
    bigSep (Ring.homeSet 5 (k + 1)) (homeP c XW) = iprop(homeP c XW (Ring.bk 99 k) ∗ bigSep ((Ring.homeSet 5 k).erase (Ring.bk 99 (k + 5))) (homeP c XW)) := by
  conv_lhs => rw [Ring.homeSet_succ 5 k hk, bigSep_insert (Ring.bk_not_mem_erase 5 k (by omega) (by decide))]
  rfl
/-- in the last five trips, beside all of them. -/
theorem homes_next_tail (k : ℕ) (h : 99 ≤ k + 5) (hk : k < 99) :
    bigSep (Ring.homeSet 5 (k + 1)) (homeP c XW) = iprop(homeP c XW (Ring.bk 99 k) ∗ bigSep (Ring.homeSet 5 k) (homeP c XW)) := by
  conv_lhs => rw [Ring.homeSet_succ_tail 5 k h hk, bigSep_insert (Ring.bk_not_mem_homeSet 5 k hk (by decide))]
  rfl

omit [FloatOps F] in
theorem sl5_add (k : ℕ) : Ring.sl 5 (k + 1 + 4) = Ring.sl 5 k := by rw [show k + 1 + 4 = k + 5 from rfl, Ring.sl_add]

/-- The flight a trip issues, into the slot as the previous block's flight delivered it, restated as `flightP`. -/
theorem flightP_after (s : Fin 5) (b b' : Fin 99) :
    flightP c XW s b' ((rslot s).view.writes (Elt F) (rslot s).view.junk [⟨Rect.whole S2560x1536, payload c XW b⟩])
      = Transfers.Flight countersEmb (c : Thread nD τ) (SemLoc.dma (csm s).sem) () 122880
          iprop(((rslot s).view.loc (c : Thread nD τ) ↦[(rslot s).view.set]{fullShare}
                  (rslot s).view.writes (Elt F) (rslot s).view.junk [⟨Rect.whole S2560x1536, payload c XW b'⟩, ⟨Rect.whole S2560x1536, payload c XW b⟩])
                ∗ homeP c XW b') := by
  simp only [flightP, landed, slotP, NN, View.writes]

end Pieces

end Cert.Proof.Medusa

end
-- ==== Proof.Medusa.Comp.lean ====
/-
  One trip of the loop over the vocabulary blocks. `compRun` runs its computation: block `k` is waited for in its slot,
  and the three running arrays (row maxima, row sums, candidate logits) are updated from it; what they hold afterwards is
  found by the run. -/
module

public import proofs.«01_k».proof.Proof.Medusa.Ring

@[expose] public section

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Comp
variable (c : Dev nD) (XW : Buf (Elt F) (wvM.view.loc (c : Thread nD τ)))

/-- The computation of trip `k` on the kernel's own buffers. -/
abbrev compG (k : Fin k0_t1_loop.trips) : Prog (TpuEff nD τ sig (Elt F) Λ₀ .tc) (BitVec 32) :=
  k0_part36 (Memref.whole main_arg0) (Memref.isWhole_whole _) (Memref.whole main_arg1) (Memref.isWhole_whole _) (Memref.whole main_arg2) (Memref.isWhole_whole _) (Memref.whole main_arg3) (Memref.isWhole_whole _) wvM (Memref.isWhole_whole _) (Memref.whole main_v0) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) headsM (Memref.isWhole_whole _) ringM (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 0#32 1#32 k

/-- A buffer of the core held whole at `f`. -/
abbrev pt {sp : Space} {S : Shape} {e : EltTy} (M : Memref sig .tc sp S e) (f : Buf (Elt F) (M.view.loc (c : Thread nD τ))) : sProp 𝕄 := M.view.loc (c : Thread nD τ) ↦{fullShare} f

/-- The contents of what the computation only reads: the vocabulary scales, the hidden codes and their scales, the
    candidates' lane and block numbers. -/
structure Rd where
  sv : Buf (Elt F) ((c : Thread nD τ).loc cc0_scratch3)
  hc : Buf (Elt F) ((c : Thread nD τ).loc cc0_scratch7)
  hs : Buf (Elt F) ((c : Thread nD τ).loc cc0_scratch8)
  lo : Buf (Elt F) ((c : Thread nD τ).loc cc0_scratch9)
  hi : Buf (Elt F) ((c : Thread nD τ).loc cc0_scratch10)

abbrev readsP (x : Rd (F := F) c) : sProp 𝕄 :=
  iprop(pt c (Memref.whole cc0_scratch3) x.sv ∗ pt c (Memref.whole cc0_scratch7) x.hc ∗ pt c (Memref.whole cc0_scratch8) x.hs
    ∗ pt c (Memref.whole cc0_scratch9) x.lo ∗ pt c (Memref.whole cc0_scratch10) x.hi)

/-- The contents of the three running arrays. -/
structure Acc where
  m : Buf (Elt F) ((c : Thread nD τ).loc cc0_scratch11)
  s : Buf (Elt F) ((c : Thread nD τ).loc cc0_scratch12)
  g : Buf (Elt F) ((c : Thread nD τ).loc cc0_scratch13)

abbrev accP (a : Acc (F := F) c) : sProp 𝕄 := iprop(pt c (Memref.whole cc0_scratch11) a.m ∗ pt c (Memref.whole cc0_scratch12) a.s ∗ pt c (Memref.whole cc0_scratch13) a.g)

set_option maxHeartbeats 0 in
set_option backward.proofsInPublic true in
def compRun (k : Fin k0_t1_loop.trips) (x : Rd (F := F) c) (a : Acc (F := F) c) :
    { w : Acc (F := F) c // ∀ (W : Waits sig Unit) (Q : BitVec 32 → sProp 𝕄),
        iprop((∃ f, flightP c XW (Ring.sl 5 k.val) (Ring.bk 99 k.val) f) ∗ readsP c x ∗ accP c a ∗ owes (c : Thread nD τ) 0 W
            ∗ (∀ r, iprop((∃ f, slotP c (Ring.sl 5 k.val) (landed c XW (Ring.sl 5 k.val) (Ring.bk 99 k.val) f)) ∗ homeP c XW (Ring.bk 99 k.val) ∗ cellP c (Ring.sl 5 k.val)
                ∗ readsP c x ∗ accP c w ∗ ∃ W, owes (c : Thread nD τ) 0 W) -∗ Q r))
          ⊢ wp frame (wpE (defs₀ (F := F)) 𝒱₀ (c : Thread nD τ) none) Set.univ (compG k) Q } := by
  refine ⟨⟨?m, ?s, ?g⟩, fun W Q => ?run⟩
  case run =>
    iintro ⟨⟨%f, HF⟩, ⟨Hsv, Hhc, Hhs, Hlo, Hhi⟩, ⟨Hm, Hs, Hg⟩, HW, Hk⟩
    sl_unfold [compG]
    simp only [k0_part36_eq_skeleton]; unfold k0_part36_skel
    sl_exec_parts

    sl_step
    iapply Hk
    isplitl [HF_dst]; · iexists _; iexact HF_dst
    isplitl [HF_src]; · iexact HF_src
    isplitl [HF]; · iexact HF
    isplitl [Hsv Hhc Hhs Hlo Hhi]
    · isplitl [Hsv]; · iexact Hsv
      isplitl [Hhc]; · iexact Hhc
      isplitl [Hhs]; · iexact Hhs
      isplitl [Hlo]; · iexact Hlo
      iexact Hhi
    isplitl [Hm Hs Hg]
    · isplitl [Hm]; · iexact Hm
      isplitl [Hs]; · iexact Hs
      iexact Hg
    iexists _; iexact HW

end Comp

end Cert.Proof.Medusa

end
-- ==== Proof.Medusa.Trip.lean ====
/-
  The whole trip of the loop over the vocabulary blocks: after the computation (`compRun`) the block five on, if there
  is one, is started into the slot just read. `tripRun` is a trip, the running arrays stated
  by the recursion `accAt`.
-/
module

public import proofs.«01_k».proof.Proof.Medusa.Comp

@[expose] public section

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip
variable (c : Dev nD) (XW : Buf (Elt F) (wvM.view.loc (c : Thread nD τ))) (x : Rd (F := F) c)
  (v887 : IVec S32x10 32) (c127 : BitVec 32)

/-- The resources before trip `k`, the running arrays at `a`. -/
def resAt (k : ℕ) (a : Acc (F := F) c) : sProp 𝕄 :=
  iprop(ringAt c XW k ∗ readsP c x ∗ accP c a ∗ ∃ W, owes (c : Thread nD τ) 0 W)

/-- The trip on the kernel's own buffers. -/
abbrev tripG (k : Fin k0_t1_loop.trips) : Prog (TpuEff nD τ sig (Elt F) Λ₀ .tc) Unit :=
  k0_t1_body (Memref.whole main_arg0) (Memref.isWhole_whole _) (Memref.whole main_arg1) (Memref.isWhole_whole _) (Memref.whole main_arg2) (Memref.isWhole_whole _) (Memref.whole main_arg3) (Memref.isWhole_whole _) wvM (Memref.isWhole_whole _) (Memref.whole main_v0) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) headsM (Memref.isWhole_whole _) ringM (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 v887 c127 k ()

set_option maxHeartbeats 0 in
/-- One trip, while there is a block five on: it is started into the slot just read. -/
theorem tripRun_more (k : Fin k0_t1_loop.trips) (h : k.val + 5 < 99) (a : Acc (F := F) c) :
    resAt c XW x k.val a ⊢ wp frame (wpE (defs₀ (F := F)) 𝒱₀ (c : Thread nD τ) none) Set.univ (tripG v887 c127 k)
      (fun _ => resAt c XW x (k.val + 1) (compRun c XW k x a).1) := by
  have hc : k0_cond1 k = 1#1 := (cond1_iff k).2 h
  unfold resAt ringAt
  rw [roleP_lt c XW (trip_lt k), roleP_lt c XW (p := k.val + 1 + 4) (by omega), homes_here c XW k.val h, homes_next c XW k.val h, sl5_add]
  iintro ⟨⟨H0, H1, H2, H3, H4, Hn, Hh⟩, HR, HA, ⟨%W, HW⟩⟩
  dsimp only [tripG]
  sl_unfold [k0_t1_body]
  rw [wp_bind_eq]
  iapply ((compRun c XW k x a).2 W _)
  isplitl [H0]; · iexact H0
  isplitl [HR]; · iexact HR
  isplitl [HA]; · iexact HA
  isplitl [HW]; · iexact HW
  iintro %r ⟨⟨%f, Hs⟩, Hb, Hc, HR, HA, ⟨%W', HW⟩⟩
  beta_reduce
  sl_exec (disch := first | sl_exact hc | decide)

  sl_step
  isplitl [H1 H2 H3 H4 Hc Hb Hh]
  · isplitl [H1]; · iexact H1
    isplitl [H2]; · iexact H2
    isplitl [H3]; · iexact H3
    isplitl [H4]; · iexact H4
    isplitl [Hc]
    · iexists _; iexact Hc
    isplitl [Hb]; · iexact Hb
    iexact Hh
  isplitl [HR]; · iexact HR
  isplitl [HA]; · iexact HA
  iexists _; iexact HW

set_option maxHeartbeats 0 in
/-- One of the last five trips: nothing is started, the slot stays free. -/
theorem tripRun_tail (k : Fin k0_t1_loop.trips) (h : ¬ k.val + 5 < 99) (a : Acc (F := F) c) :
    resAt c XW x k.val a ⊢ wp frame (wpE (defs₀ (F := F)) 𝒱₀ (c : Thread nD τ) none) Set.univ (tripG v887 c127 k)
      (fun _ => resAt c XW x (k.val + 1) (compRun c XW k x a).1) := by
  have hc : ¬ k0_cond1 k = 1#1 := fun e => h ((cond1_iff k).1 e)
  unfold resAt ringAt
  rw [roleP_lt c XW (trip_lt k), roleP_ge c XW (p := k.val + 1 + 4) (by omega), homes_next_tail c XW k.val (by omega) (trip_lt k), sl5_add]
  iintro ⟨⟨H0, H1, H2, H3, H4, Hh⟩, HR, HA, ⟨%W, HW⟩⟩
  dsimp only [tripG]
  sl_unfold [k0_t1_body]
  rw [wp_bind_eq]
  iapply ((compRun c XW k x a).2 W _)
  isplitl [H0]; · iexact H0
  isplitl [HR]; · iexact HR
  isplitl [HA]; · iexact HA
  isplitl [HW]; · iexact HW
  iintro %r ⟨⟨%f, Hs⟩, Hb, Hc, HR, HA, ⟨%W', HW⟩⟩
  beta_reduce
  sl_exec (disch := first | sl_exact hc | decide)
  sl_step
  isplitl [H1 H2 H3 H4 Hc Hb Hh Hs]
  · isplitl [H1]; · iexact H1
    isplitl [H2]; · iexact H2
    isplitl [H3]; · iexact H3
    isplitl [H4]; · iexact H4
    isplitl [Hc Hs]
    · isplitl [Hs]
      · iexists _; iexact Hs
      iexact Hc
    isplitl [Hb]; · iexact Hb
    iexact Hh
  isplitl [HR]; · iexact HR
  isplitl [HA]; · iexact HA
  iexists _; iexact HW

/-- The running arrays before trip `k`, from `a` before trip 0. -/
def accAt (a : Acc (F := F) c) : ℕ → Acc (F := F) c
  | 0 => a
  | k + 1 => if h : k < k0_t1_loop.trips then (compRun c XW ⟨k, h⟩ x (accAt a k)).1 else accAt a k

theorem accAt_succ (a : Acc (F := F) c) (k : Fin k0_t1_loop.trips) :
    accAt c XW x a (k.val + 1) = (compRun c XW k x (accAt c XW x a k.val)).1 := by
  rw [accAt, dif_pos k.isLt]

/-- A trip takes the resources before it to those after it. -/
theorem tripRun (a : Acc (F := F) c) (k : Fin k0_t1_loop.trips) :
    resAt c XW x k.val (accAt c XW x a k.val) ⊢ wp frame (wpE (defs₀ (F := F)) 𝒱₀ (c : Thread nD τ) none) Set.univ (tripG v887 c127 k)
      (fun _ => resAt c XW x (k.val + 1) (accAt c XW x a (k.val + 1))) := by
  rw [accAt_succ]
  by_cases h : k.val + 5 < 99
  · exact tripRun_more c XW x v887 c127 k h _
  · exact tripRun_tail c XW x v887 c127 k h _

end Trip

end Cert.Proof.Medusa

end
-- ==== Proof.Medusa.Body.lean ====
/-
  The kernel's body. `bodyRun` runs it from the state its launch hands it (arguments, results and buffers whole, the ring's
  blocks home and its slots free, every semaphore at zero) to its end: the arguments unchanged, every block home, every
  slot free, every semaphore at zero, and the seven results at contents the run finds.
-/
module

public import proofs.«01_k».proof.Proof.Medusa.Trip

@[expose] public section

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Body
variable (c : Dev nD) (XW : Buf (Elt F) (wvM.view.loc (c : Thread nD τ)))

/-- The body on the kernel's own buffers. -/
abbrev bodyG : Prog (TpuEff nD τ sig (Elt F) Λ₀ .tc) PUnit := cc0_medusa_heads (Memref.whole main_arg0) (Memref.isWhole_whole _) (Memref.whole main_arg1) (Memref.isWhole_whole _) (Memref.whole main_arg2) (Memref.isWhole_whole _) (Memref.whole main_arg3) (Memref.isWhole_whole _) wvM (Memref.isWhole_whole _) (Memref.whole main_v0) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) headsM (Memref.isWhole_whole _) ringM (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24

/-- The contents of the arguments other than the vocabulary matrix. -/
structure Ins where
  x : Buf (Elt F) ((c : Thread nD τ).loc main_arg0)
  wr : Buf (Elt F) ((c : Thread nD τ).loc main_arg1)
  sr : Buf (Elt F) ((c : Thread nD τ).loc main_arg2)
  br : Buf (Elt F) ((c : Thread nD τ).loc main_arg3)
  sv : Buf (Elt F) ((c : Thread nD τ).loc main_v0)
  id : Buf (Elt F) ((c : Thread nD τ).loc main_arg6)
/-- The contents of the results. -/
structure Outs where
  o0 : Buf (Elt F) ((c : Thread nD τ).loc main_v1_0)
  o1 : Buf (Elt F) ((c : Thread nD τ).loc main_v1_1)
  o2 : Buf (Elt F) ((c : Thread nD τ).loc main_v1_2)
  o3 : Buf (Elt F) ((c : Thread nD τ).loc main_v1_3)
  o4 : Buf (Elt F) ((c : Thread nD τ).loc main_v1_4)
  o5 : Buf (Elt F) ((c : Thread nD τ).loc main_v1_5)
  o6 : Buf (Elt F) ((c : Thread nD τ).loc main_v1_6)
/-- The contents of the kernel's buffers other than the ring. -/
structure Scr where
  f0 : Buf (Elt F) ((c : Thread nD τ).loc cc0_scratch0)
  f1 : Buf (Elt F) ((c : Thread nD τ).loc cc0_scratch1)
  f2 : Buf (Elt F) ((c : Thread nD τ).loc cc0_scratch2)
  f3 : Buf (Elt F) ((c : Thread nD τ).loc cc0_scratch3)
  f4 : Buf (Elt F) ((c : Thread nD τ).loc cc0_scratch4)
  f7 : Buf (Elt F) ((c : Thread nD τ).loc cc0_scratch7)
  f8 : Buf (Elt F) ((c : Thread nD τ).loc cc0_scratch8)
  f9 : Buf (Elt F) ((c : Thread nD τ).loc cc0_scratch9)
  f10 : Buf (Elt F) ((c : Thread nD τ).loc cc0_scratch10)
  f11 : Buf (Elt F) ((c : Thread nD τ).loc cc0_scratch11)
  f12 : Buf (Elt F) ((c : Thread nD τ).loc cc0_scratch12)
  f13 : Buf (Elt F) ((c : Thread nD τ).loc cc0_scratch13)
  f14 : Buf (Elt F) ((c : Thread nD τ).loc cc0_scratch14)
  f15 : Buf (Elt F) ((c : Thread nD τ).loc cc0_scratch15)
  f16 : Buf (Elt F) ((c : Thread nD τ).loc cc0_scratch16)
  f17 : Buf (Elt F) ((c : Thread nD τ).loc cc0_scratch17)
  f18 : Buf (Elt F) ((c : Thread nD τ).loc cc0_scratch18)
  f19 : Buf (Elt F) ((c : Thread nD τ).loc cc0_scratch19)
  f20 : Buf (Elt F) ((c : Thread nD τ).loc cc0_scratch20)

abbrev insP (x : Ins (F := F) c) : sProp 𝕄 :=
  iprop(pt c (Memref.whole main_arg0) x.x ∗ pt c (Memref.whole main_arg1) x.wr ∗ pt c (Memref.whole main_arg2) x.sr ∗ pt c (Memref.whole main_arg3) x.br ∗ pt c (Memref.whole main_v0) x.sv ∗ pt c (Memref.whole main_arg6) x.id)
abbrev outsP (o : Outs (F := F) c) : sProp 𝕄 :=
  iprop(pt c (Memref.whole main_v1_0) o.o0 ∗ pt c (Memref.whole main_v1_1) o.o1 ∗ pt c (Memref.whole main_v1_2) o.o2 ∗ pt c (Memref.whole main_v1_3) o.o3 ∗ pt c (Memref.whole main_v1_4) o.o4 ∗ pt c (Memref.whole main_v1_5) o.o5 ∗ pt c (Memref.whole main_v1_6) o.o6)
abbrev scrP (s : Scr (F := F) c) : sProp 𝕄 :=
  iprop(pt c (Memref.whole cc0_scratch0) s.f0 ∗ pt c (Memref.whole cc0_scratch1) s.f1 ∗ pt c (Memref.whole cc0_scratch2) s.f2 ∗ pt c (Memref.whole cc0_scratch3) s.f3 ∗ pt c (Memref.whole cc0_scratch4) s.f4 ∗ pt c (Memref.whole cc0_scratch7) s.f7 ∗ pt c (Memref.whole cc0_scratch8) s.f8 ∗ pt c (Memref.whole cc0_scratch9) s.f9 ∗ pt c (Memref.whole cc0_scratch10) s.f10 ∗ pt c (Memref.whole cc0_scratch11) s.f11 ∗ pt c (Memref.whole cc0_scratch12) s.f12 ∗ pt c (Memref.whole cc0_scratch13) s.f13 ∗ pt c (Memref.whole cc0_scratch14) s.f14 ∗ pt c (Memref.whole cc0_scratch15) s.f15 ∗ pt c (Memref.whole cc0_scratch16) s.f16 ∗ pt c (Memref.whole cc0_scratch17) s.f17 ∗ pt c (Memref.whole cc0_scratch18) s.f18 ∗ pt c (Memref.whole cc0_scratch19) s.f19 ∗ pt c (Memref.whole cc0_scratch20) s.f20)
abbrev slotsP : sProp 𝕄 :=
  iprop((∃ f, slotP c 0 f) ∗ (∃ f, slotP c 1 f) ∗ (∃ f, slotP c 2 f) ∗ (∃ f, slotP c 3 f) ∗ (∃ f, slotP c 4 f))
abbrev wslotP (s : Fin 5) (f : Buf (Elt F) ((wslot s).view.loc (c : Thread nD τ))) : sProp 𝕄 :=
  (wslot s).view.loc (c : Thread nD τ) ↦[(wslot s).view.set]{fullShare} f
abbrev headsP : sProp 𝕄 :=
  iprop((∃ f, wslotP c 0 f) ∗ (∃ f, wslotP c 1 f) ∗ (∃ f, wslotP c 2 f) ∗ (∃ f, wslotP c 3 f) ∗ (∃ f, wslotP c 4 f))
abbrev cellsP : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ cellP c 0 ∗ cellP c 1 ∗ cellP c 2 ∗ cellP c 3 ∗ cellP c 4 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- The ring at trip 0: the five slots in flight with blocks 0 to 4. -/
theorem ring_start :
    iprop((∃ f, flightP c XW 0 0 f) ∗ (∃ f, flightP c XW 1 1 f) ∗ (∃ f, flightP c XW 2 2 f) ∗ (∃ f, flightP c XW 3 3 f) ∗ (∃ f, flightP c XW 4 4 f)
      ∗ bigSep (Ring.homeSet 5 0) (homeP c XW)) ⊢ ringAt c XW 0 := by
  rw [ringAt, roleP_lt c XW (p := 0) (by omega), roleP_lt c XW (p := 0 + 1) (by omega), roleP_lt c XW (p := 0 + 2) (by omega),
    roleP_lt c XW (p := 0 + 3) (by omega), roleP_lt c XW (p := 0 + 4) (by omega)]
  exact .rfl

/-- The ring after its last trip: every slot free, every cell at zero, every block at home. -/
theorem ring_end {n : ℕ} (hn : n = 99) : ringAt c XW n ⊢ iprop(slotsP c ∗ cellP c 0 ∗ cellP c 1 ∗ cellP c 2 ∗ cellP c 3 ∗ cellP c 4 ∗ bigSep Finset.univ (homeP c XW)) := by
  subst hn
  rw [ringAt, roleP_ge c XW (p := 99) (by omega), roleP_ge c XW (p := 99 + 1) (by omega), roleP_ge c XW (p := 99 + 2) (by omega),
    roleP_ge c XW (p := 99 + 3) (by omega), roleP_ge c XW (p := 99 + 4) (by omega),
    show Ring.sl 5 99 = 4 from rfl, show Ring.sl 5 (99 + 1) = 0 from rfl, show Ring.sl 5 (99 + 2) = 1 from rfl,
    show Ring.sl 5 (99 + 3) = 2 from rfl, show Ring.sl 5 (99 + 4) = 3 from rfl,
    show (Ring.homeSet 5 99 : Finset (Fin 99)) = Finset.univ from by
      ext b; simp only [Ring.mem_homeSet, Finset.mem_univ, iff_true]; have := b.isLt; omega]
  iintro ⟨⟨H4, C4⟩, ⟨H0, C0⟩, ⟨H1, C1⟩, ⟨H2, C2⟩, ⟨H3, C3⟩, Hh⟩
  isplitl [H0 H1 H2 H3 H4]
  · isplitl [H0]; · iexact H0
    isplitl [H1]; · iexact H1
    isplitl [H2]; · iexact H2
    isplitl [H3]; · iexact H3
    iexact H4
  isplitl [C0]; · iexact C0
  isplitl [C1]; · iexact C1
  isplitl [C2]; · iexact C2
  isplitl [C3]; · iexact C3
  isplitl [C4]; · iexact C4
  iexact Hh

set_option maxHeartbeats 0 in
set_option backward.proofsInPublic true in
def bodyRun (x : Ins (F := F) c) (o : Outs (F := F) c) (s : Scr (F := F) c) :
    { w : Outs (F := F) c // ∀ (W : Waits sig Unit) (Q : PUnit → sProp 𝕄),
        iprop(insP c x ∗ outsP c o ∗ scrP c s ∗ slotsP c ∗ headsP c ∗ cellsP c
            ∗ homeP c XW 0 ∗ homeP c XW 1 ∗ homeP c XW 2 ∗ homeP c XW 3 ∗ homeP c XW 4 ∗ bigSep (Ring.homeSet 5 0) (homeP c XW) ∗ owes (c : Thread nD τ) 0 W
            ∗ (iprop(insP c x ∗ outsP c w ∗ (∃ s', scrP c s') ∗ slotsP c ∗ headsP c ∗ cellsP c
                ∗ bigSep Finset.univ (homeP c XW) ∗ ∃ W, owes (c : Thread nD τ) 0 W) -∗ Q ⟨⟩))
          ⊢ wp frame (wpE (defs₀ (F := F)) 𝒱₀ (c : Thread nD τ) none) Set.univ bodyG Q } := by
  refine ⟨⟨?o0, ?o1, ?o2, ?o3, ?o4, ?o5, ?o6⟩, fun W Q => ?run⟩
  case run =>
    iintro ⟨⟨Hi_x, Hi_wr, Hi_sr, Hi_br, Hi_sv, Hi_id⟩, ⟨Ho0, Ho1, Ho2, Ho3, Ho4, Ho5, Ho6⟩, ⟨Hs0, Hs1, Hs2, Hs3, Hs4, Hs7, Hs8, Hs9, Hs10, Hs11, Hs12, Hs13, Hs14, Hs15, Hs16, Hs17, Hs18, Hs19, Hs20⟩, ⟨⟨%g0, Hg0⟩, ⟨%g1, Hg1⟩, ⟨%g2, Hg2⟩, ⟨%g3, Hg3⟩, ⟨%g4, Hg4⟩⟩, ⟨⟨%w0, Hw0⟩, ⟨%w1, Hw1⟩, ⟨%w2, Hw2⟩, ⟨%w3, Hw3⟩, ⟨%w4, Hw4⟩⟩, ⟨Hc0, Hc1, Hc2, Hc3, Hc4, Hc5, Hc6, Hc7, Hc8, Hc9, Hq0, Hq1, Hq2, Hq3, Hq4, Hc15, Hc16, Hc17, Hc18, Hc19, Hc20, Hc21⟩, Hb0, Hb1, Hb2, Hb3, Hb4, Hh, HW, Hk⟩
    dsimp only [bodyG]
    simp only [cc0_medusa_heads_eq_skeleton]; unfold cc0_medusa_heads_skel
    sl_exec_parts
    sl_for (fun k _ => resAt c XW
        ⟨View.write (Elt F) (Memref.whole cc0_scratch3).view s.4 (bodyRun.sl.dma0_9 c x) Finset.univ,
          (Memref.whole cc0_scratch7).view.writes (Elt F) (Memref.whole cc0_scratch7).view.junk (bodyRun.sl.Hs7_5 c x s),
          (Memref.whole cc0_scratch8).view.writes (Elt F) (Memref.whole cc0_scratch8).view.junk (bodyRun.sl.Hs8_5 c x s),
          (Memref.whole cc0_scratch9).view.writes (Elt F) (Memref.whole cc0_scratch9).view.junk (bodyRun.sl.Hs9_6 c x s),
          (Memref.whole cc0_scratch10).view.writes (Elt F) (Memref.whole cc0_scratch10).view.junk (bodyRun.sl.Hs10_6 c x s)⟩ k
        (accAt c XW
          ⟨View.write (Elt F) (Memref.whole cc0_scratch3).view s.4 (bodyRun.sl.dma0_9 c x) Finset.univ,
            (Memref.whole cc0_scratch7).view.writes (Elt F) (Memref.whole cc0_scratch7).view.junk (bodyRun.sl.Hs7_5 c x s),
            (Memref.whole cc0_scratch8).view.writes (Elt F) (Memref.whole cc0_scratch8).view.junk (bodyRun.sl.Hs8_5 c x s),
            (Memref.whole cc0_scratch9).view.writes (Elt F) (Memref.whole cc0_scratch9).view.junk (bodyRun.sl.Hs9_6 c x s),
            (Memref.whole cc0_scratch10).view.writes (Elt F) (Memref.whole cc0_scratch10).view.junk (bodyRun.sl.Hs10_6 c x s)⟩
          ⟨(Memref.whole cc0_scratch11).view.writes (Elt F) (Memref.whole cc0_scratch11).view.junk bodyRun.sl.Hs11_1,
            (Memref.whole cc0_scratch12).view.writes (Elt F) (Memref.whole cc0_scratch12).view.junk bodyRun.sl.Hs12_1,
            (Memref.whole cc0_scratch13).view.writes (Elt F) (Memref.whole cc0_scratch13).view.junk bodyRun.sl.Hs13_1⟩ k))
      $$ [Hq0 Hq1 Hq2 Hq3 Hq4 Hh Hs3 Hs7 Hs8 Hs9 Hs10 Hs11 Hs12 Hs13 HW]
    case region => intro k a; exact tripRun c XW _ _ _ _ k
    · unfold resAt
      isplitl [Hq0 Hq1 Hq2 Hq3 Hq4 Hh]
      · iapply (ring_start c XW)
        isplitl [Hq0]; · iexists g0; iexact Hq0
        isplitl [Hq1]; · iexists g1; iexact Hq1
        isplitl [Hq2]; · iexists g2; iexact Hq2
        isplitl [Hq3]; · iexists g3; iexact Hq3
        isplitl [Hq4]; · iexists g4; iexact Hq4
        iexact Hh
      isplitl [Hs3 Hs7 Hs8 Hs9 Hs10]
      · isplitl [Hs3]; · iexact Hs3
        isplitl [Hs7]; · iexact Hs7
        isplitl [Hs8]; · iexact Hs8
        isplitl [Hs9]; · iexact Hs9
        iexact Hs10
      isplitl [Hs11 Hs12 Hs13]
      · isplitl [Hs11]; · iexact Hs11
        isplitl [Hs12]; · iexact Hs12
        iexact Hs13
      iexists _; iexact HW
    iintro %a HI
    unfold resAt
    icases HI with ⟨Hring, ⟨Hs3, Hs7, Hs8, Hs9, Hs10⟩, ⟨Hs11, Hs12, Hs13⟩, ⟨%W', HW⟩⟩
    sl_exec_parts
    sl_step
    ihave Hend := (ring_end c XW (n := Scf.trips k0_t1_loop.lb k0_t1_loop.ub k0_t1_loop.st) trips_eq) $$ Hring
    icases Hend with ⟨Hsl, Hq0, Hq1, Hq2, Hq3, Hq4, Hh⟩
    iapply Hk
    isplitl [Hi_x Hi_wr Hi_sr Hi_br Hi_sv Hi_id]
    · isplitl [Hi_x]; · iexact Hi_x
      isplitl [Hi_wr]; · iexact Hi_wr
      isplitl [Hi_sr]; · iexact Hi_sr
      isplitl [Hi_br]; · iexact Hi_br
      isplitl [Hi_sv]; · iexact Hi_sv
      iexact Hi_id
    isplitl [Ho0 Ho1 Ho2 Ho3 Ho4 Ho5 Ho6]
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      iexact Ho6
    isplitl [Hs0 Hs1 Hs2 Hs3 Hs4 Hs7 Hs8 Hs9 Hs10 Hs11 Hs12 Hs13 Hs14 Hs15 Hs16 Hs17 Hs18 Hs19 Hs20]
    · iexists ⟨_, _, _, _, _, _, _, _, _, _, _, _, _, _, _, _, _, _, _⟩
      isplitl [Hs0]; · iexact Hs0
      isplitl [Hs1]; · iexact Hs1
      isplitl [Hs2]; · iexact Hs2
      isplitl [Hs3]; · iexact Hs3
      isplitl [Hs4]; · iexact Hs4
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      iexact Hs20
    isplitl [Hsl]; · iexact Hsl
    isplitl [Hw0 Hw1 Hw2 Hw3 Hw4]
    · isplitl [Hw0]; · iexists _; iexact Hw0
      isplitl [Hw1]; · iexists _; iexact Hw1
      isplitl [Hw2]; · iexists _; iexact Hw2
      isplitl [Hw3]; · iexists _; iexact Hw3
      iexists _; iexact Hw4
    isplitl [Hc0 Hc1 Hc2 Hc3 Hc4 Hc5 Hc6 Hc7 Hc8 Hc9 Hq0 Hq1 Hq2 Hq3 Hq4 Hc15 Hc16 Hc17 Hc18 Hc19 Hc20 Hc21]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hq0]; · iexact Hq0
      isplitl [Hq1]; · iexact Hq1
      isplitl [Hq2]; · iexact Hq2
      isplitl [Hq3]; · iexact Hq3
      isplitl [Hq4]; · iexact Hq4
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      iexact Hc21
    isplitl [Hh]; · iexact Hh
    iexists _; iexact HW

end Body

end Cert.Proof.Medusa

end
-- ==== Proof.Medusa.Launch.lean ====
/-
  From one launch to the whole program: the kernel's buffers cut into the pieces the body's run takes (the vocabulary
  matrix into its 99 blocks, the ring into its five slots, the residual blocks' matrices into their five) and joined again
  after it, the body's obligation at the one point, and the program's run (`run_frame`): it terminates, leaves every
  argument as it was and every counter at zero. `sound_core` is the body's run at the launch's resources, with the
  contents of the seven results.
-/
module

public import proofs.«01_k».proof.Proof.Gen.KernelIdeal.Frame
public import proofs.«01_k».proof.Proof.Medusa.Body

@[expose] public section

set_option maxRecDepth 16384

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Element sets -/

abbrev B99 (b : Fin 99) : Finset S2560x152064.Idx := (Rect.unit (s := S2560x152064) (blkOff b) S2560x1536.size (blkOff_inb b)).set
abbrev R5 (s : Fin 5) : Finset S5x2560x1536.Idx := (Rect.unit (s := S5x2560x1536) (slotOff s) S1x2560x1536.size (slotOff_inb s)).set
abbrev W5 (s : Fin 5) : Finset S5x2560x2560.Idx := (Rect.unit (s := S5x2560x2560) (slotOff s) S1x2560x2560.size (headOff_inb s)).set

theorem blk_set (b : Fin 99) : (blk b).view.set = B99 b := View.set_slice_whole _ _
theorem rslot_set (s : Fin 5) : (rslot s).view.set = R5 s := (View.set_reshape _ _).trans (View.set_slice_whole _ _)
theorem wslot_set (s : Fin 5) : (wslot s).view.set = W5 s := (View.set_reshape _ _).trans (View.set_slice_whole _ _)

theorem mem_B99 (b : Fin 99) (y : S2560x152064.Idx) : y ∈ B99 b ↔ b.val * 1536 ≤ (y 1).val ∧ (y 1).val < b.val * 1536 + 1536 := by
  rw [Rect.mem_set_unit]
  have h0 : (y 0).val < 2560 := (y 0).isLt
  constructor
  · intro H; exact H 1
  · intro H i; fin_cases i
    · show 0 ≤ (y 0).val ∧ (y 0).val < 0 + 2560; omega
    · exact H
theorem mem_R5 (s : Fin 5) (y : S5x2560x1536.Idx) : y ∈ R5 s ↔ (y 0).val = s.val := by
  rw [Rect.mem_set_unit]
  have h1 : (y 1).val < 2560 := (y 1).isLt
  have h2 : (y 2).val < 1536 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 1536; omega
theorem mem_W5 (s : Fin 5) (y : S5x2560x2560.Idx) : y ∈ W5 s ↔ (y 0).val = s.val := by
  rw [Rect.mem_set_unit]
  have h1 : (y 1).val < 2560 := (y 1).isLt
  have h2 : (y 2).val < 2560 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2560; omega
    · show 0 ≤ (y 2).val ∧ (y 2).val < 0 + 2560; omega
theorem B99_disjoint : ∀ b b' : Fin 99, b ≠ b' → Disjoint (B99 b) (B99 b') := by
  intro b b' hne; rw [Finset.disjoint_left]; intro y hy hy'; rw [mem_B99] at hy hy'; exact hne (Fin.ext (by omega))
theorem B99_cover : (Finset.univ : Finset (Fin 99)).biUnion B99 = Finset.univ := by
  ext y; simp only [Finset.mem_biUnion, Finset.mem_univ, true_and, iff_true]
  have h : (y 1).val < 152064 := (y 1).isLt
  exact ⟨⟨(y 1).val / 1536, by omega⟩, by rw [mem_B99]; dsimp only; omega⟩
theorem R5_disjoint : ∀ s s' : Fin 5, s ≠ s' → Disjoint (R5 s) (R5 s') := by
  intro s s' hne; rw [Finset.disjoint_left]; intro y hy hy'; rw [mem_R5] at hy hy'; exact hne (Fin.ext (hy.symm.trans hy'))
theorem R5_cover : (Finset.univ : Finset (Fin 5)).biUnion R5 = Finset.univ := by
  ext y; simp only [Finset.mem_biUnion, Finset.mem_univ, true_and, iff_true]; exact ⟨(y 0).cast (by decide), by rw [mem_R5]; rfl⟩
theorem W5_disjoint : ∀ s s' : Fin 5, s ≠ s' → Disjoint (W5 s) (W5 s') := by
  intro s s' hne; rw [Finset.disjoint_left]; intro y hy hy'; rw [mem_W5] at hy hy'; exact hne (Fin.ext (hy.symm.trans hy'))
theorem W5_cover : (Finset.univ : Finset (Fin 5)).biUnion W5 = Finset.univ := by
  ext y; simp only [Finset.mem_biUnion, Finset.mem_univ, true_and, iff_true]; exact ⟨(y 0).cast (by decide), by rw [mem_W5]; rfl⟩

/-! ## Buffers cut and joined -/

theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The vocabulary matrix whole is its 99 blocks home; -/
theorem vocab_eq (c : Dev nD) (XW : Buf (Elt F) (wvM.view.loc (c : Thread nD τ))) :
    (((c : Thread nD τ).loc main_arg4) ↦{fullShare} XW : sProp 𝕄) = bigSep Finset.univ (homeP c XW) := by
  rw [Ring.pointsTo_blocks (ℓ := (c : Thread nD τ).loc main_arg4) B99 B99_disjoint B99_cover]
  exact bigSep_congr fun b _ => by rw [← blk_set]; rfl
/-- at the body's entry, blocks 0 to 4 apart from the rest. -/
theorem homes_zero (c : Dev nD) (XW : Buf (Elt F) (wvM.view.loc (c : Thread nD τ))) :
    bigSep Finset.univ (homeP c XW)
      = iprop(homeP c XW 0 ∗ homeP c XW 1 ∗ homeP c XW 2 ∗ homeP c XW 3 ∗ homeP c XW 4 ∗ bigSep (Ring.homeSet 5 0) (homeP c XW)) := by
  have e : (Finset.univ : Finset (Fin 99)) = insert 0 (insert 1 (insert 2 (insert 3 (insert 4 (Ring.homeSet (NB := 99) 5 0))))) := by
    ext b; simp only [Finset.mem_univ, Finset.mem_insert, Ring.mem_homeSet, true_iff, Fin.ext_iff]
    have := b.isLt
    rw [show ((0 : Fin 99) : ℕ) = 0 from rfl, show ((1 : Fin 99) : ℕ) = 1 from rfl, show ((2 : Fin 99) : ℕ) = 2 from rfl, show ((3 : Fin 99) : ℕ) = 3 from rfl, show ((4 : Fin 99) : ℕ) = 4 from rfl]
    omega
  rw [e, bigSep_insert (by simp [Ring.mem_homeSet, Fin.ext_iff]), bigSep_insert (by simp [Ring.mem_homeSet, Fin.ext_iff]),
    bigSep_insert (by simp [Ring.mem_homeSet, Fin.ext_iff]), bigSep_insert (by simp [Ring.mem_homeSet, Fin.ext_iff]),
    bigSep_insert (by simp [Ring.mem_homeSet])]; rfl

theorem slotP_eq (c : Dev nD) (s : Fin 5) (f) : slotP c s f = (((c : Thread nD τ).loc cc0_scratch6) ↦[R5 s]{fullShare} f : sProp 𝕄) :=
  congrArg (fun S => (_ ↦[S]{fullShare} f : sProp 𝕄)) (rslot_set s)
/-- The ring whole is its five slots; -/
theorem slots_split (c : Dev nD) (f : Buf (Elt F) ((c : Thread nD τ).loc cc0_scratch6)) :
    (((c : Thread nD τ).loc cc0_scratch6) ↦{fullShare} f : sProp 𝕄) ⊢ slotsP c := by
  iintro H
  ihave H2 := (entails_of_eq ((Ring.pointsTo_blocks (Ix := Unit) (Name := ℕ) (U := Pipeline.UD sig nD τ) (Lvl := ℕ) (q := fullShare) (ℓ := (c : Thread nD τ).loc cc0_scratch6) R5 R5_disjoint R5_cover f).trans (bigSep_fin5 _))) $$ H
  icases H2 with ⟨H0, H1, H2, H3, H4⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  isplitl [H3]
  · iexists f; iapply (entails_of_eq (slotP_eq c 3 f).symm); iexact H3
  · iexists f; iapply (entails_of_eq (slotP_eq c 4 f).symm); iexact H4
/-- and back. -/
theorem slots_join (c : Dev nD) :
    (slotsP c : sProp 𝕄) ⊢ iprop(∃ f : Buf (Elt F) ((c : Thread nD τ).loc cc0_scratch6), ((c : Thread nD τ).loc cc0_scratch6) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch6) R5 R5_disjoint R5_cover f0)
  irw [bigSep_fin5]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  isplitl [H3]
  · iexists f3; iapply (entails_of_eq (slotP_eq c 3 f3)); iexact H3
  · iexists f4; iapply (entails_of_eq (slotP_eq c 4 f4)); iexact H4
theorem headP_eq (c : Dev nD) (s : Fin 5) (f) : wslotP c s f = (((c : Thread nD τ).loc cc0_scratch5) ↦[W5 s]{fullShare} f : sProp 𝕄) :=
  congrArg (fun S => (_ ↦[S]{fullShare} f : sProp 𝕄)) (wslot_set s)
/-- The residual blocks' buffer whole is its five slots; -/
theorem heads_split (c : Dev nD) (f : Buf (Elt F) ((c : Thread nD τ).loc cc0_scratch5)) :
    (((c : Thread nD τ).loc cc0_scratch5) ↦{fullShare} f : sProp 𝕄) ⊢ headsP c := by
  iintro H
  ihave H2 := (entails_of_eq ((Ring.pointsTo_blocks (Ix := Unit) (Name := ℕ) (U := Pipeline.UD sig nD τ) (Lvl := ℕ) (q := fullShare) (ℓ := (c : Thread nD τ).loc cc0_scratch5) W5 W5_disjoint W5_cover f).trans (bigSep_fin5 _))) $$ H
  icases H2 with ⟨H0, H1, H2, H3, H4⟩
  isplitl [H0]
  · iexists f; iapply (entails_of_eq (headP_eq c 0 f).symm); iexact H0
  isplitl [H1]
  · iexists f; iapply (entails_of_eq (headP_eq c 1 f).symm); iexact H1
  isplitl [H2]
  · iexists f; iapply (entails_of_eq (headP_eq c 2 f).symm); iexact H2
  isplitl [H3]
  · iexists f; iapply (entails_of_eq (headP_eq c 3 f).symm); iexact H3
  · iexists f; iapply (entails_of_eq (headP_eq c 4 f).symm); iexact H4
/-- and back. -/
theorem heads_join (c : Dev nD) :
    (headsP c : sProp 𝕄) ⊢ iprop(∃ f : Buf (Elt F) ((c : Thread nD τ).loc cc0_scratch5), ((c : Thread nD τ).loc cc0_scratch5) ↦{fullShare} f) := by
  iintro ⟨⟨%f0, H0⟩, ⟨%f1, H1⟩, ⟨%f2, H2⟩, ⟨%f3, H3⟩, ⟨%f4, H4⟩⟩
  iapply (Ring.pointsTo_blocks_join_exists (ℓ := (c : Thread nD τ).loc cc0_scratch5) W5 W5_disjoint W5_cover f0)
  irw [bigSep_fin5]
  isplitl [H0]
  · iexists f0; iapply (entails_of_eq (headP_eq c 0 f0)); iexact H0
  isplitl [H1]
  · iexists f1; iapply (entails_of_eq (headP_eq c 1 f1)); iexact H1
  isplitl [H2]
  · iexists f2; iapply (entails_of_eq (headP_eq c 2 f2)); iexact H2
  isplitl [H3]
  · iexists f3; iapply (entails_of_eq (headP_eq c 3 f3)); iexact H3
  · iexists f4; iapply (entails_of_eq (headP_eq c 4 f4)); iexact H4

/-! ## The launch's resources -/

/-- The body's 22 DMA semaphores. -/
abbrev osem : Fin 22 → SemLoc sig := fun j => .dma j
theorem ownSemFacts : Pipeline.OwnSemFacts (cfg0.spec) osem := by decide
theorem ownSems_eq (c : Dev nD) :
    (Pipeline.ownSems0 (Ix := Unit) (Name := ℕ) (U := Pipeline.UD sig nD τ) (Lvl := ℕ) (Val := Elt F) (τ := τ) osem c : sProp 𝕄) = cellsP c := by
  rw [Pipeline.ownSems0_eq_of_list c osem [0, 1, 2, 3, 4, 5, 6, 7, 8, 9, 10, 11, 12, 13, 14, 15, 16, 17, 18, 19, 20, 21] (by decide) (by decide)]; rfl

/-- The operands in HBM that the body reads, -/
def H0 : Finset (Ref sig .tc) := {main_arg0, main_arg1, main_arg2, main_arg3, main_arg4, main_v0, main_arg6}
/-- and those that it writes: the seven results. -/
def R0 : Finset (Ref sig .tc) := {main_v1_0, main_v1_1, main_v1_2, main_v1_3, main_v1_4, main_v1_5, main_v1_6}
theorem H0_sub : H0 ⊆ Pipeline.restRefs sig (cfg0.spec) := by decide
theorem R0_sub : R0 ⊆ Pipeline.restRefs sig (cfg0.spec) \ H0 := by decide

variable (m : (ℓ : Loc nD τ sig) → Buf (Elt F) ℓ) (ρ : Dev nD → PrngReg)

/-- The inputs as the region finds them. -/
abbrev ins0 (c : Dev nD) : Ins (F := F) c := ⟨V m c main_arg0, V m c main_arg1, V m c main_arg2, V m c main_arg3, V m c main_v0, V m c main_arg6⟩
/-- The results as the region finds them. -/
abbrev outs0 (c : Dev nD) : Outs (F := F) c := ⟨V m c main_v1_0, V m c main_v1_1, V m c main_v1_2, V m c main_v1_3, V m c main_v1_4, V m c main_v1_5, V m c main_v1_6⟩
/-- What the body leaves in the results, over what the scratch buffers held. -/
abbrev outsRun (c : Dev nD) (s : Scr (F := F) c) (o : Outs (F := F) c) : Outs (F := F) c := (bodyRun c (V m c main_arg4) (ins0 m c) o s).1

theorem H_eq (c : Dev nD) :
    (bigSep H0 (fun b => ((c : Thread nD τ).loc b) ↦{fullShare} V m c b) : sProp 𝕄)
      = iprop(pt c (Memref.whole main_arg0) (V m c main_arg0) ∗ pt c (Memref.whole main_arg1) (V m c main_arg1) ∗ pt c (Memref.whole main_arg2) (V m c main_arg2) ∗ pt c (Memref.whole main_arg3) (V m c main_arg3) ∗ pt c (Memref.whole main_arg4) (V m c main_arg4) ∗ pt c (Memref.whole main_v0) (V m c main_v0) ∗ pt c (Memref.whole main_arg6) (V m c main_arg6)) := by
  rw [BI.bigSep_eq_bigSepL_of_eq [main_arg0, main_arg1, main_arg2, main_arg3, main_arg4, main_v0, main_arg6] (by decide) (by decide)]; rfl
theorem owned_eq (c : Dev nD) :
    (Pipeline.owned R0 c : sProp 𝕄) = iprop((∃ f, pt c (Memref.whole main_v1_0) f) ∗ (∃ f, pt c (Memref.whole main_v1_1) f) ∗ (∃ f, pt c (Memref.whole main_v1_2) f) ∗ (∃ f, pt c (Memref.whole main_v1_3) f) ∗ (∃ f, pt c (Memref.whole main_v1_4) f) ∗ (∃ f, pt c (Memref.whole main_v1_5) f) ∗ (∃ f, pt c (Memref.whole main_v1_6) f)) := by
  unfold Pipeline.owned; rw [BI.bigSep_eq_bigSepL_of_eq [main_v1_0, main_v1_1, main_v1_2, main_v1_3, main_v1_4, main_v1_5, main_v1_6] (by decide) (by decide)]; rfl

/-- The body's run at the launch's resources: the scoped buffers at anything, the semaphores at zero, the operands as the
    region finds them, the results at `o`; after it the same, with the results as `outsRun` says over SOME scratch
    contents. -/
theorem sound_core (c : Dev nD) (o : Outs (F := F) c) (W : Waits sig Unit) (Q : PUnit → sProp 𝕄) :
    iprop(Pipeline.scopedRest (cfg0.spec) c ∗ Pipeline.ownSems0 osem c ∗ (bigSep H0 (fun b => ((c : Thread nD τ).loc b) ↦{fullShare} V m c b))
        ∗ outsP c o ∗ owes (c : Thread nD τ) 0 W
        ∗ (∀ s, (Pipeline.scopedRest (cfg0.spec) c ∗ Pipeline.ownSems0 osem c ∗ (bigSep H0 (fun b => ((c : Thread nD τ).loc b) ↦{fullShare} V m c b))
            ∗ outsP c (outsRun m c s o) ∗ ∃ W, owes (c : Thread nD τ) 0 W) -∗ Q ⟨⟩))
      ⊢ wp frame (wpE (defs₀ (F := F)) 𝒱₀ (c : Thread nD τ) none) Set.univ bodyG Q := by
  rw [scopedRest0_eq, ownSems_eq, H_eq]
  iintro ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, ⟨%f14, Hs14⟩, ⟨%f15, Hs15⟩, ⟨%f16, Hs16⟩, ⟨%f17, Hs17⟩, ⟨%f18, Hs18⟩, ⟨%f19, Hs19⟩, ⟨%f20, Hs20⟩⟩, Hc, ⟨Ha0, Ha1, Ha2, Ha3, Ha4, Hv0, Ha6⟩, Ho, HW, Hk⟩
  ihave Hg5 := (heads_split c f5) $$ Hs5
  ihave Hg6 := (slots_split c f6) $$ Hs6
  ihave Hh := (entails_of_eq ((vocab_eq c (V m c main_arg4)).trans (homes_zero c (V m c main_arg4)))) $$ Ha4
  icases Hh with ⟨Hb0, Hb1, Hb2, Hb3, Hb4, Hh⟩
  iapply ((bodyRun c (V m c main_arg4) (ins0 m c) o ⟨f0, f1, f2, f3, f4, f7, f8, f9, f10, f11, f12, f13, f14, f15, f16, f17, f18, f19, f20⟩).2 W Q)
  isplitl [Ha0 Ha1 Ha2 Ha3 Hv0 Ha6]
  · isplitl [Ha0]; · iexact Ha0
    isplitl [Ha1]; · iexact Ha1
    isplitl [Ha2]; · iexact Ha2
    isplitl [Ha3]; · iexact Ha3
    isplitl [Hv0]; · iexact Hv0
    iexact Ha6
  isplitl [Ho]; · iexact Ho
  isplitl [Hs0 Hs1 Hs2 Hs3 Hs4 Hs7 Hs8 Hs9 Hs10 Hs11 Hs12 Hs13 Hs14 Hs15 Hs16 Hs17 Hs18 Hs19 Hs20]
  · isplitl [Hs0]; · iexact Hs0
    isplitl [Hs1]; · iexact Hs1
    isplitl [Hs2]; · iexact Hs2
    isplitl [Hs3]; · iexact Hs3
    isplitl [Hs4]; · iexact Hs4
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    iexact Hs20
  isplitl [Hg6]; · iexact Hg6
  isplitl [Hg5]; · iexact Hg5
  isplitl [Hc]; · iexact Hc
  isplitl [Hb0]; · iexact Hb0
  isplitl [Hb1]; · iexact Hb1
  isplitl [Hb2]; · iexact Hb2
  isplitl [Hb3]; · iexact Hb3
  isplitl [Hb4]; · iexact Hb4
  isplitl [Hh]; · iexact Hh
  isplitl [HW]; · iexact HW
  iintro ⟨⟨Ha0, Ha1, Ha2, Ha3, Hv0, Ha6⟩, Ho, ⟨%s', ⟨Hs0, Hs1, Hs2, Hs3, Hs4, Hs7, Hs8, Hs9, Hs10, Hs11, Hs12, Hs13, Hs14, Hs15, Hs16, Hs17, Hs18, Hs19, Hs20⟩⟩, Hg6, Hg5, Hc, Hh, HW⟩
  ihave Hs6 := (slots_join c) $$ Hg6
  ihave Hs5 := (heads_join c) $$ Hg5
  ihave Ha4 := (entails_of_eq (vocab_eq c (V m c main_arg4)).symm) $$ Hh
  iapply Hk
  isplitl [Hs0 Hs1 Hs2 Hs3 Hs4 Hs5 Hs6 Hs7 Hs8 Hs9 Hs10 Hs11 Hs12 Hs13 Hs14 Hs15 Hs16 Hs17 Hs18 Hs19 Hs20]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexact Hs5
    isplitl [Hs6]; · iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    isplitl [Hs16]; · iexists _; iexact Hs16
    isplitl [Hs17]; · iexists _; iexact Hs17
    isplitl [Hs18]; · iexists _; iexact Hs18
    isplitl [Hs19]; · iexists _; iexact Hs19
    iexists _; iexact Hs20
  isplitl [Hc]; · iexact Hc
  isplitl [Ha0 Ha1 Ha2 Ha3 Ha4 Hv0 Ha6]
  · isplitl [Ha0]; · iexact Ha0
    isplitl [Ha1]; · iexact Ha1
    isplitl [Ha2]; · iexact Ha2
    isplitl [Ha3]; · iexact Ha3
    isplitl [Ha4]; · iexact Ha4
    isplitl [Hv0]; · iexact Hv0
    iexact Ha6
  isplitl [Ho]; · iexact Ho
  iexact HW

/-! ## The frame's run -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data of the one region: no window, the invariant with the results at some contents. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem (cfg0.spec) H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) 𝒱₀ (c : Thread nD τ) none) Set.univ (bodyAt0 t) (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem (cfg0.spec) H0 R0 (V m) c from rfl, Pipeline.ΦDR_eq, owned_eq]
  unfold Dat.owesAt Pipeline.owesWithin
  rw [show (dats m 0 c).owed t.castSucc = 0 from rfl, show (dats m 0 c).owed t.succ = 0 from rfl]
  iintro ⟨⟨Hsc, Hg, Hc, HH, ⟨⟨%o0, Ho0⟩, ⟨%o1, Ho1⟩, ⟨%o2, Ho2⟩, ⟨%o3, Ho3⟩, ⟨%o4, Ho4⟩, ⟨%o5, Ho5⟩, ⟨%o6, Ho6⟩⟩⟩, ⟨%W, -, HW⟩⟩
  iapply (sound_core m c ⟨o0, o1, o2, o3, o4, o5, o6⟩ W _)
  isplitl [Hsc]; · iexact Hsc
  isplitl [Hc]; · iexact Hc
  isplitl [HH]; · iexact HH
  isplitl [Ho0 Ho1 Ho2 Ho3 Ho4 Ho5 Ho6]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    iexact Ho6
  isplitl [HW]; · iexact HW
  iintro %s ⟨Hsc, Hc, HH, ⟨Ho0, Ho1, Ho2, Ho3, Ho4, Ho5, Ho6⟩, ⟨%W', HW'⟩⟩
  isplitl [Hsc Hg Hc HH Ho0 Ho1 Ho2 Ho3 Ho4 Ho5 Ho6]
  · isplitl [Hsc]; · iexact Hsc
    isplitl [Hg]; · iexact Hg
    isplitl [Hc]; · iexact Hc
    isplitl [HH]; · iexact HH
    isplitl [Ho0]; · iexists _; iexact Ho0
    isplitl [Ho1]; · iexists _; iexact Ho1
    isplitl [Ho2]; · iexists _; iexact Ho2
    isplitl [Ho3]; · iexists _; iexact Ho3
    isplitl [Ho4]; · iexists _; iexact Ho4
    isplitl [Ho5]; · iexists _; iexact Ho5
    iexists _; iexact Ho6
  iexists W'; isplitr
  · ipureintro; exact fun _ _ => Or.inl trivial
  iexact HW'

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [Finset.univ_eq_empty (α := Fin cfg0.W), bigSep_empty, bigSep_empty, defs₀_row]
  refine triple_restated (sound_body m c t) rfl ?_ fun _ => ?_
  · iintro ⟨HΦ, HW, -⟩
    isplitl [HΦ]; · iexact HΦ
    iexact HW
  · iintro ⟨HΦ, HW⟩
    isplitl [HΦ]; · iexact HΦ
    isplitl [HW]; · iexact HW
    iempintro

set_option backward.isDefEq.respectTransparency.types false in
/-- From any memory with every counter at zero: every weakly fair run of @main terminates, leaves every buffer but the
    host's own and the results as the region finds it, and every counter at zero. -/
theorem run_main : θ_run defs (onTc (τ := τ) (main (F := F))) (s₀ m ρ) (fun r => Pipeline.FramePostR cfgs (dats m) 0 R0 (V m) r ∧ r.2.sem = fun _ => 0) :=
  Pipeline.θ_run_frame_dmaR cfgs (dats m) (0 : Fin 1) launch0 osem defs₀ 𝒱₀ ownSemFacts H0 R0 H0_sub R0_sub m ρ main
    (hbody := fun c => (body_obligation m c).loose) (hshare := fun c => (dats m 0 c).share_full fun _ => rfl)
    (howed := fun _ _ => rfl) (V := V m) (hmain := hmainD m 𝒱₀) (hA := fun _ _ => rfl)
    (hin := fun _ => .rfl) (hout := fun _ => .rfl)
    (Q' := fun r => Pipeline.FramePostR cfgs (dats m) 0 R0 (V m) r ∧ r.2.sem = fun _ => 0) (hQ' := fun _ h => h)

/-- The program's frame at every float instance: it terminates with every argument unchanged and every counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c)⟩, h.2⟩) (run_main m ρ)

end Cert.Proof.Medusa

end
-- ==== Proof.Medusa.Loop.lean ====
/-
  One trip of the loop over the vocabulary blocks, as a function of the rows. The three running arrays are five slabs of
  32 rows, one for each head. A trip updates a slab three times, once for each sub-block of 512 columns (`sub`), and
  each time from four blocks of 128 logits (`lgb`). `trip_slab` says that what a trip leaves in a slab is `sub` applied
  three times to what it found there.
-/
module

public import proofs.«01_k».proof.Proof.Medusa.Trip
public import Idealize.ShloMosaic.Lib.Pipeline.Value
public import Idealize.ShloMosaic.Lib.Pipeline.FrameBody

@[expose] public section

set_option maxRecDepth 100000

noncomputable section

namespace Cert.Proof.Medusa

open Cert.KernelIdeal Cert.KernelIdeal.Gen
open Idealize.ShloMosaic
open Idealize.ShloMosaic.TcCoe

variable {F : FTy → Type} [FloatOps F]

/-- The rows of head `g`: where its slab begins. -/
abbrev slabOff (g : Fin 5) : Fin 2 → ℕ := ![32 * g.val, 0]
theorem slabOff_inb (g : Fin 5) : ∀ a, slabOff g a + S32x128.size a ≤ S160x128.size a := by revert g; decide
theorem lgOff_ok (g : Fin 5) (b : Fin 4) : S160x512.Slices ![32 * g.val, 128 * b.val] S32x128 := by revert g b; decide

/-- Head `g`'s slab of a buffer of 160 rows. -/
def slab {e : EltTy} (M : Memref sig .tc .vmem S160x128 e) (f : M.view.ty.Contents (Elt F)) (g : Fin 5) : Vec F S32x128 e :=
  View.readAt (Elt F) M.view (Rect.unit (s := S160x128) (slabOff g) S32x128.size (slabOff_inb g)).toLoadRect f

section Steps
variable (L₀ L₁ L₂ L₃ m m' s t : FVec F S32x128 .f32) (lo hi : IVec S32x128 32) (w : BitVec 32)

/-- The running maximum after four blocks of logits. -/
def mx4 : FVec F S32x128 .f32 := maximumf (maximumf (maximumf (maximumf m L₀) L₁) L₂) L₃
/-- The running sum of exponentials, carried from the maximum `m` to `m'`, after four blocks of logits. -/
def sm4 : FVec F S32x128 .f32 := addf (addf (addf (addf (mulf s (exp (subf m m'))) (exp (subf L₀ m'))) (exp (subf L₁ m'))) (exp (subf L₂ m'))) (exp (subf L₃ m'))
/-- The lane in which a candidate's logit stands: its lane number, counted from the end where it is negative. -/
def lane : IVec S32x128 32 :=
  shapeCast S32x128 (shapeCast S32x128x1 (select (cmpi .slt lo (broadcast S32x128 0#32)) (addi lo (broadcast S32x128 128#32)) lo) shapeCasts_S32x128_S32x128x1) shapeCasts_S32x128x1_S32x128
/-- The candidates' logits after the block of number `w`: those of that block taken from it. -/
def cd1 : FVec F S32x128 .f32 := select (cmpi .eq hi (broadcast S32x128 w)) (dynamicGather 1 L₀ (lane lo)) t
/-- The candidates' logits after four blocks, of which `w` is the first one's number. -/
def cd4 : FVec F S32x128 .f32 :=
  cd1 L₃ (cd1 L₂ (cd1 L₁ (cd1 L₀ t lo hi (Scalar.addi w 0#32)) lo hi (Scalar.addi w 1#32)) lo hi (Scalar.addi w 2#32)) lo hi (Scalar.addi w 3#32)
end Steps

variable (c : Dev nD) (XW : Buf (Elt F) (wvM.view.loc (c : Thread nD τ)))

/-- Where sub-block `j` of a trip's block begins in the ring. -/
def wOff (k : Fin k0_t1_loop.trips) : Fin 3 → Fin 3 → ℕ
  | 0 => k0_off4 k
  | 1 => k0_off6 k
  | 2 => k0_off7 k
theorem wOff_inb (k : Fin k0_t1_loop.trips) : ∀ j : Fin 3, ∀ a, wOff k j a + S1x2560x512.size a ≤ S5x2560x1536.size a
  | 0 => k0_off4_inb k
  | 1 => k0_off6_inb k
  | 2 => k0_off7_inb k

/-- Sub-block `j` of a trip's block, read from the ring. -/
def wsub (k : Fin k0_t1_loop.trips) (j : Fin 3) : Vec F S1x2560x512 .fp8e4m3 :=
  View.readAt (Elt F) ringM.view (Rect.unit (s := S5x2560x1536) (wOff k j) S1x2560x512.size (wOff_inb k j)).toLoadRect
    ((rslot (Ring.sl 5 k.val)).view.writes (Elt F) (rslot (Ring.sl 5 k.val)).view.junk [⟨Rect.whole S2560x1536, payload c XW (Ring.bk 99 k.val)⟩])
/-- The hidden codes, all 160 rows. -/
def hcRd (x : Rd (F := F) c) : Vec F S160x2560 .fp8e4m3 :=
  View.readAt (Elt F) (Memref.whole cc0_scratch7).view (Rect.unit (s := S160x2560) ![0, 0] S160x2560.size inb_S160x2560_S160x2560_0_0).toLoadRect x.hc
/-- The vocabulary scales of block `b` of sub-block `j`. -/
def svRd (k : Fin k0_t1_loop.trips) (x : Rd (F := F) c) (j : Fin 3) (b : Fin 4) : Vec F S1x128 .f32 :=
  View.readAt (Elt F) (Memref.whole cc0_scratch3).view (Rect.unit (s := S1x152064) (k0_off5 k (BitVec.ofNat 32 (4 * j.val)) (BitVec.ofNat 32 b.val)) S1x128.size (k0_off5_inb k j b)).toLoadRect x.sv

/-- Head `g`'s logits of block `b` of sub-block `j`. -/
def lgb (k : Fin k0_t1_loop.trips) (x : Rd (F := F) c) (j : Fin 3) (g : Fin 5) (b : Fin 4) : FVec F S32x128 .f32 :=
  mulf (mulf (extractStridedSlice S32x128 ![32 * g.val, 128 * b.val] (k0_pay1 (wsub c XW k j) (hcRd c x)) (lgOff_ok g b)) (slab (Memref.whole cc0_scratch8) x.hs g))
    (broadcastTo S32x128 (svRd c k x j b) broadcasts_S1x128_S32x128)

/-- The number of the first block of sub-block `j`, as the body computes it. -/
def blkWord (k : Fin k0_t1_loop.trips) (j : Fin 3) : BitVec 32 := Scalar.addi (Scalar.muli (Scf.iv 0#32 1#32 k.val) 12#32) (BitVec.ofNat 32 (4 * j.val))

/-- A slab of the three running arrays. -/
abbrev T3 (F : FTy → Type) := FVec F S32x128 .f32 × FVec F S32x128 .f32 × FVec F S32x128 .f32

/-- Sub-block `j`'s update of head `g`'s slab. -/
def sub (k : Fin k0_t1_loop.trips) (x : Rd (F := F) c) (j : Fin 3) (g : Fin 5) (t : T3 F) : T3 F :=
  (mx4 (lgb c XW k x j g 0) (lgb c XW k x j g 1) (lgb c XW k x j g 2) (lgb c XW k x j g 3) t.1,
   sm4 (lgb c XW k x j g 0) (lgb c XW k x j g 1) (lgb c XW k x j g 2) (lgb c XW k x j g 3) t.1
     (mx4 (lgb c XW k x j g 0) (lgb c XW k x j g 1) (lgb c XW k x j g 2) (lgb c XW k x j g 3) t.1) t.2.1,
   cd4 (lgb c XW k x j g 0) (lgb c XW k x j g 1) (lgb c XW k x j g 2) (lgb c XW k x j g 3) t.2.2
     (slab (Memref.whole cc0_scratch9) x.lo g) (slab (Memref.whole cc0_scratch10) x.hi g) (blkWord k j))

/-- Head `g`'s slab of the running arrays. -/
def st (a : Acc (F := F) c) (g : Fin 5) : T3 F :=
  (slab (Memref.whole cc0_scratch11) a.m g, slab (Memref.whole cc0_scratch12) a.s g, slab (Memref.whole cc0_scratch13) a.g g)

section Slabs
open View
variable {e : EltTy} (v : View sig .tc .vmem S160x128 e)

/-- A store of the rows from `o` on. -/
abbrev pc (o : ℕ) (inb : ∀ a, (![o, 0] : Fin 2 → ℕ) a + S32x128.size a ≤ S160x128.size a) (w : Vec F S32x128 e) : Piece (Elt F) S160x128 e :=
  ⟨Rect.unit (s := S160x128) ![o, 0] S32x128.size inb, w⟩

/-- A slab read back: a later store to other rows is passed over. -/
theorem ra_skip (f) {o o' : ℕ} (inb) (inb' : ∀ a, (![o', 0] : Fin 2 → ℕ) a + S32x128.size a ≤ S160x128.size a) (w) (L : List (Piece (Elt F) S160x128 e)) (h : o + 32 ≤ o' ∨ o' + 32 ≤ o) :
    v.readAt (Elt F) (Rect.unit (s := S160x128) ![o', 0] S32x128.size inb').toLoadRect (v.writes (Elt F) f (pc o inb w :: L))
      = v.readAt (Elt F) (Rect.unit (s := S160x128) ![o', 0] S32x128.size inb').toLoadRect (v.writes (Elt F) f L) := by
  funext i
  refine read_writes_cons_miss_of_axis v _ _ L _ 0 o 32 rfl rfl rfl ?_
  have hi : (i 0).val < 32 := (i 0).isLt
  show o' + 1 * (i 0).val < o ∨ o + 32 ≤ o' + 1 * (i 0).val
  omega

/-- A slab read back after five stores, the first four of them to other rows: what the fifth stored. -/
theorem ra5 (f) {o o₁ o₂ o₃ o₄ : ℕ} (inb inb₁ inb₂ inb₃ inb₄) (w₁ w₂ w₃ w₄) (u : Vec F S32x128 e) (hc : S32x128.ShapeCasts S32x128) (L : List (Piece (Elt F) S160x128 e))
    (h : (o₁ + 32 ≤ o ∨ o + 32 ≤ o₁) ∧ (o₂ + 32 ≤ o ∨ o + 32 ≤ o₂) ∧ (o₃ + 32 ≤ o ∨ o + 32 ≤ o₃) ∧ (o₄ + 32 ≤ o ∨ o + 32 ≤ o₄)) :
    v.readAt (Elt F) (Rect.unit (s := S160x128) ![o, 0] S32x128.size inb).toLoadRect
      (v.writes (Elt F) f (pc o₁ inb₁ w₁ :: pc o₂ inb₂ w₂ :: pc o₃ inb₃ w₃ :: pc o₄ inb₄ w₄ :: pc o inb (shapeCast S32x128 u hc) :: L)) = u := by
  rw [ra_skip v f inb₁ inb _ _ h.1, ra_skip v f inb₂ inb _ _ h.2.1, ra_skip v f inb₃ inb _ _ h.2.2.1, ra_skip v f inb₄ inb _ _ h.2.2.2, shapeCast_self]
  funext i
  exact read_writes_cons_emb v f _ _ L i
/-- The slab that the last store wrote, read back. -/
theorem ra_hit (f) {o : ℕ} (inb) (u : Vec F S32x128 e) (hc : S32x128.ShapeCasts S32x128) (L : List (Piece (Elt F) S160x128 e)) :
    v.readAt (Elt F) (Rect.unit (s := S160x128) ![o, 0] S32x128.size inb).toLoadRect (v.writes (Elt F) f (pc o inb (shapeCast S32x128 u hc) :: L)) = u := by
  rw [shapeCast_self]
  funext i
  exact read_writes_cons_emb v f _ _ L i

/-- The same over contents that the stores cover. -/
theorem rc5 {o o₁ o₂ o₃ o₄ : ℕ} (inb inb₁ inb₂ inb₃ inb₄) (w₁ w₂ w₃ w₄) (u : Vec F S32x128 e) (hc : S32x128.ShapeCasts S32x128) (L : List (Piece (Elt F) S160x128 e))
    (h : (o₁ + 32 ≤ o ∨ o + 32 ≤ o₁) ∧ (o₂ + 32 ≤ o ∨ o + 32 ≤ o₂) ∧ (o₃ + 32 ≤ o ∨ o + 32 ≤ o₃) ∧ (o₄ + 32 ≤ o ∨ o + 32 ≤ o₄)) :
    v.readCov (pc o₁ inb₁ w₁ :: pc o₂ inb₂ w₂ :: pc o₃ inb₃ w₃ :: pc o₄ inb₄ w₄ :: pc o inb (shapeCast S32x128 u hc) :: L)
      (Rect.unit (s := S160x128) ![o, 0] S32x128.size inb).toLoadRect = u := ra5 v _ inb inb₁ inb₂ inb₃ inb₄ w₁ w₂ w₃ w₄ u hc L h
end Slabs

section Trip
variable (k : Fin k0_t1_loop.trips) (x : Rd (F := F) c) (a : Acc (F := F) c)

-- the slabs read between the sub-blocks stay folded
attribute [local irreducible] compRun.sl.v1644 compRun.sl.v1649 compRun.sl.v1653 compRun.sl.v1742 compRun.sl.v1747 compRun.sl.v1751 compRun.sl.v1840 compRun.sl.v1845 compRun.sl.v1849 compRun.sl.v1938 compRun.sl.v1943 compRun.sl.v1947 compRun.sl.v2036 compRun.sl.v2041 compRun.sl.v2045 compRun.sl.v2161 compRun.sl.v2166 compRun.sl.v2170 compRun.sl.v2259 compRun.sl.v2264 compRun.sl.v2268 compRun.sl.v2357 compRun.sl.v2362 compRun.sl.v2366 compRun.sl.v2455 compRun.sl.v2460 compRun.sl.v2464 compRun.sl.v2553 compRun.sl.v2558 compRun.sl.v2562

theorem step_0_0 : (compRun.sl.v1644 c XW k x a, compRun.sl.v1649 c XW k x a, compRun.sl.v1653 c XW k x a) = sub c XW k x 0 0 (st c a 0) := by
  refine Prod.ext ?_ (Prod.ext ?_ ?_)
  · dsimp only; rw [compRun.sl.v1644, compRun.sl.Hm_5, compRun.sl.Hm_4, compRun.sl.Hm_3, compRun.sl.Hm_2, compRun.sl.Hm_1]; exact rc5 _ _ _ _ _ _ _ _ _ _ _ _ _ (by decide)
  · dsimp only; rw [compRun.sl.v1649, compRun.sl.Hs_5, compRun.sl.Hs_4, compRun.sl.Hs_3, compRun.sl.Hs_2, compRun.sl.Hs_1]; exact rc5 _ _ _ _ _ _ _ _ _ _ _ _ _ (by decide)
  · dsimp only; rw [compRun.sl.v1653, compRun.sl.Hg_5, compRun.sl.Hg_4, compRun.sl.Hg_3, compRun.sl.Hg_2, compRun.sl.Hg_1]; exact rc5 _ _ _ _ _ _ _ _ _ _ _ _ _ (by decide)
theorem step_0_1 : (compRun.sl.v1742 c XW k x a, compRun.sl.v1747 c XW k x a, compRun.sl.v1751 c XW k x a) = sub c XW k x 0 1 (st c a 1) := by
  refine Prod.ext ?_ (Prod.ext ?_ ?_)
  · dsimp only; rw [compRun.sl.v1742, compRun.sl.Hm_6, compRun.sl.Hm_5, compRun.sl.Hm_4, compRun.sl.Hm_3, compRun.sl.Hm_2]; exact rc5 _ _ _ _ _ _ _ _ _ _ _ _ _ (by decide)
  · dsimp only; rw [compRun.sl.v1747, compRun.sl.Hs_6, compRun.sl.Hs_5, compRun.sl.Hs_4, compRun.sl.Hs_3, compRun.sl.Hs_2]; exact rc5 _ _ _ _ _ _ _ _ _ _ _ _ _ (by decide)
  · dsimp only; rw [compRun.sl.v1751, compRun.sl.Hg_6, compRun.sl.Hg_5, compRun.sl.Hg_4, compRun.sl.Hg_3, compRun.sl.Hg_2]; exact rc5 _ _ _ _ _ _ _ _ _ _ _ _ _ (by decide)
theorem step_0_2 : (compRun.sl.v1840 c XW k x a, compRun.sl.v1845 c XW k x a, compRun.sl.v1849 c XW k x a) = sub c XW k x 0 2 (st c a 2) := by
  refine Prod.ext ?_ (Prod.ext ?_ ?_)
  · dsimp only; rw [compRun.sl.v1840, compRun.sl.Hm_7, compRun.sl.Hm_6, compRun.sl.Hm_5, compRun.sl.Hm_4, compRun.sl.Hm_3]; exact rc5 _ _ _ _ _ _ _ _ _ _ _ _ _ (by decide)
  · dsimp only; rw [compRun.sl.v1845, compRun.sl.Hs_7, compRun.sl.Hs_6, compRun.sl.Hs_5, compRun.sl.Hs_4, compRun.sl.Hs_3]; exact rc5 _ _ _ _ _ _ _ _ _ _ _ _ _ (by decide)
  · dsimp only; rw [compRun.sl.v1849, compRun.sl.Hg_7, compRun.sl.Hg_6, compRun.sl.Hg_5, compRun.sl.Hg_4, compRun.sl.Hg_3]; exact rc5 _ _ _ _ _ _ _ _ _ _ _ _ _ (by decide)
theorem step_0_3 : (compRun.sl.v1938 c XW k x a, compRun.sl.v1943 c XW k x a, compRun.sl.v1947 c XW k x a) = sub c XW k x 0 3 (st c a 3) := by
  refine Prod.ext ?_ (Prod.ext ?_ ?_)
  · dsimp only; rw [compRun.sl.v1938, compRun.sl.Hm_8, compRun.sl.Hm_7, compRun.sl.Hm_6, compRun.sl.Hm_5, compRun.sl.Hm_4]; exact rc5 _ _ _ _ _ _ _ _ _ _ _ _ _ (by decide)
  · dsimp only; rw [compRun.sl.v1943, compRun.sl.Hs_8, compRun.sl.Hs_7, compRun.sl.Hs_6, compRun.sl.Hs_5, compRun.sl.Hs_4]; exact rc5 _ _ _ _ _ _ _ _ _ _ _ _ _ (by decide)
  · dsimp only; rw [compRun.sl.v1947, compRun.sl.Hg_8, compRun.sl.Hg_7, compRun.sl.Hg_6, compRun.sl.Hg_5, compRun.sl.Hg_4]; exact rc5 _ _ _ _ _ _ _ _ _ _ _ _ _ (by decide)
theorem step_0_4 : (compRun.sl.v2036 c XW k x a, compRun.sl.v2041 c XW k x a, compRun.sl.v2045 c XW k x a) = sub c XW k x 0 4 (st c a 4) := by
  refine Prod.ext ?_ (Prod.ext ?_ ?_)
  · dsimp only; rw [compRun.sl.v2036, compRun.sl.Hm_9, compRun.sl.Hm_8, compRun.sl.Hm_7, compRun.sl.Hm_6, compRun.sl.Hm_5]; exact rc5 _ _ _ _ _ _ _ _ _ _ _ _ _ (by decide)
  · dsimp only; rw [compRun.sl.v2041, compRun.sl.Hs_9, compRun.sl.Hs_8, compRun.sl.Hs_7, compRun.sl.Hs_6, compRun.sl.Hs_5]; exact rc5 _ _ _ _ _ _ _ _ _ _ _ _ _ (by decide)
  · dsimp only; rw [compRun.sl.v2045, compRun.sl.Hg_9, compRun.sl.Hg_8, compRun.sl.Hg_7, compRun.sl.Hg_6, compRun.sl.Hg_5]; exact rc5 _ _ _ _ _ _ _ _ _ _ _ _ _ (by decide)
theorem step_1_0 : (compRun.sl.v2161 c XW k x a, compRun.sl.v2166 c XW k x a, compRun.sl.v2170 c XW k x a) = sub c XW k x 1 0 (compRun.sl.v1644 c XW k x a, compRun.sl.v1649 c XW k x a, compRun.sl.v1653 c XW k x a) := by
  refine Prod.ext ?_ (Prod.ext ?_ ?_)
  · dsimp only; rw [compRun.sl.v2161, compRun.sl.Hm_10, compRun.sl.Hm_9, compRun.sl.Hm_8, compRun.sl.Hm_7, compRun.sl.Hm_6]; exact rc5 _ _ _ _ _ _ _ _ _ _ _ _ _ (by decide)
  · dsimp only; rw [compRun.sl.v2166, compRun.sl.Hs_10, compRun.sl.Hs_9, compRun.sl.Hs_8, compRun.sl.Hs_7, compRun.sl.Hs_6]; exact rc5 _ _ _ _ _ _ _ _ _ _ _ _ _ (by decide)
  · dsimp only; rw [compRun.sl.v2170, compRun.sl.Hg_10, compRun.sl.Hg_9, compRun.sl.Hg_8, compRun.sl.Hg_7, compRun.sl.Hg_6]; exact rc5 _ _ _ _ _ _ _ _ _ _ _ _ _ (by decide)
theorem step_1_1 : (compRun.sl.v2259 c XW k x a, compRun.sl.v2264 c XW k x a, compRun.sl.v2268 c XW k x a) = sub c XW k x 1 1 (compRun.sl.v1742 c XW k x a, compRun.sl.v1747 c XW k x a, compRun.sl.v1751 c XW k x a) := by
  refine Prod.ext ?_ (Prod.ext ?_ ?_)
  · dsimp only; rw [compRun.sl.v2259, compRun.sl.Hm_11, compRun.sl.Hm_10, compRun.sl.Hm_9, compRun.sl.Hm_8, compRun.sl.Hm_7]; exact rc5 _ _ _ _ _ _ _ _ _ _ _ _ _ (by decide)
  · dsimp only; rw [compRun.sl.v2264, compRun.sl.Hs_11, compRun.sl.Hs_10, compRun.sl.Hs_9, compRun.sl.Hs_8, compRun.sl.Hs_7]; exact rc5 _ _ _ _ _ _ _ _ _ _ _ _ _ (by decide)
  · dsimp only; rw [compRun.sl.v2268, compRun.sl.Hg_11, compRun.sl.Hg_10, compRun.sl.Hg_9, compRun.sl.Hg_8, compRun.sl.Hg_7]; exact rc5 _ _ _ _ _ _ _ _ _ _ _ _ _ (by decide)
theorem step_1_2 : (compRun.sl.v2357 c XW k x a, compRun.sl.v2362 c XW k x a, compRun.sl.v2366 c XW k x a) = sub c XW k x 1 2 (compRun.sl.v1840 c XW k x a, compRun.sl.v1845 c XW k x a, compRun.sl.v1849 c XW k x a) := by
  refine Prod.ext ?_ (Prod.ext ?_ ?_)
  · dsimp only; rw [compRun.sl.v2357, compRun.sl.Hm_12, compRun.sl.Hm_11, compRun.sl.Hm_10, compRun.sl.Hm_9, compRun.sl.Hm_8]; exact rc5 _ _ _ _ _ _ _ _ _ _ _ _ _ (by decide)
  · dsimp only; rw [compRun.sl.v2362, compRun.sl.Hs_12, compRun.sl.Hs_11, compRun.sl.Hs_10, compRun.sl.Hs_9, compRun.sl.Hs_8]; exact rc5 _ _ _ _ _ _ _ _ _ _ _ _ _ (by decide)
  · dsimp only; rw [compRun.sl.v2366, compRun.sl.Hg_12, compRun.sl.Hg_11, compRun.sl.Hg_10, compRun.sl.Hg_9, compRun.sl.Hg_8]; exact rc5 _ _ _ _ _ _ _ _ _ _ _ _ _ (by decide)
theorem step_1_3 : (compRun.sl.v2455 c XW k x a, compRun.sl.v2460 c XW k x a, compRun.sl.v2464 c XW k x a) = sub c XW k x 1 3 (compRun.sl.v1938 c XW k x a, compRun.sl.v1943 c XW k x a, compRun.sl.v1947 c XW k x a) := by
  refine Prod.ext ?_ (Prod.ext ?_ ?_)
  · dsimp only; rw [compRun.sl.v2455, compRun.sl.Hm_13, compRun.sl.Hm_12, compRun.sl.Hm_11, compRun.sl.Hm_10, compRun.sl.Hm_9]; exact rc5 _ _ _ _ _ _ _ _ _ _ _ _ _ (by decide)
  · dsimp only; rw [compRun.sl.v2460, compRun.sl.Hs_13, compRun.sl.Hs_12, compRun.sl.Hs_11, compRun.sl.Hs_10, compRun.sl.Hs_9]; exact rc5 _ _ _ _ _ _ _ _ _ _ _ _ _ (by decide)
  · dsimp only; rw [compRun.sl.v2464, compRun.sl.Hg_13, compRun.sl.Hg_12, compRun.sl.Hg_11, compRun.sl.Hg_10, compRun.sl.Hg_9]; exact rc5 _ _ _ _ _ _ _ _ _ _ _ _ _ (by decide)
theorem step_1_4 : (compRun.sl.v2553 c XW k x a, compRun.sl.v2558 c XW k x a, compRun.sl.v2562 c XW k x a) = sub c XW k x 1 4 (compRun.sl.v2036 c XW k x a, compRun.sl.v2041 c XW k x a, compRun.sl.v2045 c XW k x a) := by
  refine Prod.ext ?_ (Prod.ext ?_ ?_)
  · dsimp only; rw [compRun.sl.v2553, compRun.sl.Hm_14, compRun.sl.Hm_13, compRun.sl.Hm_12, compRun.sl.Hm_11, compRun.sl.Hm_10]; exact rc5 _ _ _ _ _ _ _ _ _ _ _ _ _ (by decide)
  · dsimp only; rw [compRun.sl.v2558, compRun.sl.Hs_14, compRun.sl.Hs_13, compRun.sl.Hs_12, compRun.sl.Hs_11, compRun.sl.Hs_10]; exact rc5 _ _ _ _ _ _ _ _ _ _ _ _ _ (by decide)
  · dsimp only; rw [compRun.sl.v2562, compRun.sl.Hg_14, compRun.sl.Hg_13, compRun.sl.Hg_12, compRun.sl.Hg_11, compRun.sl.Hg_10]; exact rc5 _ _ _ _ _ _ _ _ _ _ _ _ _ (by decide)
theorem compRun_m : (compRun c XW k x a).1.m = (Memref.whole cc0_scratch11).view.writes (Elt F) a.m (pc 128 inb_S160x128_S32x128_128_0 (k0_pay185 (compRun.sl.r_157 c XW k x a)) :: compRun.sl.Hm_14 c XW k x a) := rfl
theorem compRun_s : (compRun c XW k x a).1.s = (Memref.whole cc0_scratch12).view.writes (Elt F) a.s (pc 128 inb_S160x128_S32x128_128_0 (k0_pay186 (compRun.sl.r_160 c XW k x a)) :: compRun.sl.Hs_14 c XW k x a) := rfl
theorem compRun_g : (compRun c XW k x a).1.g = (Memref.whole cc0_scratch13).view.writes (Elt F) a.g (pc 128 inb_S160x128_S32x128_128_0 (k0_pay187 (compRun.sl.r_161 c XW k x a)) :: compRun.sl.Hg_14 c XW k x a) := rfl
theorem step_2_0 : st c (compRun c XW k x a).1 0 = sub c XW k x 2 0 (compRun.sl.v2161 c XW k x a, compRun.sl.v2166 c XW k x a, compRun.sl.v2170 c XW k x a) := by
  refine Prod.ext ?_ (Prod.ext ?_ ?_)
  · show slab (Memref.whole cc0_scratch11) (compRun c XW k x a).1.m 0 = _
    rw [compRun_m, compRun.sl.Hm_14, compRun.sl.Hm_13, compRun.sl.Hm_12, compRun.sl.Hm_11]
    exact (ra_skip _ _ _ _ _ _ (by decide)).trans ((ra_skip _ _ _ _ _ _ (by decide)).trans ((ra_skip _ _ _ _ _ _ (by decide)).trans ((ra_skip _ _ _ _ _ _ (by decide)).trans (ra_hit _ _ _ _ _ _))))
  · show slab (Memref.whole cc0_scratch12) (compRun c XW k x a).1.s 0 = _
    rw [compRun_s, compRun.sl.Hs_14, compRun.sl.Hs_13, compRun.sl.Hs_12, compRun.sl.Hs_11]
    exact (ra_skip _ _ _ _ _ _ (by decide)).trans ((ra_skip _ _ _ _ _ _ (by decide)).trans ((ra_skip _ _ _ _ _ _ (by decide)).trans ((ra_skip _ _ _ _ _ _ (by decide)).trans (ra_hit _ _ _ _ _ _))))
  · show slab (Memref.whole cc0_scratch13) (compRun c XW k x a).1.g 0 = _
    rw [compRun_g, compRun.sl.Hg_14, compRun.sl.Hg_13, compRun.sl.Hg_12, compRun.sl.Hg_11]
    exact (ra_skip _ _ _ _ _ _ (by decide)).trans ((ra_skip _ _ _ _ _ _ (by decide)).trans ((ra_skip _ _ _ _ _ _ (by decide)).trans ((ra_skip _ _ _ _ _ _ (by decide)).trans (ra_hit _ _ _ _ _ _))))
theorem step_2_1 : st c (compRun c XW k x a).1 1 = sub c XW k x 2 1 (compRun.sl.v2259 c XW k x a, compRun.sl.v2264 c XW k x a, compRun.sl.v2268 c XW k x a) := by
  refine Prod.ext ?_ (Prod.ext ?_ ?_)
  · show slab (Memref.whole cc0_scratch11) (compRun c XW k x a).1.m 1 = _
    rw [compRun_m, compRun.sl.Hm_14, compRun.sl.Hm_13, compRun.sl.Hm_12]
    exact (ra_skip _ _ _ _ _ _ (by decide)).trans ((ra_skip _ _ _ _ _ _ (by decide)).trans ((ra_skip _ _ _ _ _ _ (by decide)).trans (ra_hit _ _ _ _ _ _)))
  · show slab (Memref.whole cc0_scratch12) (compRun c XW k x a).1.s 1 = _
    rw [compRun_s, compRun.sl.Hs_14, compRun.sl.Hs_13, compRun.sl.Hs_12]
    exact (ra_skip _ _ _ _ _ _ (by decide)).trans ((ra_skip _ _ _ _ _ _ (by decide)).trans ((ra_skip _ _ _ _ _ _ (by decide)).trans (ra_hit _ _ _ _ _ _)))
  · show slab (Memref.whole cc0_scratch13) (compRun c XW k x a).1.g 1 = _
    rw [compRun_g, compRun.sl.Hg_14, compRun.sl.Hg_13, compRun.sl.Hg_12]
    exact (ra_skip _ _ _ _ _ _ (by decide)).trans ((ra_skip _ _ _ _ _ _ (by decide)).trans ((ra_skip _ _ _ _ _ _ (by decide)).trans (ra_hit _ _ _ _ _ _)))
theorem step_2_2 : st c (compRun c XW k x a).1 2 = sub c XW k x 2 2 (compRun.sl.v2357 c XW k x a, compRun.sl.v2362 c XW k x a, compRun.sl.v2366 c XW k x a) := by
  refine Prod.ext ?_ (Prod.ext ?_ ?_)
  · show slab (Memref.whole cc0_scratch11) (compRun c XW k x a).1.m 2 = _
    rw [compRun_m, compRun.sl.Hm_14, compRun.sl.Hm_13]
    exact (ra_skip _ _ _ _ _ _ (by decide)).trans ((ra_skip _ _ _ _ _ _ (by decide)).trans (ra_hit _ _ _ _ _ _))
  · show slab (Memref.whole cc0_scratch12) (compRun c XW k x a).1.s 2 = _
    rw [compRun_s, compRun.sl.Hs_14, compRun.sl.Hs_13]
    exact (ra_skip _ _ _ _ _ _ (by decide)).trans ((ra_skip _ _ _ _ _ _ (by decide)).trans (ra_hit _ _ _ _ _ _))
  · show slab (Memref.whole cc0_scratch13) (compRun c XW k x a).1.g 2 = _
    rw [compRun_g, compRun.sl.Hg_14, compRun.sl.Hg_13]
    exact (ra_skip _ _ _ _ _ _ (by decide)).trans ((ra_skip _ _ _ _ _ _ (by decide)).trans (ra_hit _ _ _ _ _ _))
theorem step_2_3 : st c (compRun c XW k x a).1 3 = sub c XW k x 2 3 (compRun.sl.v2455 c XW k x a, compRun.sl.v2460 c XW k x a, compRun.sl.v2464 c XW k x a) := by
  refine Prod.ext ?_ (Prod.ext ?_ ?_)
  · show slab (Memref.whole cc0_scratch11) (compRun c XW k x a).1.m 3 = _
    rw [compRun_m, compRun.sl.Hm_14]
    exact (ra_skip _ _ _ _ _ _ (by decide)).trans (ra_hit _ _ _ _ _ _)
  · show slab (Memref.whole cc0_scratch12) (compRun c XW k x a).1.s 3 = _
    rw [compRun_s, compRun.sl.Hs_14, compRun.sl.r_152]
    exact (ra_skip _ _ _ _ _ _ (by decide)).trans (ra_hit _ _ _ _ _ _)
  · show slab (Memref.whole cc0_scratch13) (compRun c XW k x a).1.g 3 = _
    rw [compRun_g, compRun.sl.Hg_14]
    exact (ra_skip _ _ _ _ _ _ (by decide)).trans (ra_hit _ _ _ _ _ _)
theorem step_2_4 : st c (compRun c XW k x a).1 4 = sub c XW k x 2 4 (compRun.sl.v2553 c XW k x a, compRun.sl.v2558 c XW k x a, compRun.sl.v2562 c XW k x a) := by
  refine Prod.ext ?_ (Prod.ext ?_ ?_)
  · show slab (Memref.whole cc0_scratch11) (compRun c XW k x a).1.m 4 = _
    rw [compRun_m]
    exact ra_hit _ _ _ _ _ _
  · show slab (Memref.whole cc0_scratch12) (compRun c XW k x a).1.s 4 = _
    rw [compRun_s]
    exact ra_hit _ _ _ _ _ _
  · show slab (Memref.whole cc0_scratch13) (compRun c XW k x a).1.g 4 = _
    rw [compRun_g]
    exact ra_hit _ _ _ _ _ _

/-- **One trip on a slab**: `sub` for each of the trip's three sub-blocks in turn. -/
theorem trip_slab (g : Fin 5) : st c (compRun c XW k x a).1 g = sub c XW k x 2 g (sub c XW k x 1 g (sub c XW k x 0 g (st c a g))) := by
  match g with
  | 0 => rw [← step_0_0, ← step_1_0, step_2_0]
  | 1 => rw [← step_0_1, ← step_1_1, step_2_1]
  | 2 => rw [← step_0_2, ← step_1_2, step_2_2]
  | 3 => rw [← step_0_3, ← step_1_3, step_2_3]
  | 4 => rw [← step_0_4, ← step_1_4, step_2_4]

end Trip

end Cert.Proof.Medusa
-- ==== Proof.Medusa.Quant.lean ====
/-
  The per-row quantiser's exponent, over the extended reals. The kernel finds the exponent by a binary search over the
  float powers of two; the reference takes ⌊log₂ t⌋ + 1. `scale_eq` and `inv_eq` state that the resulting scale and its
  inverse are equal for every extended real.
-/
module

public import Idealize.ShloMosaic.PureOps.Ideal
public import Idealize.ShloMosaic.Lib.Pipeline.Value

@[expose] public section

noncomputable section

namespace Cert.Proof.Medusa.Quant

open Idealize.ShloMosaic

/-- The float whose exponent field is `f` and whose other bits are zero. -/
def qb (f : BitVec 32) : EReal := Ideal.ofBits .f32 (IntOp.shli .vector f 23#32)
/-- One step of the search: take the bit `b` when `t` reaches the float of the larger field. -/
def qstep (t : EReal) (b f : BitVec 32) : BitVec 32 :=
  Scalar.select (Ideal.cmp .oge t (qb (IntOp.addi f b))) (IntOp.addi f b) f
/-- The exponent field found by the eight steps. -/
def qf (t : EReal) : BitVec 32 :=
  qstep t 1#32 (qstep t 2#32 (qstep t 4#32 (qstep t 8#32 (qstep t 16#32 (qstep t 32#32 (qstep t 64#32 (qstep t 128#32 0#32)))))))
/-- The kernel's exponent of a row of magnitude `a`, with `t` the magnitude over 448. -/
def ke (a t : EReal) : BitVec 32 :=
  Scalar.select (IntOp.ori (Ideal.cmp .oeq a (Ideal.ofBits .f32 0x00000000#32)) (IntOp.cmpi .eq (IntOp.minsi (qf t) 252#32) 0#32)) 0#32
    (IntOp.subi (IntOp.minsi (qf t) 252#32) 126#32)
/-- The reference's exponent. -/
def re (t : EReal) : EReal :=
  Scalar.select (Ideal.cmp .olt t (Ideal.ofBits .f32 0x00800000#32)) (Ideal.ofBits .f32 0x00000000#32)
    (min (Ideal.liftRound Int.floor (Ideal.div (Ideal.log t) ((Real.log 2 : ℝ) : EReal)) + Ideal.ofBits .f32 0x3F800000#32) (Ideal.ofBits .f32 0x42FC0000#32))

theorem b0 : Ideal.ofBits .f32 0x00000000#32 = 0 := by simp [Ideal.ofBits, Ideal.ieee]
theorem b1 : Ideal.ofBits .f32 0x3F800000#32 = ((1 : ℝ) : EReal) := by
  simp [Ideal.ofBits, Ideal.ieee, -EReal.coe_mul]; norm_num
theorem b126 : Ideal.ofBits .f32 0x42FC0000#32 = ((126 : ℝ) : EReal) := by
  simp [Ideal.ofBits, Ideal.ieee, -EReal.coe_mul]; norm_num
theorem bmin : Ideal.ofBits .f32 0x00800000#32 = (((2 : ℝ) ^ (-126 : ℤ) : ℝ) : EReal) := by
  simp [Ideal.ofBits, Ideal.ieee, -EReal.coe_mul]; norm_num

theorem ofBits_f32 (b : BitVec 32) : Ideal.ofBits .f32 b = Ideal.ieee 8 23 b := rfl
/-- A float of a word that is an exponent field alone. -/
theorem ieee_field {b : BitVec 32} {n : ℕ} (hn : n < 256) (hb : b.toNat = n * 8388608) : Ideal.ieee 8 23 b =
    if n = 255 then ⊤ else if n = 0 then 0 else (((2 : ℝ) ^ ((n : ℤ) - 127) : ℝ) : EReal) := by
  have e1 : (b.extractLsb' 23 8).toNat = n := by
    rw [BitVec.extractLsb'_toNat, Nat.shiftRight_eq_div_pow, hb]; norm_num; omega
  have e2 : (b.extractLsb' 0 23).toNat = 0 := by
    rw [BitVec.extractLsb'_toNat, Nat.shiftRight_eq_div_pow, hb]; norm_num
  have e3 : (b.extractLsb' (8 + 23) 1 == 1#1) = false := by
    rw [beq_eq_false_iff_ne]; intro h
    have h := congrArg BitVec.toNat h
    rw [BitVec.extractLsb'_toNat, Nat.shiftRight_eq_div_pow, hb] at h
    norm_num at h; omega
  clear hb
  unfold Ideal.ieee
  simp only [e1, e2, e3, Bool.false_eq_true, if_false, if_true]
  by_cases h1 : n = 255
  · rw [if_pos (by rw [h1]; norm_num), if_pos h1]
  rw [if_neg (by norm_num; exact h1), if_neg h1]
  by_cases h2 : n = 0
  · rw [if_pos h2, if_pos h2]; simp
  rw [if_neg h2, if_neg h2]
  congr 1
  have : (n : ℤ) - (2 ^ (8 - 1) - 1) - ((23 : ℕ) : ℤ) = ((n : ℤ) - 127) - 23 := by norm_num
  rw [this, zpow_sub₀ (by norm_num : (2:ℝ) ≠ 0) ((n:ℤ) - 127) 23]
  generalize (2:ℝ) ^ ((n:ℤ) - 127) = y
  push_cast
  norm_num
  ring
theorem qb_eq {n : ℕ} (hn : n < 256) : qb (BitVec.ofNat 32 n) =
    if n = 255 then ⊤ else if n = 0 then 0 else (((2 : ℝ) ^ ((n : ℤ) - 127) : ℝ) : EReal) := by
  rw [qb, ofBits_f32]
  refine ieee_field hn ?_
  unfold IntOp.shli
  rw [if_pos (by decide), BitVec.shiftLeft_eq', BitVec.toNat_shiftLeft, Nat.shiftLeft_eq, BitVec.toNat_ofNat, BitVec.toNat_ofNat]
  norm_num
  omega
theorem qb_top : qb (BitVec.ofNat 32 255) = ⊤ := by rw [qb_eq (by norm_num), if_pos rfl]
theorem qb_mid {n : ℕ} (h1 : 1 ≤ n) (h2 : n ≤ 254) : qb (BitVec.ofNat 32 n) = (((2 : ℝ) ^ ((n : ℤ) - 127) : ℝ) : EReal) := by
  rw [qb_eq (by omega), if_neg (by omega), if_neg (by omega)]

/-- What the search knows of `f` when the bits below `n` are still to be tried. -/
def Inv (t : EReal) (f : BitVec 32) (n : ℕ) : Prop :=
  f.toNat + n ≤ 256 ∧ (f.toNat = 0 ∨ qb (BitVec.ofNat 32 f.toNat) ≤ t) ∧ (f.toNat + n = 256 ∨ t < qb (BitVec.ofNat 32 (f.toNat + n)))

theorem inv_step {t : EReal} {f b : BitVec 32} {n : ℕ} (hb : b.toNat = n) (hn : 0 < n) (h : Inv t f (2 * n)) : Inv t (qstep t b f) n := by
  obtain ⟨h1, h2, h3⟩ := h
  have hs : (IntOp.addi f b).toNat = f.toNat + n := by
    show (f + b).toNat = _
    rw [BitVec.toNat_add, hb]; omega
  have hq : IntOp.addi f b = BitVec.ofNat 32 (f.toNat + n) := by
    apply BitVec.eq_of_toNat_eq; rw [hs]; simp; omega
  by_cases hc : qb (IntOp.addi f b) ≤ t
  · have e : qstep t b f = IntOp.addi f b := by
      simp [qstep, Ideal.cmp, Scalar.select, hc]
    rw [e]
    refine ⟨by omega, .inr ?_, ?_⟩
    · rw [hs, ← hq]; exact hc
    · rw [hs, show f.toNat + n + n = f.toNat + 2 * n by omega]; exact h3
  · have e : qstep t b f = f := by
      simp [qstep, Ideal.cmp, Scalar.select, hc]
    rw [e]
    exact ⟨by omega, h2, .inr (by rw [← hq]; exact not_le.mp hc)⟩

theorem inv_qf (t : EReal) : Inv t (qf t) 1 := by
  unfold qf
  iterate 8 refine inv_step (by decide) (by decide) ?_
  exact ⟨by decide, .inl rfl, .inl rfl⟩

theorem or_one (b : BitVec 1) : IntOp.ori b (IntOp.cmpi .eq (BitVec.ofNat 32 (min 0 252)) 0#32) = 1#1 := by
  rcases BitVec.eq_zero_or_eq_one b with h | h <;> subst h <;> decide

theorem minsi_small {f : BitVec 32} (h : f.toNat ≤ 255) : IntOp.minsi f 252#32 = BitVec.ofNat 32 (min f.toNat 252) := by
  have hf : f.toInt = f.toNat := BitVec.toInt_eq_toNat_of_lt (by omega)
  unfold IntOp.minsi
  apply BitVec.eq_of_toNat_eq
  by_cases h' : f.toNat < 252
  · have : f.slt 252#32 = true := by simp [BitVec.slt, hf]; omega
    simp [this]; omega
  · have : f.slt 252#32 = false := by simp [BitVec.slt, hf]; omega
    simp [this]; omega

theorem coe_min' (x y : ℝ) : ((min x y : ℝ) : EReal) = min (x : EReal) (y : EReal) :=
  EReal.coe_strictMono.monotone.map_min

/-- The exponent `e`, as an integer in [-125, 126], of which both scales are powers. -/
theorem exponent (a t : EReal) (ht : a = 0 → t = 0) :
    ∃ e : ℤ, -125 ≤ e ∧ e ≤ 126 ∧ re t = ((e : ℝ) : EReal)
      ∧ IntOp.addi (ke a t) 127#32 = BitVec.ofNat 32 (e + 127).toNat ∧ IntOp.subi 127#32 (ke a t) = BitVec.ofNat 32 (127 - e).toNat := by
  obtain ⟨h1, h2, h3⟩ := inv_qf t
  generalize hf : qf t = f at *
  have hm := minsi_small (f := f) (by omega)
  by_cases h0 : f.toNat = 0
  · refine ⟨0, by norm_num, by norm_num, ?_, ?_, ?_⟩
    · have : t < Ideal.ofBits .f32 0x00800000#32 := by
        rw [h0] at h3
        rcases h3 with h3 | h3
        · omega
        · rw [qb_mid (by norm_num) (by norm_num)] at h3
          rw [bmin]; simpa using h3
      simp only [re, Ideal.cmp, Scalar.select, this]
      simp [b0]
    all_goals
      rw [h0] at hm
      simp only [ke, hf, hm]
      rw [or_one]
      simp [Scalar.select, IntOp.addi, IntOp.subi]
  have hle : qb (BitVec.ofNat 32 f.toNat) ≤ t := h2.resolve_left h0
  have hlow : (((2 : ℝ) ^ (-126 : ℤ) : ℝ) : EReal) ≤ t := by
    refine le_trans ?_ hle
    by_cases h255 : f.toNat = 255
    · rw [h255, qb_top]; exact le_top
    · rw [qb_mid (by omega) (by omega)]
      have h : (-126 : ℤ) ≤ (f.toNat : ℤ) - 127 := by omega
      exact EReal.coe_le_coe_iff.mpr (zpow_le_zpow_right₀ (by norm_num : (1:ℝ) ≤ 2) h)
  have hpos : (0 : EReal) < t := lt_of_lt_of_le (by exact_mod_cast (by positivity : (0:ℝ) < (2:ℝ) ^ (-126 : ℤ))) hlow
  have ha : a ≠ 0 := fun h => by rw [ht h] at hpos; exact lt_irrefl _ hpos
  have hke : ke a t = IntOp.subi (BitVec.ofNat 32 (min f.toNat 252)) 126#32 := by
    have : ¬ (BitVec.ofNat 32 (min f.toNat 252) = 0#32) := by
      intro h; have := congrArg BitVec.toNat h; simp at this; omega
    simp only [ke, hf, hm]
    have h2 : (BitVec.ofNat 32 (min f.toNat 252) == 0#32) = false := by simpa using this
    simp [IntOp.cmpi, IntOp.ori, Scalar.select, Ideal.cmp, b0, ha, h2]
  have hre : re t = min (Ideal.liftRound Int.floor (Ideal.div (Ideal.log t) ((Real.log 2 : ℝ) : EReal)) + ((1 : ℝ) : EReal)) ((126 : ℝ) : EReal) := by
    have : ¬ t < Ideal.ofBits .f32 0x00800000#32 := by rw [bmin]; exact not_lt.mpr hlow
    simp only [re, Ideal.cmp, Scalar.select, this, b1, b126]
    simp
  have hl2 : (0:ℝ) < Real.log 2 := Real.log_pos (by norm_num)
  refine ⟨(min f.toNat 252 : ℕ) - 126, by omega, by omega, ?_, ?_, ?_⟩
  · rw [hre, Ideal.div_coe hl2.ne']
    induction t with
    | bot => exact absurd hpos (by simp)
    | top =>
      have h252 : 252 ≤ f.toNat := by
        rcases h3 with h3 | h3
        · omega
        · exact absurd h3 not_top_lt
      rw [min_eq_right h252]
      have : (⊤ : EReal) * ((1 / Real.log 2 : ℝ) : EReal) = ⊤ := EReal.top_mul_coe_of_pos (by positivity)
      show min (Ideal.liftRound Int.floor ((⊤ : EReal) * _) + _) _ = _
      rw [this]
      show min ((⊤ : EReal) + _) _ = _
      rw [EReal.top_add_coe, min_eq_right le_top]
      norm_num
    | coe r =>
      have hr : (0:ℝ) < r := by exact_mod_cast hpos
      have hlog : Ideal.log (r : EReal) = ((Real.log r : ℝ) : EReal) := by
        show (if r ≤ 0 then (⊥ : EReal) else (Real.log r : EReal)) = _
        rw [if_neg (not_le.mpr hr)]
      have hfl : Ideal.liftRound Int.floor (Ideal.log (r : EReal) * ((1 / Real.log 2 : ℝ) : EReal)) = ((⌊Real.log r * (1 / Real.log 2)⌋ : ℝ) : EReal) := by
        rw [hlog, ← EReal.coe_mul]; rfl
      rw [hfl, ← EReal.coe_add, ← coe_min']
      have h255 : f.toNat ≠ 255 := by
        intro h; rw [h, qb_top] at hle; exact absurd hle (by simp)
      rw [qb_mid (by omega) (by omega)] at hle
      have hle' : (2 : ℝ) ^ ((f.toNat : ℤ) - 127) ≤ r := by exact_mod_cast hle
      have hL : ((f.toNat : ℤ) - 127 : ℤ) ≤ ⌊Real.log r * (1 / Real.log 2)⌋ := by
        rw [Int.le_floor, mul_one_div, le_div_iff₀ hl2, ← Real.log_zpow]
        exact Real.log_le_log (by positivity) hle'
      congr 1
      by_cases hb : 252 ≤ f.toNat
      · rw [min_eq_right hb, min_eq_right]
        · norm_num
        · have : (126 : ℤ) ≤ ⌊Real.log r * (1 / Real.log 2)⌋ + 1 := by omega
          exact_mod_cast this
      · have hu : r < (2 : ℝ) ^ ((f.toNat : ℤ) - 126) := by
          rcases h3 with h3 | h3
          · omega
          · rw [qb_mid (by omega) (by omega)] at h3
            have h3 : r < (2 : ℝ) ^ (((f.toNat + 1 : ℕ) : ℤ) - 127) := by exact_mod_cast h3
            have : (((f.toNat + 1 : ℕ) : ℤ) - 127) = (f.toNat : ℤ) - 126 := by omega
            rwa [this] at h3
        have hU : ⌊Real.log r * (1 / Real.log 2)⌋ < (f.toNat : ℤ) - 126 := by
          rw [Int.floor_lt, mul_one_div, div_lt_iff₀ hl2, ← Real.log_zpow]
          exact Real.log_lt_log hr hu
        have he : ⌊Real.log r * (1 / Real.log 2)⌋ = (f.toNat : ℤ) - 127 := by omega
        rw [he, min_eq_left (by omega : f.toNat ≤ 252), min_eq_left]
        · push_cast; ring
        · have : ((f.toNat : ℤ) - 127) + 1 ≤ 126 := by omega
          exact_mod_cast this
  · rw [hke]
    apply BitVec.eq_of_toNat_eq
    simp [IntOp.addi, IntOp.subi]; omega
  · rw [hke]
    apply BitVec.eq_of_toNat_eq
    simp [IntOp.addi, IntOp.subi]; omega

theorem pow_eq {e : ℤ} (h1 : -126 ≤ e) (h2 : e ≤ 127) : qb (BitVec.ofNat 32 (e + 127).toNat) = Ideal.exp2 ((e : ℝ) : EReal) := by
  rw [qb_mid (by omega) (by omega)]
  show _ = ((Real.rpow 2 (e : ℝ) : ℝ) : EReal)
  congr 1
  have : ((e + 127).toNat : ℤ) - 127 = e := by omega
  rw [this]
  exact (Real.rpow_intCast 2 e).symm

/-- The two scales agree. -/
theorem scale_eq (a t : EReal) (ht : a = 0 → t = 0) : qb (IntOp.addi (ke a t) 127#32) = Ideal.exp2 (re t) := by
  obtain ⟨e, h1, h2, h3, h4, h5⟩ := exponent a t ht
  rw [h4, h3, pow_eq (by omega) (by omega)]
/-- The two inverse scales agree. -/
theorem inv_eq (a t : EReal) (ht : a = 0 → t = 0) :
    qb (IntOp.subi 127#32 (ke a t)) = Ideal.exp2 (Ideal.ofBits .f32 0x00000000#32 - re t) := by
  obtain ⟨e, h1, h2, h3, h4, h5⟩ := exponent a t ht
  rw [h5, h3, b0]
  have : (0 : EReal) - ((e : ℝ) : EReal) = (((-e : ℤ) : ℝ) : EReal) := by rw [zero_sub, ← EReal.coe_neg]; push_cast; rfl
  rw [this, ← pow_eq (by omega) (by omega)]
  congr 2
  omega

end Cert.Proof.Medusa.Quant
-- ==== Proof.Medusa.Online.lean ====
/-
  The running maximum and the running sum of exponentials of one row, over the extended reals. `M f n` is the largest of
  the first `n` values and the least finite float; `S f n m` is the sum of their exponentials shifted by `m`.
  `S_shift` says that a sum shifted by one bound is carried to a larger bound by one product. `lanes` says that 128
  lanes carried to the row's maximum sum to the row's sum. No value need be finite.
-/
module

public import proofs.«01_k».proof.Proof.Medusa.Quant

@[expose] public section

noncomputable section

namespace Cert.Proof.Medusa.Online

open Idealize.ShloMosaic

/-- The least finite float. -/
def low : EReal := Ideal.ofBits .f32 0xFF7FFFFF#32

theorem low_ne_bot : low ≠ ⊥ := by
  unfold low
  simp [Ideal.ofBits, Ideal.ieee, -EReal.coe_mul]

theorem exp_nonneg (x : EReal) : 0 ≤ Ideal.exp x := by
  induction x with
  | bot => simp
  | top => simp
  | coe r => simpa using EReal.coe_nonneg.2 (Real.exp_pos r).le

/-- Two shifts in a row are one. -/
theorem exp_shift {x m m' : EReal} (hm : m ≠ ⊥) (h : x ≤ m) (h' : m ≤ m') : Ideal.exp (x - m) * Ideal.exp (m - m') = Ideal.exp (x - m') := by
  induction m' with
  | bot => exact absurd (le_bot_iff.1 h') hm
  | top =>
    have e : ∀ y : EReal, Ideal.exp (y - ⊤) = 0 := fun y => by rw [EReal.sub_top, Ideal.exp_bot]
    rw [e, e, mul_zero]
  | coe r' =>
    induction m with
    | bot => exact absurd rfl hm
    | top => exact absurd (top_le_iff.1 h') (EReal.coe_ne_top _)
    | coe r =>
      induction x with
      | bot => rw [EReal.bot_sub, EReal.bot_sub, Ideal.exp_bot, zero_mul]
      | top => exact absurd (top_le_iff.1 h) (EReal.coe_ne_top _)
      | coe s =>
        rw [← EReal.coe_sub, ← EReal.coe_sub, ← EReal.coe_sub, Ideal.exp_coe, Ideal.exp_coe, Ideal.exp_coe, ← EReal.coe_mul, ← Real.exp_add]
        congr 2; ring

/-- The running maximum. -/
def M (f : ℕ → EReal) : ℕ → EReal
  | 0 => low
  | n + 1 => max (M f n) (f n)

/-- The running sum. -/
def S (f : ℕ → EReal) (n : ℕ) (m : EReal) : EReal := ∑ i ∈ Finset.range n, Ideal.exp (f i - m)

theorem low_le_M (f : ℕ → EReal) (n : ℕ) : low ≤ M f n := by
  induction n with
  | zero => exact le_rfl
  | succ n ih => exact ih.trans (le_max_left _ _)
theorem M_ne_bot (f : ℕ → EReal) (n : ℕ) : M f n ≠ ⊥ := fun h => low_ne_bot (le_bot_iff.1 (h ▸ low_le_M f n))
theorem le_M (f : ℕ → EReal) {n i : ℕ} (h : i < n) : f i ≤ M f n := by
  induction n with
  | zero => omega
  | succ n ih =>
    rcases Nat.lt_succ_iff_lt_or_eq.1 h with h | rfl
    · exact (ih h).trans (le_max_left _ _)
    · exact le_max_right _ _
theorem M_le (f : ℕ → EReal) {n : ℕ} {b : EReal} (hb : low ≤ b) (h : ∀ i < n, f i ≤ b) : M f n ≤ b := by
  induction n with
  | zero => exact hb
  | succ n ih => exact max_le (ih fun i hi => h i (hi.trans (Nat.lt_succ_self n))) (h n (Nat.lt_succ_self n))

theorem sum_mul {ι : Type} (s : Finset ι) (f : ι → EReal) (c : EReal) (h : ∀ i, 0 ≤ f i) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

/-- A sum shifted by a bound is carried to a larger one. -/
theorem S_shift (f : ℕ → EReal) (n : ℕ) {m m' : EReal} (hm : m ≠ ⊥) (h : ∀ i < n, f i ≤ m) (h' : m ≤ m') : S f n m * Ideal.exp (m - m') = S f n m' := by
  unfold S
  rw [sum_mul _ _ _ fun i => exp_nonneg _]
  exact Finset.sum_congr rfl fun i hi => exp_shift hm (h i (Finset.mem_range.1 hi)) h'

/-- Four more values: the update of a trip's sub-block. -/
theorem M_four (f : ℕ → EReal) (n : ℕ) : M f (n + 4) = max (max (max (max (M f n) (f n)) (f (n + 1))) (f (n + 2))) (f (n + 3)) := rfl
theorem S_four (f : ℕ → EReal) (n : ℕ) : S f (n + 4) (M f (n + 4))
    = S f n (M f n) * Ideal.exp (M f n - M f (n + 4)) + Ideal.exp (f n - M f (n + 4)) + Ideal.exp (f (n + 1) - M f (n + 4))
      + Ideal.exp (f (n + 2) - M f (n + 4)) + Ideal.exp (f (n + 3) - M f (n + 4)) := by
  have hle : M f n ≤ M f (n + 4) := M_le f (low_le_M f _) fun i hi => le_M f (by omega)
  rw [S_shift f n (M_ne_bot f n) (fun i hi => le_M f hi) hle]
  unfold S
  rw [Finset.sum_range_succ, Finset.sum_range_succ, Finset.sum_range_succ, Finset.sum_range_succ]

/-- The lane and the block of a column. -/
def colEquiv : Fin 152064 ≃ Fin 128 × Fin 1188 where
  toFun v := (⟨v.val % 128, Nat.mod_lt _ (by norm_num)⟩, ⟨v.val / 128, by have := v.isLt; omega⟩)
  invFun p := ⟨128 * p.2.val + p.1.val, by have := p.1.isLt; have := p.2.isLt; omega⟩
  left_inv v := by ext; simp; omega
  right_inv p := by
    have := p.1.isLt
    ext
    · show _ = _; simp only; omega
    · show _ = _; simp only; omega

variable (L : Fin 152064 → EReal)

/-- Lane `l`'s values of a row, in the order in which they come. -/
def laneF (l : Fin 128) (i : ℕ) : EReal := if h : 128 * i + l.val < 152064 then L ⟨128 * i + l.val, h⟩ else ⊥

theorem laneF_eq (l : Fin 128) (i : Fin 1188) : laneF L l i.val = L (colEquiv.symm (l, i)) := by
  have := l.isLt; have := i.isLt
  rw [laneF, dif_pos (by omega)]; rfl

/-- The row's maximum. -/
def mxRow : EReal := max (Finset.univ.fold max ⊥ L) low

theorem fold_max_le {n : ℕ} (f : Fin n → EReal) {b : EReal} : Finset.univ.fold max ⊥ f ≤ b ↔ ∀ i, f i ≤ b := by
  rw [Finset.fold_max_le]; simp

/-- The largest of the lanes' maxima is the row's. -/
theorem mx_lanes : Finset.univ.fold max ⊥ (fun l : Fin 128 => M (laneF L l) 1188) = mxRow L := by
  apply le_antisymm
  · rw [fold_max_le]
    intro l
    refine M_le _ (le_max_right _ _) fun i hi => ?_
    rw [laneF_eq L l ⟨i, hi⟩]
    exact ((fold_max_le L).1 le_rfl _).trans (le_max_left _ _)
  · refine max_le ((fold_max_le L).2 fun v => ?_) ?_
    · have := (fold_max_le (fun l : Fin 128 => M (laneF L l) 1188)).1 le_rfl (colEquiv v).1
      refine le_trans ?_ this
      have h := le_M (laneF L (colEquiv v).1) (colEquiv v).2.isLt
      rw [laneF_eq L] at h
      simpa using h
    · exact (low_le_M _ _).trans ((fold_max_le (fun l : Fin 128 => M (laneF L l) 1188)).1 le_rfl 0)

/-- The lanes' sums carried to the row's maximum are the row's sum. -/
theorem sum_lanes : ∑ l : Fin 128, S (laneF L l) 1188 (M (laneF L l) 1188) * Ideal.exp (M (laneF L l) 1188 - mxRow L) = ∑ v : Fin 152064, Ideal.exp (L v - mxRow L) := by
  have h : ∀ l : Fin 128, S (laneF L l) 1188 (M (laneF L l) 1188) * Ideal.exp (M (laneF L l) 1188 - mxRow L) = ∑ i : Fin 1188, Ideal.exp (L (colEquiv.symm (l, i)) - mxRow L) := by
    intro l
    rw [S_shift _ _ (M_ne_bot _ _) (fun i hi => le_M _ hi) ((fold_max_le (fun l : Fin 128 => M (laneF L l) 1188)).1 (mx_lanes L).le l)]
    unfold S
    refine (Finset.sum_range (fun i => Ideal.exp (laneF L l i - mxRow L))).trans ?_
    exact Finset.sum_congr rfl fun i _ => congrArg (fun y => Ideal.exp (y - mxRow L)) (laneF_eq L l i)
  rw [Finset.sum_congr rfl fun l _ => h l, ← Fintype.sum_prod_type' (fun l i => Ideal.exp (L (colEquiv.symm (l, i)) - mxRow L))]
  exact Equiv.sum_comp colEquiv.symm fun v => Ideal.exp (L v - mxRow L)

end Cert.Proof.Medusa.Online
-- ==== Proof.Medusa.Lanes.lean ====
/-
  The loop over the vocabulary, over the extended reals: after `n` blocks of 128 columns the three running arrays hold,
  in every row and lane, the largest logit so far, the sum of exponentials so far, and each candidate's logit if its
  block has been passed (`Inv`). `inv_loop` carries this through all 99 trips.
-/
module

public import proofs.«01_k».proof.Proof.Medusa.Loop
public import proofs.«01_k».proof.Proof.Medusa.Online
public import Idealize.ShloMosaic.Lib.ValueLayout
public import Idealize.ShloMosaic.Lib.MatmulPlain

@[expose] public section

noncomputable section

namespace Cert.Proof.Medusa

open Online
open Cert.KernelIdeal Cert.KernelIdeal.Gen
open Idealize.ShloMosaic
open Idealize.ShloMosaic.TcCoe
open Idealize.ShloMosaic.ValueIdx

/-- What the running arrays of one head hold after `n` blocks of its logits `L`. -/
def Inv (L : Fin 32 → Fin 152064 → EReal) (lo hi : IVec S32x128 32) (n : ℕ) (t : T3 Ideal) : Prop :=
  ∀ (r : Fin 32) (l : Fin 128),
    t.1 (ix2 r l) = M (laneF (L r) l) n ∧ t.2.1 (ix2 r l) = S (laneF (L r) l) n (M (laneF (L r) l) n) ∧
    ∀ h : (lo (ix2 r l)).toNat < 128, t.2.2 (ix2 r l) = if (hi (ix2 r l)).toNat < n then laneF (L r) ⟨(lo (ix2 r l)).toNat, h⟩ (hi (ix2 r l)).toNat else 0

theorem lane_apply (lo : IVec S32x128 32) (i : S32x128.Idx) (h : (lo i).toNat < 128) : lane lo i = lo i := by
  unfold lane
  rw [shapeCast_shapeCast]
  show Scalar.select (BitVec.ofBool ((lo i).slt 0#32)) _ (lo i) = lo i
  have : (lo i).slt 0#32 = false := by
    rw [BitVec.slt, decide_eq_false_iff_not, BitVec.toInt_eq_toNat_of_lt (by omega)]; simp
  rw [this]; rfl

theorem cd1_apply (L t : FVec Ideal S32x128 .f32) (lo hi : IVec S32x128 32) (w : BitVec 32) (r : Fin 32) (l : Fin 128) (h : (lo (ix2 r l)).toNat < 128) :
    cd1 L t lo hi w (ix2 r l) = if hi (ix2 r l) = w then L (ix2 r ⟨(lo (ix2 r l)).toNat, h⟩) else t (ix2 r l) := by
  have e : dynamicGather 1 L (lane lo) (ix2 r l) = L (ix2 r ⟨(lo (ix2 r l)).toNat, h⟩) := by
    show L _ = L _
    congr 1
    funext a
    match a with
    | 0 => rfl
    | 1 =>
      apply Fin.ext
      show (lane lo (ix2 r l)).toNat % 128 = _
      rw [lane_apply _ _ h, Nat.mod_eq_of_lt h]
  show Scalar.select (BitVec.ofBool (hi (ix2 r l) == w)) (dynamicGather 1 L (lane lo) (ix2 r l)) (t (ix2 r l)) = _
  rw [e]
  by_cases hw : hi (ix2 r l) = w
  · rw [if_pos hw, beq_iff_eq.2 hw]; rfl
  · rw [if_neg hw, beq_eq_false_iff_ne.2 hw]; rfl

/-- Four more blocks. -/
theorem inv_four (L : Fin 32 → Fin 152064 → EReal) (lo hi : IVec S32x128 32) (n : ℕ) (hn : n + 4 ≤ 1188) (t : T3 Ideal) (L₀ L₁ L₂ L₃ : FVec Ideal S32x128 .f32) (w : BitVec 32)
    (hw : w = BitVec.ofNat 32 n) (h₀ : ∀ r l, L₀ (ix2 r l) = laneF (L r) l n) (h₁ : ∀ r l, L₁ (ix2 r l) = laneF (L r) l (n + 1))
    (h₂ : ∀ r l, L₂ (ix2 r l) = laneF (L r) l (n + 2)) (h₃ : ∀ r l, L₃ (ix2 r l) = laneF (L r) l (n + 3)) (H : Inv L lo hi n t) :
    Inv L lo hi (n + 4) (mx4 L₀ L₁ L₂ L₃ t.1, sm4 L₀ L₁ L₂ L₃ t.1 (mx4 L₀ L₁ L₂ L₃ t.1) t.2.1, cd4 L₀ L₁ L₂ L₃ t.2.2 lo hi w) := by
  intro r l
  obtain ⟨Hm, Hs, Hc⟩ := H r l
  have hm : mx4 L₀ L₁ L₂ L₃ t.1 (ix2 r l) = M (laneF (L r) l) (n + 4) := by
    show max (max (max (max (t.1 (ix2 r l)) (L₀ (ix2 r l))) (L₁ (ix2 r l))) (L₂ (ix2 r l))) (L₃ (ix2 r l)) = _
    rw [M_four, Hm, h₀, h₁, h₂, h₃]
  refine ⟨hm, ?_, fun h => ?_⟩
  · show t.2.1 (ix2 r l) * Ideal.exp (t.1 (ix2 r l) - mx4 L₀ L₁ L₂ L₃ t.1 (ix2 r l)) + Ideal.exp (L₀ (ix2 r l) - mx4 L₀ L₁ L₂ L₃ t.1 (ix2 r l)) + Ideal.exp (L₁ (ix2 r l) - mx4 L₀ L₁ L₂ L₃ t.1 (ix2 r l))
      + Ideal.exp (L₂ (ix2 r l) - mx4 L₀ L₁ L₂ L₃ t.1 (ix2 r l)) + Ideal.exp (L₃ (ix2 r l) - mx4 L₀ L₁ L₂ L₃ t.1 (ix2 r l)) = _
    rw [hm, Hs, Hm, h₀, h₁, h₂, h₃, S_four]
  · have hc := Hc h
    have hb : ∀ b : ℕ, b < 4 → (hi (ix2 r l) = Scalar.addi w (BitVec.ofNat 32 b) ↔ (hi (ix2 r l)).toNat = n + b) := by
      intro b hb
      rw [← BitVec.toNat_inj, hw]
      show _ = (BitVec.ofNat 32 n + BitVec.ofNat 32 b).toNat ↔ _
      rw [BitVec.toNat_add, BitVec.toNat_ofNat, BitVec.toNat_ofNat, Nat.mod_eq_of_lt (by omega : n < 2 ^ 32), Nat.mod_eq_of_lt (by omega : b < 2 ^ 32), Nat.mod_eq_of_lt (by omega : n + b < 2 ^ 32)]
    show cd4 L₀ L₁ L₂ L₃ t.2.2 lo hi w (ix2 r l) = _
    unfold cd4
    rw [cd1_apply _ _ _ _ _ _ _ h, cd1_apply _ _ _ _ _ _ _ h, cd1_apply _ _ _ _ _ _ _ h, cd1_apply _ _ _ _ _ _ _ h, hc, h₀, h₁, h₂, h₃]
    have b0 := hb 0 (by omega); have b1 := hb 1 (by omega); have b2 := hb 2 (by omega); have b3 := hb 3 (by omega)
    simp only [b0, b1, b2, b3]
    generalize (hi (ix2 r l)).toNat = q
    by_cases q3 : q = n + 3
    · subst q3; rw [if_pos rfl, if_pos (by omega)]
    rw [if_neg q3]
    by_cases q2 : q = n + 2
    · subst q2; rw [if_pos rfl, if_pos (by omega)]
    rw [if_neg q2]
    by_cases q1 : q = n + 1
    · subst q1; rw [if_pos rfl, if_pos (by omega)]
    rw [if_neg q1]
    by_cases q0 : q = n + 0
    · rw [if_pos q0, if_pos (by omega), q0]; rfl
    rw [if_neg q0]
    by_cases qn : q < n
    · rw [if_pos qn, if_pos (by omega)]
    · rw [if_neg qn, if_neg (by omega)]

theorem blkWord_eq (k : Fin k0_t1_loop.trips) (j : Fin 3) : blkWord k j = BitVec.ofNat 32 (12 * k.val + 4 * j.val) := by
  have hk : k.val < 99 := trip_lt k
  have hj := j.isLt
  apply BitVec.eq_of_toNat_eq
  unfold blkWord Scf.iv
  show ((0#32 + BitVec.ofNat 32 k.val * 1#32) * 12#32 + BitVec.ofNat 32 (4 * j.val)).toNat = _
  simp only [BitVec.toNat_add, BitVec.toNat_mul, BitVec.toNat_ofNat]
  omega

variable (c : Dev nD) (XW : Buf (Elt Ideal) (wvM.view.loc (c : Thread nD τ))) (x : Rd (F := Ideal) c)

/-- All trips. -/
theorem inv_loop (g : Fin 5) (L : Fin 32 → Fin 152064 → EReal)
    (hL : ∀ (k : Fin k0_t1_loop.trips) (j : Fin 3) (b : Fin 4) (r : Fin 32) (l : Fin 128), lgb c XW k x j g b (ix2 r l) = laneF (L r) l (12 * k.val + 4 * j.val + b.val))
    (a : Acc (F := Ideal) c)
    (h0 : Inv L (slab (Memref.whole cc0_scratch9) x.lo g) (slab (Memref.whole cc0_scratch10) x.hi g) 0 (st c a g)) (n : ℕ) (hn : n ≤ 99) :
    Inv L (slab (Memref.whole cc0_scratch9) x.lo g) (slab (Memref.whole cc0_scratch10) x.hi g) (12 * n) (st c (accAt c XW x a n) g) := by
  induction n with
  | zero => exact h0
  | succ n ih =>
    have ih := ih (by omega)
    have hk : n < k0_t1_loop.trips := by rw [trips_eq]; omega
    rw [accAt_succ c XW x a ⟨n, hk⟩, trip_slab]
    have key : ∀ (j : Fin 3) (t : T3 Ideal), Inv L (slab (Memref.whole cc0_scratch9) x.lo g) (slab (Memref.whole cc0_scratch10) x.hi g) (12 * n + 4 * j.val) t →
        Inv L (slab (Memref.whole cc0_scratch9) x.lo g) (slab (Memref.whole cc0_scratch10) x.hi g) (12 * n + 4 * j.val + 4) (sub c XW ⟨n, hk⟩ x j g t) := fun j t H =>
      inv_four L _ _ _ (by have := j.isLt; omega) t _ _ _ _ _ (blkWord_eq ⟨n, hk⟩ j) (hL ⟨n, hk⟩ j 0) (hL ⟨n, hk⟩ j 1) (hL ⟨n, hk⟩ j 2) (hL ⟨n, hk⟩ j 3) H
    exact key 2 _ (key 1 _ (key 0 _ ih))

end Cert.Proof.Medusa
-- ==== Proof.Medusa.Heads.lean ====
/-
  The quantiser and the residual block as functions of vectors over the extended reals, and the values that the kernel's and
  the reference's printed payloads are of them.
-/
module

public import proofs.«01_k».proof.Proof.Medusa.Quant
public import proofs.«01_k».proof.Proof.Gen.KernelIdeal.Skeleton
public import proofs.«01_k».proof.Proof.Gen.ReferenceIdeal.Skeleton

@[expose] public section

set_option maxRecDepth 100000

noncomputable section

namespace Cert.Proof.Medusa

open Cert.KernelIdeal Cert.KernelIdeal.Gen
open Idealize.ShloMosaic

/-- The magnitude of each row. -/
def amax (v : FVec Ideal S32x2560 .f32) : FVec Ideal S32x1 .f32 :=
  shapeCast S32x1 (multiReduction .maximumf [1] S32 (absf v) 0xFF800000#32 reduces_S32x2560_S32 (.inl rfl) rfl) shapeCasts_S32_S32x1
/-- The magnitude of each row over 448. -/
def tmax (v : FVec Ideal S32x2560 .f32) : FVec Ideal S32x1 .f32 := mulf (amax v) (broadcast S32x1 (Scalar.ofBits (F := Ideal) .f32 0x3B124925#32))
/-- A row's scale, -/
def qs (v : FVec Ideal S32x2560 .f32) : FVec Ideal S32x1 .f32 := fun i => Ideal.exp2 (Quant.re (tmax v i))
/-- its inverse, -/
def qinv (v : FVec Ideal S32x2560 .f32) : FVec Ideal S32x1 .f32 := fun i => Ideal.exp2 (Ideal.ofBits .f32 0x00000000#32 - Quant.re (tmax v i))
/-- the product with an inverse scale, clipped to ±448, -/
def clip (u : FVec Ideal S32x1 .f32) (v : FVec Ideal S32x2560 .f32) : FVec Ideal S32x2560 .f32 :=
  minimumf (broadcast S32x2560 (Scalar.ofBits (F := Ideal) .f32 0x43E00000#32)) (maximumf (broadcast S32x2560 (Scalar.ofBits (F := Ideal) .f32 0xC3E00000#32)) (mulf v (broadcastTo S32x2560 u broadcasts_S32x1_S32x2560)))
/-- and the codes. -/
def qc (v : FVec Ideal S32x2560 .f32) : FVec Ideal S32x2560 .fp8e4m3 := truncf .fp8e4m3 (clip (qinv v) v) bitsLt_fp8e4m3_f32
/-- The scale as the kernel finds it, -/
def ks (v : FVec Ideal S32x2560 .f32) : FVec Ideal S32x1 .f32 := fun i => Quant.qb (IntOp.addi (Quant.ke (amax v i) (tmax v i)) 127#32)
/-- and its inverse. -/
def kinv (v : FVec Ideal S32x2560 .f32) : FVec Ideal S32x1 .f32 := fun i => Quant.qb (IntOp.subi 127#32 (Quant.ke (amax v i) (tmax v i)))

theorem tmax_zero (v : FVec Ideal S32x2560 .f32) (i : S32x1.Idx) (h : amax v i = (0 : EReal)) : tmax v i = (0 : EReal) := by
  show (amax v i : EReal) * _ = 0
  rw [h, zero_mul]
theorem ks_eq (v : FVec Ideal S32x2560 .f32) : ks v = qs v := funext fun i => Quant.scale_eq _ _ (tmax_zero v i)
theorem kinv_eq (v : FVec Ideal S32x2560 .f32) : kinv v = qinv v := funext fun i => Quant.inv_eq _ _ (tmax_zero v i)

/-- The residual block: `x + z·σ(z)`, with `z` the scaled product plus the bias. -/
def hV (xv : FVec Ideal S32x2560 .f32) (w : FVec Ideal S2560x2560 .fp8e4m3) (sr br : FVec Ideal S1x2560 .f32) : FVec Ideal S32x2560 .f32 :=
  ReferenceIdeal.Gen.k0_pay10 xv (qc xv) (qs xv) w sr br

/-! ### The reference's payloads -/
section Ref
open Cert.ReferenceIdeal.Gen (k0_pay4)
variable (X : Vec Ideal S32x1x2560 .bf16)

theorem ref_xs : ReferenceIdeal.Gen.k0_pay7 X = qs (ReferenceIdeal.Gen.k0_pay4 X) := rfl
theorem ref_xc : ReferenceIdeal.Gen.k0_pay6 X = qc (ReferenceIdeal.Gen.k0_pay4 X) := rfl
end Ref

/-! ### The kernel's payloads -/

/-- One step of the kernel's search over a column of rows. -/
def stepV (t : FVec Ideal S32x1 .f32) (b : BitVec 32) (f : IVec S32x1 32) : IVec S32x1 32 :=
  select (cmpf .oge t (bitcastToFloat .f32 (shli (addi f (broadcast S32x1 b)) (broadcast S32x1 23#32)))) (addi f (broadcast S32x1 b)) f
/-- The kernel's exponents of a column of rows. -/
def keV (a t : FVec Ideal S32x1 .f32) : IVec S32x1 32 :=
  select (ori (cmpf .oeq a (broadcast S32x1 (Scalar.ofBits (F := Ideal) .f32 0x00000000#32))) (cmpi .eq (minsi (stepV t 1#32 (stepV t 2#32 (stepV t 4#32 (stepV t 8#32 (stepV t 16#32 (stepV t 32#32 (stepV t 64#32 (stepV t 128#32 (broadcast S32x1 0#32))))))))) (broadcast S32x1 252#32)) (broadcast S32x1 0#32))) (broadcast S32x1 0#32)
    (subi (minsi (stepV t 1#32 (stepV t 2#32 (stepV t 4#32 (stepV t 8#32 (stepV t 16#32 (stepV t 32#32 (stepV t 64#32 (stepV t 128#32 (broadcast S32x1 0#32))))))))) (broadcast S32x1 252#32)) (broadcast S32x1 126#32))
/-- The scales and the inverse scales of a column of exponents. -/
def kscV (e : IVec S32x1 32) : FVec Ideal S32x1 .f32 := bitcastToFloat .f32 (shli (addi e (broadcast S32x1 127#32)) (broadcast S32x1 23#32))
def kivV (e : IVec S32x1 32) : FVec Ideal S32x1 .f32 := bitcastToFloat .f32 (shli (subi (broadcast S32x1 127#32) e) (broadcast S32x1 23#32))

theorem stepV_apply (t : FVec Ideal S32x1 .f32) (b : BitVec 32) (f : IVec S32x1 32) (i : S32x1.Idx) : stepV t b f i = Quant.qstep (t i) b (f i) := rfl
theorem keV_apply (a t : FVec Ideal S32x1 .f32) (i : S32x1.Idx) : keV a t i = Quant.ke (a i) (t i) := by
  unfold keV Quant.ke Quant.qf
  show Scalar.select (IntOp.ori _ (IntOp.cmpi .eq (IntOp.minsi (stepV _ _ _ i) _) _)) _ (IntOp.subi (IntOp.minsi (stepV _ _ _ i) _) _) = _
  simp only [stepV_apply]
  rfl
theorem kscV_eq (v : FVec Ideal S32x2560 .f32) : kscV (keV (amax v) (tmax v)) = qs v := by
  rw [← ks_eq]; funext i
  show Quant.qb (IntOp.addi (keV _ _ i) _) = Quant.qb _
  rw [keV_apply]
  rfl
theorem kivV_eq (v : FVec Ideal S32x2560 .f32) : kivV (keV (amax v) (tmax v)) = qinv v := by
  rw [← kinv_eq]; funext i
  show Quant.qb (IntOp.subi _ (keV _ _ i)) = Quant.qb _
  rw [keV_apply]
  rfl

section Ker
variable (X : Vec Ideal S32x1x2560 .bf16)
theorem ker_xs : k0_pay197 (k0_pay189 X) (k0_pay190 X) (k0_pay194 (k0_pay190 X) k0_pay191 k0_pay192 k0_pay193) (k0_pay195 (k0_pay190 X) k0_pay191 k0_pay192 k0_pay193) = qs (k0_pay188 X) := by
  rw [← kscV_eq]
  simp only [k0_pay197, k0_pay196, k0_pay195, k0_pay194, k0_pay191, k0_pay192, k0_pay193, k0_pay190, k0_pay189, kscV, keV, stepV, amax, tmax]
theorem ker_xc : k0_pay198 (k0_pay188 X) (k0_pay189 X) (k0_pay190 X) (k0_pay194 (k0_pay190 X) k0_pay191 k0_pay192 k0_pay193) (k0_pay195 (k0_pay190 X) k0_pay191 k0_pay192 k0_pay193) = qc (k0_pay188 X) := by
  rw [qc, ← kivV_eq]
  simp only [k0_pay198, k0_pay196, k0_pay195, k0_pay194, k0_pay191, k0_pay192, k0_pay193, k0_pay190, k0_pay189, kivV, keV, stepV, amax, tmax, clip]

variable (h u z : FVec Ideal S32x2560 .f32)
theorem ker_s0 : k0_pay210 (k0_pay204 (absf h)) (k0_pay205 (absf h)) (k0_pay206 (absf h)) (k0_pay207 (absf h)) (k0_pay208 (absf h)) = qs h := by
  rw [← kscV_eq]
  simp only [k0_pay210, k0_pay209, k0_pay208, k0_pay207, k0_pay206, k0_pay205, k0_pay204, kscV, kivV, keV, stepV, amax, tmax, clip]
theorem ker_c0 : k0_pay211 h (k0_pay204 (absf h)) (k0_pay205 (absf h)) (k0_pay206 (absf h)) (k0_pay207 (absf h)) (k0_pay208 (absf h)) = qc h := by
  rw [qc, ← kivV_eq]
  simp only [k0_pay211, k0_pay209, k0_pay208, k0_pay207, k0_pay206, k0_pay205, k0_pay204, kscV, kivV, keV, stepV, amax, tmax, clip]
theorem ker_s1 : k0_pay224 (k0_pay218 u z) (k0_pay219 u z) (k0_pay220 u z) (k0_pay221 u z) k0_pay222 = qs (addf u z) := by
  rw [← kscV_eq]
  simp only [k0_pay224, k0_pay223, k0_pay222, k0_pay221, k0_pay220, k0_pay219, k0_pay218, k0_pay217, kscV, kivV, keV, stepV, amax, tmax, clip]
theorem ker_c1 : k0_pay226 (k0_pay225 (k0_pay217 u z) (k0_pay218 u z) (k0_pay219 u z) (k0_pay220 u z) (k0_pay221 u z) k0_pay222) = qc (addf u z) := by
  rw [qc, ← kivV_eq]
  simp only [k0_pay226, k0_pay225, k0_pay223, k0_pay222, k0_pay221, k0_pay220, k0_pay219, k0_pay218, k0_pay217, kscV, kivV, keV, stepV, amax, tmax, clip]
theorem ker_s2 : k0_pay238 (k0_pay233 z u) (k0_pay234 z u) (k0_pay235 z u) (k0_pay236 z u) = qs (k0_pay232 z u) := by
  rw [← kscV_eq]
  simp only [k0_pay238, k0_pay237, k0_pay236, k0_pay235, k0_pay234, k0_pay233, kscV, kivV, keV, stepV, amax, tmax, clip]
theorem ker_c2 : k0_pay240 (FloatOps.ofBits .f32 1138753536#32) (k0_pay239 (k0_pay232 z u) (k0_pay233 z u) (k0_pay234 z u) (k0_pay235 z u) (k0_pay236 z u)) = qc (k0_pay232 z u) := by
  rw [qc, ← kivV_eq]
  simp only [k0_pay240, k0_pay239, k0_pay237, k0_pay236, k0_pay235, k0_pay234, k0_pay233, kscV, kivV, keV, stepV, amax, tmax, clip]
theorem ker_s3 : k0_pay250 (k0_pay246 z X) (k0_pay247 z X) (k0_pay248 z X) 4#32 = qs (k0_pay245 z X) := by
  rw [← kscV_eq]
  simp only [k0_pay250, k0_pay249, k0_pay248, k0_pay247, k0_pay246, kscV, kivV, keV, stepV, amax, tmax, clip]
theorem ker_c3 : k0_pay252 (k0_pay251 (k0_pay245 z X) (k0_pay246 z X) (k0_pay247 z X) (k0_pay248 z X) 4#32) (FloatOps.ofBits .f32 3286237184#32) (FloatOps.ofBits .f32 1138753536#32) = qc (k0_pay245 z X) := by
  rw [qc, ← kivV_eq]
  simp only [k0_pay252, k0_pay251, k0_pay249, k0_pay248, k0_pay247, k0_pay246, kscV, kivV, keV, stepV, amax, tmax, clip]
theorem ker_s4 : k0_pay264 (k0_pay258 z X) (k0_pay259 z X) (k0_pay260 z X) (k0_pay261 z X) (k0_pay262 z X) = qs (k0_pay257 z X) := by
  rw [← kscV_eq]
  simp only [k0_pay264, k0_pay263, k0_pay262, k0_pay261, k0_pay260, k0_pay259, k0_pay258, kscV, kivV, keV, stepV, amax, tmax, clip]
theorem ker_c4 : k0_pay266 (k0_pay265 (k0_pay257 z X) (k0_pay258 z X) (k0_pay259 z X) (k0_pay260 z X) (k0_pay261 z X) (k0_pay262 z X)) = qc (k0_pay257 z X) := by
  rw [qc, ← kivV_eq]
  simp only [k0_pay266, k0_pay265, k0_pay263, k0_pay262, k0_pay261, k0_pay260, k0_pay259, k0_pay258, kscV, kivV, keV, stepV, amax, tmax, clip]

variable (w : Vec Ideal S1x2560x2560 .fp8e4m3) (sr br : Vec Ideal S1x2560 .f32)
/-- Each head's residual block. -/
theorem ker_h0 : k0_pay202 (qs (k0_pay188 X)) (qc (k0_pay188 X)) w sr br X = hV (k0_pay188 X) (shapeCast S2560x2560 w shapeCasts_S1x2560x2560_S2560x2560) sr br := rfl
theorem ker_h1 : addf (k0_pay215 X) (k0_pay216 (qs (k0_pay188 X)) (qc (k0_pay188 X)) w sr br) = hV (k0_pay188 X) (shapeCast S2560x2560 w shapeCasts_S1x2560x2560_S2560x2560) sr br := rfl
theorem ker_h2 : k0_pay232 (k0_pay230 (qs (k0_pay188 X)) (qc (k0_pay188 X)) w sr br) (k0_pay231 X) = hV (k0_pay188 X) (shapeCast S2560x2560 w shapeCasts_S1x2560x2560_S2560x2560) sr br := rfl
theorem ker_h3 : k0_pay245 (k0_pay244 (qs (k0_pay188 X)) (qc (k0_pay188 X)) w sr br) X = hV (k0_pay188 X) (shapeCast S2560x2560 w shapeCasts_S1x2560x2560_S2560x2560) sr br := rfl
theorem ker_h4 : k0_pay257 (k0_pay256 (qs (k0_pay188 X)) (qc (k0_pay188 X)) w sr br) X = hV (k0_pay188 X) (shapeCast S2560x2560 w shapeCasts_S1x2560x2560_S2560x2560) sr br := rfl
end Ker

end Cert.Proof.Medusa
-- ==== Proof.Medusa.Spec.lean ====
/-
  What the programs compute, over the extended reals, as functions of the arguments: head `k`'s hidden row (`hk`), its
  logits (`Lk`), and the log of the sum of exponentials of a row of logits (`lseRow`).
-/
module

public import proofs.«01_k».proof.Proof.Medusa.Heads
public import proofs.«01_k».proof.Proof.Medusa.Online
public import Idealize.ShloMosaic.Lib.ValueIdxCore

@[expose] public section

noncomputable section

namespace Cert.Proof.Medusa

open Cert.KernelIdeal Cert.KernelIdeal.Gen
open Idealize.ShloMosaic
open Idealize.ShloMosaic.ValueIdx

/-- Matrix `k` of a stack of five. -/
def wk (W : FVec Ideal S5x2560x2560 .fp8e4m3) (k : Fin 5) : FVec Ideal S2560x2560 .fp8e4m3 := fun i => W (ix3 k (i 0) (i 1))
/-- Row `k` of five. -/
def rk (R : FVec Ideal S5x2560 .f32) (k : Fin 5) : FVec Ideal S1x2560 .f32 := fun i => R (ix2 k (i 1))

section
variable (X : FVec Ideal S32x1x2560 .bf16) (W : FVec Ideal S5x2560x2560 .fp8e4m3) (SR BR : FVec Ideal S5x2560 .f32) (WV : FVec Ideal S2560x152064 .fp8e4m3) (SV : FVec Ideal S1x152064 .f32)

/-- Head `k`'s hidden rows. -/
def hk (k : Fin 5) : FVec Ideal S32x2560 .f32 := hV (k0_pay188 X) (wk W k) (rk SR k) (rk BR k)

/-- A logit: the codes' product with a column, times the row's scale, times the column's. -/
def logit (C : Fin 2560 → EReal) (s : EReal) (W : S2560x152064.Idx → EReal) (V : S1x152064.Idx → EReal) (v : Fin 152064) : EReal :=
  (∑ d : Fin 2560, C d * W (ix2 d v)) * s * V (ix2 0 v)

/-- Head `k`'s logits in row `r`. -/
def Lk (k : Fin 5) (r : Fin 32) : Fin 152064 → EReal :=
  logit (fun d => qc (hk X W SR BR k) (ix2 r d)) (qs (hk X W SR BR k) (ix2 r 0)) WV SV
end

/-- A row's log of the sum of exponentials, by its maximum. -/
def lseRow (L : Fin 152064 → EReal) : EReal := Online.mxRow L + Ideal.log (∑ v : Fin 152064, Ideal.exp (L v - Online.mxRow L))

end Cert.Proof.Medusa
-- ==== Proof.Medusa.Logit.lean ====
/-
  A block of logits of the loop, elementwise over the extended reals: the product of a row of codes with a column of
  the vocabulary matrix, times the row's scale, times the column's scale (`lgb_apply`). On the way: what a slot of a
  ring reads after it was filled (`slot_read_write`), and the loop's reads of the ring and of the scales.
-/
module

public import proofs.«01_k».proof.Proof.Medusa.Lanes
public import proofs.«01_k».proof.Proof.Medusa.Spec
public import Idealize.ShloMosaic.Lib.MatmulPlain
public import Idealize.ShloMosaic.Lib.Exec.Geometry
public import Idealize.ShloMosaic.Lib.ValueLayoutCasts

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

section Slot
variable {F : FTy → Type} [FloatOps F] {A B : ℕ} {e : EltTy} {sp : Space} (v : View sig .tc sp ⟨3, ![5, A, B]⟩ e) (s : Fin 5)
  (inb : ∀ a, (![s.val, 0, 0] : Fin 3 → ℕ) a + (![1, A, B] : Fin 3 → ℕ) a ≤ (⟨3, ![5, A, B]⟩ : Shape).size a)
  (h : (⟨2, ![A, B]⟩ : Shape).numel = (⟨3, ![1, A, B]⟩ : Shape).numel)

/-- Slot `s` of a buffer of five, its unit axis dropped. -/
abbrev slotV : View sig .tc sp ⟨2, ![A, B]⟩ e := (v.slice (Rect.unit (s := ⟨3, ![5, A, B]⟩) ![s.val, 0, 0] ![1, A, B] inb)).reshape ⟨2, ![A, B]⟩ h

theorem slot_emb (a : Fin A) (b : Fin B) : (slotV v s inb h).emb (ix2 a b) = v.emb (ix3 s a b) := by
  show v.emb _ = _
  congr 1
  have e := shapeCast_1ab_ab_apply (fun i : (⟨3, ![1, A, B]⟩ : Shape).Idx => i) h a b
  have e : Shape.reshapeEquiv h (ix2 a b) = ix3 (0 : Fin 1) a b := e
  show (Rect.unit (s := ⟨3, ![5, A, B]⟩) ![s.val, 0, 0] ![1, A, B] inb).emb (Shape.reshapeEquiv h (ix2 a b)) = _
  rw [e]
  funext x
  apply Fin.ext
  match x with
  | 0 => show s.val + 1 * 0 = s.val; omega
  | 1 => show 0 + 1 * a.val = a.val; omega
  | 2 => show 0 + 1 * b.val = b.val; omega
/-- A filled slot, read through the buffer. -/
theorem slot_read_write (f : v.ty.Contents (Elt F)) (w : Vec F ⟨2, ![A, B]⟩ e) (a : Fin A) (b : Fin B) :
    v.read (Elt F) ((slotV v s inb h).write (Elt F) f w Finset.univ) (ix3 s a b) = w (ix2 a b) := by
  have := congrFun (View.read_write_univ (v := slotV v s inb h) (Val := Elt F) f w) (ix2 a b)
  rw [View.read_apply, slot_emb] at this
  exact this
theorem slot_read (f : v.ty.Contents (Elt F)) (a : Fin A) (b : Fin B) : (slotV v s inb h).read (Elt F) f (ix2 a b) = v.read (Elt F) f (ix3 s a b) := by
  rw [View.read_apply, slot_emb]; rfl
end Slot

variable (c : Dev nD) (XW : Buf (Elt Ideal) (wvM.view.loc (c : Thread nD τ))) (x : Rd (F := Ideal) c)

theorem off5_eq (k : Fin k0_t1_loop.trips) (j : Fin 3) (b : Fin 4) :
    k0_off5 k (BitVec.ofNat 32 (4 * j.val)) (BitVec.ofNat 32 b.val) = ![0, (12 * k.val + 4 * j.val + b.val) * 128] := by
  have hk := trip_lt k; have hj := j.isLt; have hb := b.isLt
  show (![0, _] : Fin 2 → ℕ) = _
  have e : (((0#32 + BitVec.ofNat 32 k.val * 1#32) * 12#32 + BitVec.ofNat 32 (4 * j.val) + BitVec.ofNat 32 b.val) * 128#32).toNat = (12 * k.val + 4 * j.val + b.val) * 128 := by
    simp only [BitVec.toNat_add, BitVec.toNat_mul, BitVec.toNat_ofNat]
    omega
  exact congrArg (fun n => (![0, n] : Fin 2 → ℕ)) e

theorem sv_apply (k : Fin k0_t1_loop.trips) (j : Fin 3) (b : Fin 4) (l : Fin 128) (hv : 128 * (12 * k.val + 4 * j.val + b.val) + l.val < 152064) :
    svRd c k x j b (ix2 0 l) = (View.read (Elt Ideal) (Memref.whole cc0_scratch3).view x.sv) (ix2 0 ⟨128 * (12 * k.val + 4 * j.val + b.val) + l.val, hv⟩) := by
  unfold svRd
  rw [View.readAt_apply]
  congr 1
  funext a
  apply Fin.ext
  have e := off5_eq k j b
  match a with
  | 0 => show k0_off5 k (BitVec.ofNat 32 (4 * j.val)) (BitVec.ofNat 32 b.val) 0 + 1 * 0 = 0; rw [e]; rfl
  | 1 => show k0_off5 k (BitVec.ofNat 32 (4 * j.val)) (BitVec.ofNat 32 b.val) 1 + 1 * l.val = _; rw [e]; show (12 * k.val + 4 * j.val + b.val) * 128 + 1 * l.val = 128 * (12 * k.val + 4 * j.val + b.val) + l.val; omega

theorem wOff_eq (k : Fin k0_t1_loop.trips) (j : Fin 3) : wOff k j = ![(Ring.sl 5 k.val).val, 0, 512 * j.val] := by
  match j with
  | 0 => exact off4_eq k
  | 1 => exact off6_eq k
  | 2 => exact off7_eq k

theorem wsub_apply (k : Fin k0_t1_loop.trips) (j : Fin 3) (d : Fin 2560) (q : Fin 512) (hv : 1536 * k.val + 512 * j.val + q.val < 152064) :
    wsub c XW k j (ix3 0 d q) = View.read (Elt Ideal) wvM.view XW (ix2 d ⟨1536 * k.val + 512 * j.val + q.val, hv⟩) := by
  have hk := trip_lt k; have hj := j.isLt; have hq := q.isLt
  unfold wsub
  have e : (Rect.unit (s := S5x2560x1536) (wOff k j) S1x2560x512.size (wOff_inb k j)).toLoadRect.idx (ix3 0 d q) = ix3 (Ring.sl 5 k.val) d ⟨512 * j.val + q.val, by omega⟩ := by
    funext a
    apply Fin.ext
    have e := wOff_eq k j
    match a with
    | 0 => show wOff k j 0 + 1 * 0 = _; rw [e]; rfl
    | 1 => show wOff k j 1 + 1 * d.val = d.val; rw [e]; show 0 + 1 * d.val = d.val; omega
    | 2 => show wOff k j 2 + 1 * q.val = 512 * j.val + q.val; rw [e]; show 512 * j.val + 1 * q.val = _; omega
  have ew := View.write_univ_eq_writes_whole (rslot (Ring.sl 5 k.val)).view (Val := Elt Ideal) (rslot (Ring.sl 5 k.val)).view.junk [] (payload c XW (Ring.bk 99 k.val))
  rw [View.writes_nil] at ew
  show View.read (Elt Ideal) ringM.view ((rslot (Ring.sl 5 k.val)).view.writes (Elt Ideal) (rslot (Ring.sl 5 k.val)).view.junk [⟨Rect.whole S2560x1536, payload c XW (Ring.bk 99 k.val)⟩])
    ((Rect.unit (s := S5x2560x1536) (wOff k j) S1x2560x512.size (wOff_inb k j)).toLoadRect.idx (ix3 0 d q)) = _
  rw [e, ← ew]
  refine (slot_read_write (F := Ideal) ringM.view (Ring.sl 5 k.val) _ _ _ _ d _).trans ?_
  unfold payload blk
  show View.read (Elt Ideal) wvM.view XW _ = _
  congr 1
  funext a
  apply Fin.ext
  match a with
  | 0 => show 0 + 1 * d.val = d.val; omega
  | 1 => show (Ring.bk 99 k.val).val * 1536 + 1 * (512 * j.val + q.val) = 1536 * k.val + 512 * j.val + q.val; rw [Ring.bk_val hk]; omega

theorem hcRd_apply (r : Fin 160) (d : Fin 2560) : hcRd c x (ix2 r d) = View.read (Elt Ideal) (Memref.whole cc0_scratch7).view x.hc (ix2 r d) := by
  unfold hcRd
  rw [View.readAt_apply]
  congr 1
  funext a
  apply Fin.ext
  match a with
  | 0 => show 0 + 1 * r.val = r.val; omega
  | 1 => show 0 + 1 * d.val = d.val; omega

theorem zero_bits : Ideal.ofBits .f32 0x00000000#32 = 0 := by simp [Ideal.ofBits, Ideal.ieee]

theorem pay1_apply (w : Vec Ideal S1x2560x512 .fp8e4m3) (h : Vec Ideal S160x2560 .fp8e4m3) (r : Fin 160) (q : Fin 512) :
    k0_pay1 w h (ix2 r q) = ∑ d : Fin 2560, h (ix2 r d) * w (ix3 0 d q) := by
  refine (Ideal.matmul_plain_apply none h (shapeCast S2560x512 w shapeCasts_S1x2560x512_S2560x512) (constant S160x512 .f32 0x00000000#32) r q).trans ?_
  rw [show constant (F := Ideal) S160x512 .f32 0x00000000#32 (ix2 r q) = 0 from zero_bits, zero_add]
  exact Finset.sum_congr rfl fun d _ => congrArg (h (ix2 r d) * ·) (shapeCast_1ab_ab_apply w _ d q)

/-- Block `b` of sub-block `j` of trip `k`, elementwise. -/
theorem lgb_apply (k : Fin k0_t1_loop.trips) (j : Fin 3) (g : Fin 5) (b : Fin 4) (r : Fin 32) (l : Fin 128)
    (C : Fin 2560 → EReal) (s : EReal)
    (hC : ∀ d, View.read (Elt Ideal) (Memref.whole cc0_scratch7).view x.hc (ix2 ⟨32 * g.val + r.val, by have := g.isLt; have := r.isLt; omega⟩ d) = C d)
    (hs : slab (Memref.whole cc0_scratch8) x.hs g (ix2 r l) = s) :
    lgb c XW k x j g b (ix2 r l) = Online.laneF (logit C s (View.read (Elt Ideal) wvM.view XW) (View.read (Elt Ideal) (Memref.whole cc0_scratch3).view x.sv)) l (12 * k.val + 4 * j.val + b.val) := by
  have hk := trip_lt k; have hj := j.isLt; have hb := b.isLt; have hl := l.isLt; have hg := g.isLt; have hr := r.isLt
  have hv : 128 * (12 * k.val + 4 * j.val + b.val) + l.val < 152064 := by omega
  rw [Online.laneF, dif_pos hv, logit]
  have e1 : extractStridedSlice S32x128 ![32 * g.val, 128 * b.val] (k0_pay1 (wsub c XW k j) (hcRd c x)) (lgOff_ok g b) (ix2 r l)
      = ∑ d : Fin 2560, C d * View.read (Elt Ideal) wvM.view XW (ix2 d ⟨128 * (12 * k.val + 4 * j.val + b.val) + l.val, hv⟩) := by
    have e0 : extractStridedSlice S32x128 ![32 * g.val, 128 * b.val] (k0_pay1 (wsub c XW k j) (hcRd c x)) (lgOff_ok g b) (ix2 r l)
        = k0_pay1 (wsub c XW k j) (hcRd c x) (ix2 ⟨32 * g.val + r.val, by omega⟩ ⟨128 * b.val + l.val, by omega⟩) := by
      refine extractStridedSlice_apply _ _ _ _ _ fun a => ?_
      match a with
      | 0 => rfl
      | 1 => rfl
    rw [e0, pay1_apply]
    refine Finset.sum_congr rfl fun d _ => ?_
    rw [hcRd_apply, hC, wsub_apply c XW k j d _ (by show 1536 * k.val + 512 * j.val + (128 * b.val + l.val) < 152064; omega)]
    congr 3
    apply Fin.ext
    show 1536 * k.val + 512 * j.val + (128 * b.val + l.val) = 128 * (12 * k.val + 4 * j.val + b.val) + l.val
    omega
  show extractStridedSlice S32x128 ![32 * g.val, 128 * b.val] (k0_pay1 (wsub c XW k j) (hcRd c x)) (lgOff_ok g b) (ix2 r l) * slab (Memref.whole cc0_scratch8) x.hs g (ix2 r l)
    * broadcastTo S32x128 (svRd c k x j b) broadcasts_S1x128_S32x128 (ix2 r l) = _
  rw [e1, hs, broadcastTo_1b_ab_apply, sv_apply c x k j b l hv]

end Cert.Proof.Medusa
-- ==== Proof.Medusa.BodyHeads.lean ====
/-
  The kernel's quantised activations and its five heads, as its body computes them: each is what `Heads` states of the
  arguments read whole. `h_k`, `s_k` and `c_k` are head `k`'s hidden rows, scales and codes.
-/
module

public import proofs.«01_k».proof.Proof.Medusa.Body
public import proofs.«01_k».proof.Proof.Medusa.Logit

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

section Reads
variable {F : FTy → Type} [FloatOps F] {sp : Space} {e : EltTy}

/-- A buffer written whole and read whole. -/
theorem ra_whole {t : Shape} (v : View sig .tc sp t e) (off : Fin t.rank → ℕ) (h : ∀ a, off a = 0) (inb) (f : v.ty.Contents (Elt F)) (w : Vec F t e) :
    v.readAt (Elt F) (Rect.unit (s := t) off t.size inb).toLoadRect (v.write (Elt F) f w Finset.univ) = w := by
  funext i
  rw [View.readAt_apply, View.read_write_univ]
  congr 1
  funext a
  apply Fin.ext
  show off a + 1 * (i a).val = (i a).val
  rw [h a]; omega
/-- A row of a buffer written whole. -/
theorem ra_row (v : View sig .tc sp S5x2560 e) (k : Fin 5) (inb : ∀ a, (![k.val, 0] : Fin 2 → ℕ) a + S1x2560.size a ≤ S5x2560.size a) (f : v.ty.Contents (Elt F)) (w : Vec F S5x2560 e) (i : S1x2560.Idx) :
    v.readAt (Elt F) (Rect.unit (s := S5x2560) ![k.val, 0] S1x2560.size inb).toLoadRect (v.write (Elt F) f w Finset.univ) i = w (ix2 k (i 1)) := by
  rw [View.readAt_apply, View.read_write_univ]
  congr 1
  funext a
  apply Fin.ext
  have h0 : (i 0).val < 1 := (i 0).isLt
  match a with
  | 0 => show k.val + 1 * (i 0).val = k.val; omega
  | 1 => show 0 + 1 * (i 1).val = (i 1).val; omega
/-- A head's matrix, read out of its slot after the copy. -/
theorem ra_head (k : Fin 5) (inb : ∀ a, (![k.val, 0, 0] : Fin 3 → ℕ) a + S1x2560x2560.size a ≤ S5x2560x2560.size a) (p : Vec F S2560x2560 .fp8e4m3) (a : Fin 2560) (b : Fin 2560) :
    View.readAt (Elt F) headsM.view (Rect.unit (s := S5x2560x2560) ![k.val, 0, 0] S1x2560x2560.size inb).toLoadRect
      ((wslot k).view.writes (Elt F) (wslot k).view.junk [⟨Rect.whole S2560x2560, p⟩]) (ix3 0 a b) = p (ix2 a b) := by
  have ew := View.write_univ_eq_writes_whole (wslot k).view (Val := Elt F) (wslot k).view.junk [] p
  rw [View.writes_nil] at ew
  show View.read (Elt F) headsM.view ((wslot k).view.writes (Elt F) (wslot k).view.junk [⟨Rect.whole S2560x2560, p⟩])
    ((Rect.unit (s := S5x2560x2560) ![k.val, 0, 0] S1x2560x2560.size inb).toLoadRect.idx (ix3 0 a b)) = _
  have e : (Rect.unit (s := S5x2560x2560) ![k.val, 0, 0] S1x2560x2560.size inb).toLoadRect.idx (ix3 0 a b) = ix3 k a b := by
    funext x
    apply Fin.ext
    match x with
    | 0 => show k.val + 1 * 0 = k.val; omega
    | 1 => show 0 + 1 * a.val = a.val; omega
    | 2 => show 0 + 1 * b.val = b.val; omega
  rw [e, ← ew]
  exact slot_read_write headsM.view k _ _ _ _ a b
end Reads

variable (c : Dev nD) (x : Ins (F := Ideal) c) (s : Scr (F := Ideal) c)

/-- The arguments as the body finds them. -/
abbrev inX : FVec Ideal S32x1x2560 .bf16 := View.read (Elt Ideal) (Memref.whole main_arg0).view x.x
abbrev inW : FVec Ideal S5x2560x2560 .fp8e4m3 := View.read (Elt Ideal) (Memref.whole main_arg1).view x.wr
abbrev inS : FVec Ideal S5x2560 .f32 := View.read (Elt Ideal) (Memref.whole main_arg2).view x.sr
abbrev inB : FVec Ideal S5x2560 .f32 := View.read (Elt Ideal) (Memref.whole main_arg3).view x.br
/-- Head `k`'s hidden rows. -/
abbrev hB (k : Fin 5) : FVec Ideal S32x2560 .f32 := hk (inX c x) (inW c x) (inS c x) (inB c x) k

theorem v72_eq : bodyRun.sl.v72 c x s = inX c x := by
  rw [bodyRun.sl.v72]
  exact ra_whole (F := Ideal) (Memref.whole cc0_scratch0).view ![0, 0, 0] (by decide) _ s.f0 (inX c x)

theorem r5_eq : bodyRun.sl.r_5 c x s = qs (k0_pay188 (inX c x)) := by
  rw [bodyRun.sl.r_5, bodyRun.sl.r_1, bodyRun.sl.r_3, bodyRun.sl.r_4, bodyRun.sl.r_2, v72_eq]
  exact ker_xs _
theorem r6_eq : bodyRun.sl.r_6 c x s = qc (k0_pay188 (inX c x)) := by
  rw [bodyRun.sl.r_6, bodyRun.sl.r, bodyRun.sl.r_1, bodyRun.sl.r_3, bodyRun.sl.r_4, bodyRun.sl.r_2, v72_eq]
  exact ker_xc _

theorem w_0 : shapeCast S2560x2560 (bodyRun.sl.v187 c x) shapeCasts_S1x2560x2560_S2560x2560 = wk (inW c x) 0 := by
  funext i
  rw [eq_ix2 i]
  refine (shapeCast_1ab_ab_apply _ _ _ _).trans ?_
  rw [bodyRun.sl.v187]
  refine (ra_head (F := Ideal) 0 _ (bodyRun.sl.dma0_3 c x) (i 0) (i 1)).trans ?_
  exact slot_read (F := Ideal) (Memref.whole main_arg1).view 0 _ _ x.wr (i 0) (i 1)
theorem a_0 : bodyRun.sl.v192 c x s = rk (inS c x) 0 := by
  rw [bodyRun.sl.v192]
  exact funext fun i => ra_row (F := Ideal) (Memref.whole cc0_scratch1).view 0 _ s.f1 (inS c x) i
theorem b_0 : bodyRun.sl.v195 c x s = rk (inB c x) 0 := by
  rw [bodyRun.sl.v195]
  exact funext fun i => ra_row (F := Ideal) (Memref.whole cc0_scratch2).view 0 _ s.f2 (inB c x) i

theorem w_1 : shapeCast S2560x2560 (bodyRun.sl.v313 c x) shapeCasts_S1x2560x2560_S2560x2560 = wk (inW c x) 1 := by
  funext i
  rw [eq_ix2 i]
  refine (shapeCast_1ab_ab_apply _ _ _ _).trans ?_
  rw [bodyRun.sl.v313]
  refine (ra_head (F := Ideal) 1 _ (bodyRun.sl.dma0_4 c x) (i 0) (i 1)).trans ?_
  exact slot_read (F := Ideal) (Memref.whole main_arg1).view 1 _ _ x.wr (i 0) (i 1)
theorem a_1 : bodyRun.sl.v318 c x s = rk (inS c x) 1 := by
  rw [bodyRun.sl.v318]
  exact funext fun i => ra_row (F := Ideal) (Memref.whole cc0_scratch1).view 1 _ s.f1 (inS c x) i
theorem b_1 : bodyRun.sl.v321 c x s = rk (inB c x) 1 := by
  rw [bodyRun.sl.v321]
  exact funext fun i => ra_row (F := Ideal) (Memref.whole cc0_scratch2).view 1 _ s.f2 (inB c x) i

theorem w_2 : shapeCast S2560x2560 (bodyRun.sl.v439 c x) shapeCasts_S1x2560x2560_S2560x2560 = wk (inW c x) 2 := by
  funext i
  rw [eq_ix2 i]
  refine (shapeCast_1ab_ab_apply _ _ _ _).trans ?_
  rw [bodyRun.sl.v439]
  refine (ra_head (F := Ideal) 2 _ (bodyRun.sl.dma0_5 c x) (i 0) (i 1)).trans ?_
  exact slot_read (F := Ideal) (Memref.whole main_arg1).view 2 _ _ x.wr (i 0) (i 1)
theorem a_2 : bodyRun.sl.v444 c x s = rk (inS c x) 2 := by
  rw [bodyRun.sl.v444]
  exact funext fun i => ra_row (F := Ideal) (Memref.whole cc0_scratch1).view 2 _ s.f1 (inS c x) i
theorem b_2 : bodyRun.sl.v447 c x s = rk (inB c x) 2 := by
  rw [bodyRun.sl.v447]
  exact funext fun i => ra_row (F := Ideal) (Memref.whole cc0_scratch2).view 2 _ s.f2 (inB c x) i

theorem w_3 : shapeCast S2560x2560 (bodyRun.sl.v565 c x) shapeCasts_S1x2560x2560_S2560x2560 = wk (inW c x) 3 := by
  funext i
  rw [eq_ix2 i]
  refine (shapeCast_1ab_ab_apply _ _ _ _).trans ?_
  rw [bodyRun.sl.v565]
  refine (ra_head (F := Ideal) 3 _ (bodyRun.sl.dma0_6 c x) (i 0) (i 1)).trans ?_
  exact slot_read (F := Ideal) (Memref.whole main_arg1).view 3 _ _ x.wr (i 0) (i 1)
theorem a_3 : bodyRun.sl.v570 c x s = rk (inS c x) 3 := by
  rw [bodyRun.sl.v570]
  exact funext fun i => ra_row (F := Ideal) (Memref.whole cc0_scratch1).view 3 _ s.f1 (inS c x) i
theorem b_3 : bodyRun.sl.v573 c x s = rk (inB c x) 3 := by
  rw [bodyRun.sl.v573]
  exact funext fun i => ra_row (F := Ideal) (Memref.whole cc0_scratch2).view 3 _ s.f2 (inB c x) i

theorem w_4 : shapeCast S2560x2560 (bodyRun.sl.v691 c x) shapeCasts_S1x2560x2560_S2560x2560 = wk (inW c x) 4 := by
  funext i
  rw [eq_ix2 i]
  refine (shapeCast_1ab_ab_apply _ _ _ _).trans ?_
  rw [bodyRun.sl.v691]
  refine (ra_head (F := Ideal) 4 _ (bodyRun.sl.dma0_7 c x) (i 0) (i 1)).trans ?_
  exact slot_read (F := Ideal) (Memref.whole main_arg1).view 4 _ _ x.wr (i 0) (i 1)
theorem a_4 : bodyRun.sl.v696 c x s = rk (inS c x) 4 := by
  rw [bodyRun.sl.v696]
  exact funext fun i => ra_row (F := Ideal) (Memref.whole cc0_scratch1).view 4 _ s.f1 (inS c x) i
theorem b_4 : bodyRun.sl.v699 c x s = rk (inB c x) 4 := by
  rw [bodyRun.sl.v699]
  exact funext fun i => ra_row (F := Ideal) (Memref.whole cc0_scratch2).view 4 _ s.f2 (inB c x) i

theorem h_0 : bodyRun.sl.r_7 c x s = hB c x 0 := by
  rw [bodyRun.sl.r_7, r5_eq, r6_eq, a_0, b_0, v72_eq, ker_h0, w_0]; rfl
theorem p_0 : bodyRun.sl.r_8 c x s = absf (bodyRun.sl.r_7 c x s) := rfl
theorem s_0 : bodyRun.sl.r_14 c x s = qs (hB c x 0) := by
  rw [bodyRun.sl.r_14, bodyRun.sl.r_9, bodyRun.sl.r_10, bodyRun.sl.r_11, bodyRun.sl.r_12, bodyRun.sl.r_13, p_0, h_0, ker_s0]
theorem c_0 : bodyRun.sl.r_15 c x s = qc (hB c x 0) := by
  rw [bodyRun.sl.r_15, bodyRun.sl.r_9, bodyRun.sl.r_10, bodyRun.sl.r_11, bodyRun.sl.r_12, bodyRun.sl.r_13, p_0, h_0, ker_c0]

theorem h_1 : addf (bodyRun.sl.r_17 c x s) (bodyRun.sl.r_18 c x s) = hB c x 1 := by
  rw [bodyRun.sl.r_17, bodyRun.sl.r_18, r5_eq, r6_eq, a_1, b_1, v72_eq, ker_h1, w_1]; rfl
theorem s_1 : bodyRun.sl.r_24 c x s = qs (hB c x 1) := by
  rw [bodyRun.sl.r_24, bodyRun.sl.r_20, bodyRun.sl.r_21, bodyRun.sl.r_22, bodyRun.sl.r_23, ker_s1, h_1]
theorem c_1 : k0_pay226 (bodyRun.sl.r_25 c x s) = qc (hB c x 1) := by
  rw [bodyRun.sl.r_25, bodyRun.sl.r_19, bodyRun.sl.r_20, bodyRun.sl.r_21, bodyRun.sl.r_22, bodyRun.sl.r_23, ker_c1, h_1]

theorem h_2 : bodyRun.sl.r_30 c x s = hB c x 2 := by
  rw [bodyRun.sl.r_30, bodyRun.sl.r_28, bodyRun.sl.r_29, r5_eq, r6_eq, a_2, b_2, v72_eq, ker_h2, w_2]; rfl
theorem s_2 : bodyRun.sl.r_35 c x s = qs (hB c x 2) := by
  rw [bodyRun.sl.r_35, bodyRun.sl.r_31, bodyRun.sl.r_32, bodyRun.sl.r_33, bodyRun.sl.r_34, ker_s2, ← bodyRun.sl.r_30, h_2]
theorem c_2 : k0_pay240 bodyRun.sl.cst_244 (bodyRun.sl.r_36 c x s) = qc (hB c x 2) := by
  rw [bodyRun.sl.cst_244, bodyRun.sl.r_36, bodyRun.sl.r_30, bodyRun.sl.r_31, bodyRun.sl.r_32, bodyRun.sl.r_33, bodyRun.sl.r_34, ker_c2, ← bodyRun.sl.r_30, h_2]

theorem h_3 : bodyRun.sl.r_40 c x s = hB c x 3 := by
  rw [bodyRun.sl.r_40, bodyRun.sl.r_39, r5_eq, r6_eq, a_3, b_3, v72_eq, ker_h3, w_3]; rfl
theorem s_3 : bodyRun.sl.r_44 c x s = qs (hB c x 3) := by
  rw [bodyRun.sl.r_44, bodyRun.sl.r_41, bodyRun.sl.r_42, bodyRun.sl.r_43, ker_s3, ← bodyRun.sl.r_40, h_3]
theorem c_3 : k0_pay252 (bodyRun.sl.r_45 c x s) bodyRun.sl.cst_294 bodyRun.sl.cst_244 = qc (hB c x 3) := by
  rw [bodyRun.sl.cst_294, bodyRun.sl.cst_244, bodyRun.sl.r_45, bodyRun.sl.r_40, bodyRun.sl.r_41, bodyRun.sl.r_42, bodyRun.sl.r_43, ker_c3, ← bodyRun.sl.r_40, h_3]

theorem h_4 : bodyRun.sl.r_49 c x s = hB c x 4 := by
  rw [bodyRun.sl.r_49, bodyRun.sl.r_48, r5_eq, r6_eq, a_4, b_4, v72_eq, ker_h4, w_4]; rfl
theorem s_4 : bodyRun.sl.r_55 c x s = qs (hB c x 4) := by
  rw [bodyRun.sl.r_55, bodyRun.sl.r_50, bodyRun.sl.r_51, bodyRun.sl.r_52, bodyRun.sl.r_53, bodyRun.sl.r_54, ker_s4, ← bodyRun.sl.r_49, h_4]
theorem c_4 : k0_pay266 (bodyRun.sl.r_56 c x s) = qc (hB c x 4) := by
  rw [bodyRun.sl.r_56, bodyRun.sl.r_49, bodyRun.sl.r_50, bodyRun.sl.r_51, bodyRun.sl.r_52, bodyRun.sl.r_53, bodyRun.sl.r_54, ker_c4, ← bodyRun.sl.r_49, h_4]

end Cert.Proof.Medusa
-- ==== Proof.Medusa.BodyLoop.lean ====
/-
  The loop within the kernel's body: what the buffers hold when it starts (`hc_rows`, `hs_slab`, `lo_slab`, `hi_slab`,
  `inv_start`), and so what its three running arrays hold when it ends (`inv_end`).
-/
module

public import proofs.«01_k».proof.Proof.Medusa.BodyHeads

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

section Pieces
variable {F : FTy → Type} [FloatOps F] {sp : Space} {e : EltTy} {N n : ℕ} (v : View sig .tc sp ⟨2, ![160, N]⟩ e) (f : v.ty.Contents (Elt F))

/-- A store of `n` columns of 32 rows from row `o` on. -/
abbrev rp (o : ℕ) (inb : ∀ a, (![o, 0] : Fin 2 → ℕ) a + (![32, n] : Fin 2 → ℕ) a ≤ (⟨2, ![160, N]⟩ : Shape).size a) (w : Vec F ⟨2, ![32, n]⟩ e) : View.Piece (Elt F) ⟨2, ![160, N]⟩ e :=
  ⟨Rect.unit (s := ⟨2, ![160, N]⟩) ![o, 0] ![32, n] inb, w⟩
theorem rp_hit {o : ℕ} (inb) (w : Vec F ⟨2, ![32, n]⟩ e) (L) (r : Fin 32) (d : Fin n) (y : Fin 160) (d' : Fin N) (hy : y.val = o + r.val) (hd : d'.val = d.val) :
    v.read (Elt F) (v.writes (Elt F) f (rp o inb w :: L)) (ix2 y d') = w (ix2 r d) := by
  refine View.read_writes_cons_hit_of_coords v f (Rect.unit (s := ⟨2, ![160, N]⟩) ![o, 0] ![32, n] inb) w L (ix2 r d) (ix2 y d') fun a => ?_
  match a with
  | 0 => show y.val = o + 1 * r.val; omega
  | 1 => show d'.val = 0 + 1 * d.val; omega
theorem rp_miss {o : ℕ} (inb) (w : Vec F ⟨2, ![32, n]⟩ e) (L) (y : Fin 160) (d' : Fin N) (hy : y.val < o ∨ o + 32 ≤ y.val) :
    v.read (Elt F) (v.writes (Elt F) f (rp o inb w :: L)) (ix2 y d') = v.read (Elt F) (v.writes (Elt F) f L) (ix2 y d') :=
  View.read_writes_cons_miss_of_axis v f _ L _ 0 o 32 rfl rfl rfl hy
/-- Five such stores, read back. -/
theorem rp5 (i0 i1 i2 i3 i4) (w : Fin 5 → Vec F ⟨2, ![32, n]⟩ e) (L) (g : Fin 5) (r : Fin 32) (d : Fin n) (y : Fin 160) (d' : Fin N) (hy : y.val = 32 * g.val + r.val) (hd : d'.val = d.val) :
    v.read (Elt F) (v.writes (Elt F) f (rp 128 i4 (w 4) :: rp 96 i3 (w 3) :: rp 64 i2 (w 2) :: rp 32 i1 (w 1) :: rp 0 i0 (w 0) :: L)) (ix2 y d') = w g (ix2 r d) := by
  have hr := r.isLt
  match g with
  | 0 =>
    have hy : y.val = 32 * 0 + r.val := hy
    rw [rp_miss v f i4 _ _ _ _ (by omega), rp_miss v f i3 _ _ _ _ (by omega), rp_miss v f i2 _ _ _ _ (by omega), rp_miss v f i1 _ _ _ _ (by omega)]
    exact rp_hit v f i0 _ _ r d y d' (by omega) hd
  | 1 =>
    have hy : y.val = 32 * 1 + r.val := hy
    rw [rp_miss v f i4 _ _ _ _ (by omega), rp_miss v f i3 _ _ _ _ (by omega), rp_miss v f i2 _ _ _ _ (by omega)]
    exact rp_hit v f i1 _ _ r d y d' (by omega) hd
  | 2 =>
    have hy : y.val = 32 * 2 + r.val := hy
    rw [rp_miss v f i4 _ _ _ _ (by omega), rp_miss v f i3 _ _ _ _ (by omega)]
    exact rp_hit v f i2 _ _ r d y d' (by omega) hd
  | 3 =>
    have hy : y.val = 32 * 3 + r.val := hy
    rw [rp_miss v f i4 _ _ _ _ (by omega)]
    exact rp_hit v f i3 _ _ r d y d' (by omega) hd
  | 4 =>
    have hy : y.val = 32 * 4 + r.val := hy
    exact rp_hit v f i4 _ _ r d y d' (by omega) hd
end Pieces

theorem slab_apply {F : FTy → Type} [FloatOps F] {e : EltTy} (M : Memref sig .tc .vmem S160x128 e) (f : M.view.ty.Contents (Elt F)) (g : Fin 5) (r : Fin 32) (l : Fin 128) :
    slab M f g (ix2 r l) = View.read (Elt F) M.view f (ix2 ⟨32 * g.val + r.val, by have := g.isLt; have := r.isLt; omega⟩ l) := by
  unfold slab
  rw [View.readAt_apply]
  congr 1
  funext a
  apply Fin.ext
  match a with
  | 0 => show 32 * g.val + 1 * r.val = 32 * g.val + r.val; omega
  | 1 => show 0 + 1 * l.val = l.val; omega

variable (c : Dev nD) (x : Ins (F := Ideal) c) (s : Scr (F := Ideal) c)

abbrev inV : FVec Ideal S1x152064 .f32 := View.read (Elt Ideal) (Memref.whole main_v0).view x.sv
abbrev inI : IVec S32x1x5x10 32 := View.read (Elt Ideal) (Memref.whole main_arg6).view x.id

/-- What the loop reads, when it starts. -/
def rdB : Rd (F := Ideal) c :=
  { sv := View.write (Elt Ideal) (Memref.whole cc0_scratch3).view s.f3 (bodyRun.sl.dma0_9 c x) Finset.univ
    hc := (Memref.whole cc0_scratch7).view.writes (Elt Ideal) (Memref.whole cc0_scratch7).view.junk (bodyRun.sl.Hs7_5 c x s)
    hs := (Memref.whole cc0_scratch8).view.writes (Elt Ideal) (Memref.whole cc0_scratch8).view.junk (bodyRun.sl.Hs8_5 c x s)
    lo := (Memref.whole cc0_scratch9).view.writes (Elt Ideal) (Memref.whole cc0_scratch9).view.junk (bodyRun.sl.Hs9_6 c x s)
    hi := (Memref.whole cc0_scratch10).view.writes (Elt Ideal) (Memref.whole cc0_scratch10).view.junk (bodyRun.sl.Hs10_6 c x s) }
/-- The running arrays, when it starts. -/
def acB : Acc (F := Ideal) c :=
  { m := (Memref.whole cc0_scratch11).view.writes (Elt Ideal) (Memref.whole cc0_scratch11).view.junk bodyRun.sl.Hs11_1
    s := (Memref.whole cc0_scratch12).view.writes (Elt Ideal) (Memref.whole cc0_scratch12).view.junk bodyRun.sl.Hs12_1
    g := (Memref.whole cc0_scratch13).view.writes (Elt Ideal) (Memref.whole cc0_scratch13).view.junk bodyRun.sl.Hs13_1 }

theorem sv_read : View.read (Elt Ideal) (Memref.whole cc0_scratch3).view (rdB c x s).sv = inV c x := by
  unfold rdB
  dsimp only
  rw [View.read_write_univ, bodyRun.sl.dma0_9]

/-- The hidden codes, one head after the other. -/
theorem hc_rows (g : Fin 5) (r : Fin 32) (d : Fin 2560) :
    View.read (Elt Ideal) (Memref.whole cc0_scratch7).view (rdB c x s).hc (ix2 ⟨32 * g.val + r.val, by have := g.isLt; have := r.isLt; omega⟩ d) = qc (hB c x g) (ix2 r d) := by
  unfold rdB
  dsimp only
  rw [bodyRun.sl.Hs7_5, bodyRun.sl.Hs7_4, bodyRun.sl.Hs7_3, bodyRun.sl.Hs7_2, bodyRun.sl.Hs7_1]
  refine (rp5 (F := Ideal) (N := 2560) (n := 2560) (Memref.whole cc0_scratch7).view _ _ _ _ _ _
    (fun g => match g with
      | 0 => k0_pay212 (bodyRun.sl.r_15 c x s) | 1 => k0_pay227 (bodyRun.sl.r_25 c x s) | 2 => k0_pay241 bodyRun.sl.cst_244 (bodyRun.sl.r_36 c x s)
      | 3 => k0_pay253 (bodyRun.sl.r_45 c x s) bodyRun.sl.cst_294 bodyRun.sl.cst_244 | 4 => k0_pay267 (bodyRun.sl.r_56 c x s)) [] g r d _ d rfl rfl).trans ?_
  match g with
  | 0 => show k0_pay212 (bodyRun.sl.r_15 c x s) _ = _; rw [k0_pay212, c_0, shapeCast_self]
  | 1 => show k0_pay227 (bodyRun.sl.r_25 c x s) _ = _; rw [k0_pay227, c_1, shapeCast_self]
  | 2 => show k0_pay241 bodyRun.sl.cst_244 (bodyRun.sl.r_36 c x s) _ = _; rw [k0_pay241, c_2, shapeCast_self]
  | 3 => show k0_pay253 (bodyRun.sl.r_45 c x s) bodyRun.sl.cst_294 bodyRun.sl.cst_244 _ = _; rw [k0_pay253, c_3, shapeCast_self]
  | 4 => show k0_pay267 (bodyRun.sl.r_56 c x s) _ = _; rw [k0_pay267, c_4, shapeCast_self]

/-- A scale along the lanes. -/
theorem bc_lane (u : FVec Ideal S32x1 .f32) (r : Fin 32) (l : Fin 128) : k0_pay213 u (ix2 r l) = u (ix2 r 0) := by
  rw [k0_pay213, shapeCast_self, shapeCast_self]
  refine broadcastTo_apply _ _ _ _ fun a => ?_
  match a with
  | 0 => rfl
  | 1 => rfl

/-- The scales, one head after the other. -/
theorem hs_slab (g : Fin 5) (r : Fin 32) (l : Fin 128) : slab (Memref.whole cc0_scratch8) (rdB c x s).hs g (ix2 r l) = qs (hB c x g) (ix2 r 0) := by
  rw [slab_apply]
  show View.read (Elt Ideal) (Memref.whole cc0_scratch8).view ((Memref.whole cc0_scratch8).view.writes (Elt Ideal) (Memref.whole cc0_scratch8).view.junk (bodyRun.sl.Hs8_5 c x s)) _ = _
  rw [bodyRun.sl.Hs8_5, bodyRun.sl.Hs8_4, bodyRun.sl.Hs8_3, bodyRun.sl.Hs8_2, bodyRun.sl.Hs8_1]
  refine (rp5 (F := Ideal) (N := 128) (n := 128) (Memref.whole cc0_scratch8).view _ _ _ _ _ _
    (fun g => match g with
      | 0 => k0_pay213 (bodyRun.sl.r_14 c x s) | 1 => k0_pay228 (bodyRun.sl.r_24 c x s) | 2 => k0_pay242 (bodyRun.sl.r_35 c x s)
      | 3 => k0_pay254 (bodyRun.sl.r_44 c x s) | 4 => k0_pay268 (bodyRun.sl.r_55 c x s)) [] g r l _ l rfl rfl).trans ?_
  match g with
  | 0 => exact (bc_lane _ r l).trans (congrFun (s_0 c x s) _)
  | 1 => exact (bc_lane _ r l).trans (congrFun (s_1 c x s) _)
  | 2 => exact (bc_lane _ r l).trans (congrFun (s_2 c x s) _)
  | 3 => exact (bc_lane _ r l).trans (congrFun (s_3 c x s) _)
  | 4 => exact (bc_lane _ r l).trans (congrFun (s_4 c x s) _)

/-- The candidates of a head, read out of their buffer. -/
theorem id_cast (k : Fin 5) (inb : ∀ a, (![0, 0, k.val, 0] : Fin 4 → ℕ) a + S32x1x1x10.size a ≤ S32x1x5x10.size a) (h : S32x1x1x10.ShapeCasts S32x10)
    (f : (Memref.whole cc0_scratch4).view.ty.Contents (Elt Ideal)) (w : Vec Ideal S32x1x5x10 .i32) (r : Fin 32) (l : Fin 10) :
    shapeCast S32x10 (View.readAt (Elt Ideal) (Memref.whole cc0_scratch4).view (Rect.unit (s := S32x1x5x10) ![0, 0, k.val, 0] S32x1x1x10.size inb).toLoadRect
      (View.write (Elt Ideal) (Memref.whole cc0_scratch4).view f w Finset.univ)) h (ix2 r l) = w (ix4 r 0 k l) := by
  refine (shapeCast_apply _ h _ (ix4 r (0 : Fin 1) (0 : Fin 1) l) ?_).trans ?_
  · rw [Shape.rowMajor_val_four, Shape.rowMajor_val_two]
    show ((r.val * 1 + 0) * 1 + 0) * 10 + l.val = r.val * 10 + l.val
    omega
  · rw [View.readAt_apply, View.read_write_univ]
    congr 1
    funext a
    apply Fin.ext
    match a with
    | 0 => show 0 + 1 * r.val = r.val; omega
    | 1 => rfl
    | 2 => show k.val + 1 * 0 = k.val; omega
    | 3 => show 0 + 1 * l.val = l.val; omega

theorem id_0 (r : Fin 32) (l : Fin 10) : bodyRun.sl.v839 c x s (ix2 r l) = inI c x (ix4 r 0 0 l) := by
  rw [bodyRun.sl.v839, bodyRun.sl.v838]; exact id_cast 0 _ _ _ (inI c x) r l
theorem id_1 (r : Fin 32) (l : Fin 10) : bodyRun.sl.v851 c x s (ix2 r l) = inI c x (ix4 r 0 1 l) := by
  rw [bodyRun.sl.v851, bodyRun.sl.v850]; exact id_cast 1 _ _ _ (inI c x) r l
theorem id_2 (r : Fin 32) (l : Fin 10) : bodyRun.sl.v863 c x s (ix2 r l) = inI c x (ix4 r 0 2 l) := by
  rw [bodyRun.sl.v863, bodyRun.sl.v862]; exact id_cast 2 _ _ _ (inI c x) r l
theorem id_3 (r : Fin 32) (l : Fin 10) : bodyRun.sl.v875 c x s (ix2 r l) = inI c x (ix4 r 0 3 l) := by
  rw [bodyRun.sl.v875, bodyRun.sl.v874]; exact id_cast 3 _ _ _ (inI c x) r l
theorem id_4 (r : Fin 32) (l : Fin 10) : bodyRun.sl.v887 c x s (ix2 r l) = inI c x (ix4 r 0 4 l) := by
  rw [bodyRun.sl.v887, bodyRun.sl.v886]; exact id_cast 4 _ _ _ (inI c x) r l

/-- The candidates' lanes. -/
theorem lo_slab (g : Fin 5) (r : Fin 32) (l : Fin 10) : slab (Memref.whole cc0_scratch9) (rdB c x s).lo g (ix2 r ⟨l.val, by omega⟩) = IntOp.andi (inI c x (ix4 r 0 g l)) 127#32 := by
  rw [slab_apply]
  show View.read (Elt Ideal) (Memref.whole cc0_scratch9).view ((Memref.whole cc0_scratch9).view.writes (Elt Ideal) (Memref.whole cc0_scratch9).view.junk (bodyRun.sl.Hs9_6 c x s)) _ = _
  rw [bodyRun.sl.Hs9_6, bodyRun.sl.Hs9_5, bodyRun.sl.Hs9_3]
  refine (rp5 (F := Ideal) (N := 128) (n := 10) (Memref.whole cc0_scratch9).view _ _ _ _ _ _
    (fun g => match g with
      | 0 => bodyRun.sl.v844 c x s | 1 => bodyRun.sl.v856 c x s | 2 => bodyRun.sl.v868 c x s
      | 3 => bodyRun.sl.v880 c x s | 4 => k0_pay287 (bodyRun.sl.v887 c x s) 127#32) _ g r l _ _ rfl rfl).trans ?_
  match g with
  | 0 => show bodyRun.sl.v844 c x s _ = _; rw [bodyRun.sl.v844, shapeCast_self, ← id_0 c x s]; rfl
  | 1 => show bodyRun.sl.v856 c x s _ = _; rw [bodyRun.sl.v856, shapeCast_self, ← id_1 c x s]; rfl
  | 2 => show bodyRun.sl.v868 c x s _ = _; rw [bodyRun.sl.v868, shapeCast_self, ← id_2 c x s]; rfl
  | 3 => show bodyRun.sl.v880 c x s _ = _; rw [bodyRun.sl.v880, shapeCast_self, ← id_3 c x s]; rfl
  | 4 => show k0_pay287 (bodyRun.sl.v887 c x s) 127#32 _ = _; rw [k0_pay287, shapeCast_self, ← id_4 c x s]; rfl

/-- The candidates' blocks. -/
theorem hi_slab (g : Fin 5) (r : Fin 32) (l : Fin 10) : slab (Memref.whole cc0_scratch10) (rdB c x s).hi g (ix2 r ⟨l.val, by omega⟩) = IntOp.shrsi .vector (inI c x (ix4 r 0 g l)) 7#32 := by
  rw [slab_apply]
  show View.read (Elt Ideal) (Memref.whole cc0_scratch10).view ((Memref.whole cc0_scratch10).view.writes (Elt Ideal) (Memref.whole cc0_scratch10).view.junk (bodyRun.sl.Hs10_6 c x s)) _ = _
  rw [bodyRun.sl.Hs10_6, bodyRun.sl.Hs10_5, bodyRun.sl.Hs10_2]
  refine (rp5 (F := Ideal) (N := 128) (n := 10) (Memref.whole cc0_scratch10).view _ _ _ _ _ _
    (fun g => match g with
      | 0 => bodyRun.sl.v849 c x s | 1 => bodyRun.sl.v861 c x s | 2 => bodyRun.sl.v873 c x s
      | 3 => bodyRun.sl.v885 c x s | 4 => k0_pay288 (bodyRun.sl.v887 c x s)) _ g r l _ _ rfl rfl).trans ?_
  match g with
  | 0 => show bodyRun.sl.v849 c x s _ = _; rw [bodyRun.sl.v849, shapeCast_self, ← id_0 c x s]; rfl
  | 1 => show bodyRun.sl.v861 c x s _ = _; rw [bodyRun.sl.v861, shapeCast_self, ← id_1 c x s]; rfl
  | 2 => show bodyRun.sl.v873 c x s _ = _; rw [bodyRun.sl.v873, shapeCast_self, ← id_2 c x s]; rfl
  | 3 => show bodyRun.sl.v885 c x s _ = _; rw [bodyRun.sl.v885, shapeCast_self, ← id_3 c x s]; rfl
  | 4 => show k0_pay288 (bodyRun.sl.v887 c x s) _ = _; rw [k0_pay288, shapeCast_self, ← id_4 c x s]; rfl

theorem fill_slab {F : FTy → Type} [FloatOps F] (M : Memref sig .tc .vmem S160x128 .f32) (f : M.view.ty.Contents (Elt F)) (inb : ∀ a, (![0, 0] : Fin 2 → ℕ) a + S160x128.size a ≤ S160x128.size a)
    (w : Vec F S160x128 .f32) (g : Fin 5) (r : Fin 32) (l : Fin 128) :
    slab M (M.view.writes (Elt F) f [⟨Rect.unit (s := S160x128) ![0, 0] S160x128.size inb, w⟩]) g (ix2 r l) = w (ix2 ⟨32 * g.val + r.val, by have := g.isLt; have := r.isLt; omega⟩ l) := by
  rw [slab_apply]
  refine View.read_writes_cons_hit_of_coords M.view f (Rect.unit (s := S160x128) ![0, 0] S160x128.size inb) w [] (ix2 ⟨32 * g.val + r.val, by have := g.isLt; have := r.isLt; omega⟩ l : S160x128.Idx) _ fun a => ?_
  match a with
  | 0 => show 32 * g.val + r.val = 0 + 1 * (32 * g.val + r.val); omega
  | 1 => show l.val = 0 + 1 * l.val; omega

theorem inv_start (g : Fin 5) (L : Fin 32 → Fin 152064 → EReal) (lo hi : IVec S32x128 32) : Inv L lo hi 0 (st c (acB c) g) := by
  intro r l
  refine ⟨?_, ?_, fun h => ?_⟩
  · exact (fill_slab (F := Ideal) (Memref.whole cc0_scratch11) _ _ (k0_pay289 (F := Ideal)) g r l).trans rfl
  · refine (fill_slab (F := Ideal) (Memref.whole cc0_scratch12) _ _ (k0_pay290 (F := Ideal)) g r l).trans ?_
    exact zero_bits
  · rw [if_neg (Nat.not_lt_zero _)]
    refine (fill_slab (F := Ideal) (Memref.whole cc0_scratch13) _ _ (k0_pay291 (F := Ideal)) g r l).trans ?_
    exact zero_bits

variable (XW : Buf (Elt Ideal) (wvM.view.loc (c : Thread nD τ)))

abbrev inWV : FVec Ideal S2560x152064 .fp8e4m3 := View.read (Elt Ideal) wvM.view XW
/-- Head `g`'s logits. -/
abbrev lB (g : Fin 5) : Fin 32 → Fin 152064 → EReal := Lk (inX c x) (inW c x) (inS c x) (inB c x) (inWV c XW) (inV c x) g

/-- What the running arrays of head `g` hold when the loop has ended. -/
theorem inv_end (g : Fin 5) : Inv (lB c x XW g) (slab (Memref.whole cc0_scratch9) (rdB c x s).lo g) (slab (Memref.whole cc0_scratch10) (rdB c x s).hi g) 1188
    (st c (accAt c XW (rdB c x s) (acB c) 99) g) := by
  refine inv_loop c XW (rdB c x s) g (lB c x XW g) (fun k j b r l => ?_) (acB c) (inv_start c g _ _ _) 99 le_rfl
  have h := lgb_apply c XW (rdB c x s) k j g b r l (fun d => qc (hB c x g) (ix2 r d)) (qs (hB c x g) (ix2 r 0)) (fun d => hc_rows c x s g r d) (hs_slab c x s g r l)
  rw [sv_read] at h
  exact h

end Cert.Proof.Medusa
-- ==== Proof.Medusa.Rows.lean ====
/-
  Row reductions read at the extended reals, for rows of any length: `max_col`, `sum_col`; and a column picked by its
  lane out of five, `pk5_apply`.
-/
module

public import proofs.«01_k».proof.Proof.Medusa.Logit
public import Idealize.ShloMosaic.Lib.ValueLayoutCasts

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

section Reductions
variable {n : ℕ} (v : FVec Ideal ⟨2, ![32, n]⟩ .f32) (h : (⟨2, ![32, n]⟩ : Shape).Reduces [1] ⟨1, ![32]⟩) (hφ : FKind.Formats .f32) (hc : (⟨1, ![32]⟩ : Shape).ShapeCasts ⟨2, ![32, 1]⟩) (r : Fin 32)

theorem bot_bits : (FloatOps.ofBits (F := Ideal) .f32 0xFF800000#32 : EReal) = ⊥ := by
  show Ideal.ofBits .f32 0xFF800000#32 = ⊥
  simp [Ideal.ofBits, Ideal.ieee]

theorem lift_row (k : Fin n) : h.lift (ix1 r) k = ix2 r k := by
  funext a
  apply Fin.ext
  match a with
  | 0 => rfl
  | 1 => rfl

/-- A row's maximum. -/
theorem max_col (hacc : (0xFF800000#32 : BitVec FTy.f32.bits) = FKind.maximumf.neutral .f32 hφ) :
    shapeCast ⟨2, ![32, 1]⟩ (multiReduction .maximumf [1] ⟨1, ![32]⟩ v 0xFF800000#32 h hφ hacc) hc (ix2 r 0) = Finset.univ.fold max ⊥ (fun l : Fin n => v (ix2 r l)) := by
  refine (shapeCast_a_a1_apply _ hc r 0).trans ?_
  refine (Ideal.multiReduction_maximumf_single v _ h hφ hacc (ix1 r)).trans ?_
  rw [bot_bits]
  exact congrArg (Finset.fold max ⊥ · Finset.univ) (funext fun k => congrArg v (lift_row h r k))

/-- A row's sum. -/
theorem sum_col (hacc : (0x00000000#32 : BitVec FTy.f32.bits) = FKind.add.neutral .f32 hφ) :
    shapeCast ⟨2, ![32, 1]⟩ (multiReduction .add [1] ⟨1, ![32]⟩ v 0x00000000#32 h hφ hacc) hc (ix2 r 0) = ∑ l : Fin n, v (ix2 r l) := by
  refine (shapeCast_a_a1_apply _ hc r 0).trans ?_
  refine (Ideal.multiReduction_add_single v _ h hφ hacc (ix1 r)).trans ?_
  exact Finset.sum_congr rfl fun k _ => congrArg v (lift_row h r k)
end Reductions

/-- A column along the lanes. -/
theorem bcast_col {n : ℕ} {α : Type} (u : (⟨2, ![32, 1]⟩ : Shape).Idx → α) (hb : (⟨2, ![32, 1]⟩ : Shape).Broadcasts ⟨2, ![32, n]⟩) (r : Fin 32) (l : Fin n) (hn : n ≠ 1) :
    broadcastTo ⟨2, ![32, n]⟩ u hb (ix2 r l) = u (ix2 r 0) := by
  refine broadcastTo_apply _ _ _ _ fun a => ?_
  match a with
  | 0 => rfl
  | 1 => exact (if_pos rfl).symm

/-- A column put at lane `w`. -/
def pk (w : BitVec 32) (u : FVec Ideal S32x1 .f32) (v : FVec Ideal S32x128 .f32) : FVec Ideal S32x128 .f32 :=
  select (cmpi .eq (iota Kind.tc S32x128 32 [1] iota_S32x128_d1_w32) (broadcast S32x128 w)) (broadcastTo S32x128 (shapeCast S32x1 u shapeCasts_S32x1_S32x1) broadcasts_S32x1_S32x128) v

theorem pk_apply (w : BitVec 32) (u : FVec Ideal S32x1 .f32) (v : FVec Ideal S32x128 .f32) (r : Fin 32) (l : Fin 128) :
    pk w u v (ix2 r l) = if BitVec.ofNat 32 l.val = w then u (ix2 r 0) else v (ix2 r l) := by
  have e : broadcastTo S32x128 (shapeCast S32x1 u shapeCasts_S32x1_S32x1) broadcasts_S32x1_S32x128 (ix2 r l) = u (ix2 r 0) := by
    rw [shapeCast_self]; exact bcast_col u _ r l (by decide)
  have hi : iota Kind.tc S32x128 32 [1] iota_S32x128_d1_w32 (ix2 r l) = BitVec.ofNat 32 l.val := by
    rw [iota_single_apply]
  show Scalar.select (BitVec.ofBool (iota Kind.tc S32x128 32 [1] iota_S32x128_d1_w32 (ix2 r l) == w)) (broadcastTo S32x128 (shapeCast S32x1 u shapeCasts_S32x1_S32x1) broadcasts_S32x1_S32x128 (ix2 r l)) (v (ix2 r l)) = _
  rw [e, hi]
  by_cases hw : BitVec.ofNat 32 l.val = w
  · rw [if_pos hw, beq_iff_eq.2 hw]; rfl
  · rw [if_neg hw, beq_eq_false_iff_ne.2 hw]; rfl

/-- Five columns side by side, as the kernel puts them, and cut to five lanes. -/
def five (u : Fin 5 → FVec Ideal S32x1 .f32) (z : FVec Ideal S32x128 .f32) : FVec Ideal S32x1x5 .f32 :=
  shapeCast S32x1x5 (extractStridedSlice S32x5 ![0, 0] (pk 4#32 (u 4) (pk 3#32 (u 3) (pk 2#32 (u 2) (pk 1#32 (u 1) (pk 0#32 (u 0) z))))) slices_S32x128_o0_0_S32x5) shapeCasts_S32x5_S32x1x5

theorem cast_five {α : Type} (u : S32x5.Idx → α) (h : S32x5.ShapeCasts S32x1x5) (r : Fin 32) (g : Fin 5) : shapeCast S32x1x5 u h (ix3 r 0 g) = u (ix2 r g) := by
  refine shapeCast_apply u h _ _ ?_
  rw [Shape.rowMajor_val_three, Shape.rowMajor_val_two]
  show r.val * 5 + g.val = (r.val * 1 + 0) * 5 + g.val
  omega

theorem five_apply (u : Fin 5 → FVec Ideal S32x1 .f32) (z : FVec Ideal S32x128 .f32) (r : Fin 32) (g : Fin 5) : five u z (ix3 r 0 g) = u g (ix2 r 0) := by
  rw [five, cast_five]
  refine (extractStridedSlice_apply _ _ _ _ (ix2 r (⟨g.val, by omega⟩ : Fin 128)) fun a => ?_).trans ?_
  · match a with
    | 0 => show r.val = 0 + r.val; omega
    | 1 => show g.val = 0 + g.val; omega
  · rw [pk_apply, pk_apply, pk_apply, pk_apply, pk_apply]
    match g with
    | 0 => rfl
    | 1 => rfl
    | 2 => rfl
    | 3 => rfl
    | 4 => rfl

end Cert.Proof.Medusa
-- ==== Proof.Medusa.Epilogue.lean ====
/-
  The kernel's results over the extended reals, as its body writes them (`out_lse`, `out_max`, `out_cand`, `out_xc`,
  `out_xs`, `out_hc`, `out_hs`).
-/
module

public import proofs.«01_k».proof.Proof.Medusa.BodyLoop
public import proofs.«01_k».proof.Proof.Medusa.Rows

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

/-- Five rows' functions, as an array. -/
def rows5 (f : Fin 5 → Fin 32 → EReal) : FVec Ideal S32x1x5 .f32 := fun i => f (i 2) (i 0)

theorem five_rows (u : Fin 5 → FVec Ideal S32x1 .f32) (z : FVec Ideal S32x128 .f32) (f : Fin 5 → Fin 32 → EReal) (h : ∀ g r, u g (ix2 r 0) = f g r) : five u z = rows5 f := by
  funext i
  have hi : i = ix3 (i 0) 0 (i 2) := by
    funext a
    match a with
    | 0 => rfl
    | 1 => exact Subsingleton.elim (α := Fin 1) _ _
    | 2 => rfl
  rw [hi]
  exact (five_apply u z (i 0) (i 2)).trans (h (i 2) (i 0))

/-- A store that covers a buffer, read back. -/
theorem read_whole {κ : Kind} {sp : Space} {S : Shape} {e : EltTy} (v : View sig κ sp S e) (f : v.ty.Contents (Elt Ideal)) (off : Fin S.rank → ℕ) (inb : ∀ a, off a + S.size a ≤ S.size a)
    (h0 : ∀ a, off a = 0) (w : Vec Ideal S e) : v.read (Elt Ideal) (v.writes (Elt Ideal) f [⟨Rect.unit (s := S) off S.size inb, w⟩]) = w := by
  funext i
  refine View.read_writes_cons_hit_of_coords v f (Rect.unit (s := S) off S.size inb) w [] i i fun a => ?_
  show (i a).val = off a + 1 * (i a).val
  rw [h0]; omega

theorem zero2 : ∀ a, (![0, 0] : Fin 2 → ℕ) a = 0 := by decide
theorem zero3 : ∀ a, (![0, 0, 0] : Fin 3 → ℕ) a = 0 := by decide
theorem zero4 : ∀ a, (![0, 0, 0, 0] : Fin 4 → ℕ) a = 0 := by decide

theorem max_pay (m : FVec Ideal S32x128 .f32) (r : Fin 32) : (k0_pay309 (F := Ideal) m (ix2 r 0) : EReal) = Finset.univ.fold max ⊥ (fun l : Fin 128 => m (ix2 r l)) :=
  max_col m reduces_S32x128_S32 (.inl rfl) shapeCasts_S32_S32x1 r rfl

theorem lse_pay (m s : FVec Ideal S32x128 .f32) (r : Fin 32) :
    k0_pay311 (F := Ideal) m s (ix2 r 0) = k0_pay309 (F := Ideal) m (ix2 r 0) + Ideal.log (∑ l : Fin 128, s (ix2 r l) * Ideal.exp (m (ix2 r l) - k0_pay309 (F := Ideal) m (ix2 r 0))) := by
  have h := sum_col (mulf s (exp (subf m (broadcastTo S32x128 (k0_pay309 m) broadcasts_S32x1_S32x128)))) reduces_S32x128_S32 (.inl rfl) shapeCasts_S32_S32x1 r rfl
  show k0_pay309 (F := Ideal) m (ix2 r 0) + Ideal.log (shapeCast S32x1 (multiReduction .add [1] S32 (mulf s (exp (subf m (broadcastTo S32x128 (k0_pay309 m) broadcasts_S32x1_S32x128)))) 0x00000000#32 reduces_S32x128_S32 (.inl rfl) rfl) shapeCasts_S32_S32x1 (ix2 r 0)) = _
  refine congrArg (fun t => k0_pay309 (F := Ideal) m (ix2 r 0) + Ideal.log t) (h.trans (Finset.sum_congr rfl fun l _ => ?_))
  show s (ix2 r l) * Ideal.exp (m (ix2 r l) - broadcastTo S32x128 (k0_pay309 (F := Ideal) m) broadcasts_S32x1_S32x128 (ix2 r l)) = _
  rw [show broadcastTo S32x128 (k0_pay309 (F := Ideal) m) broadcasts_S32x1_S32x128 (ix2 r l) = k0_pay309 (F := Ideal) m (ix2 r 0) from bcast_col _ _ r l (by decide)]

/-- Ten lanes of a head's slab. -/
theorem cut_apply (M : Memref sig .tc .vmem S160x128 .f32) (f : M.view.ty.Contents (Elt Ideal)) (g : Fin 5) (inb : ∀ a, (![32 * g.val, 0] : Fin 2 → ℕ) a + S32x10.size a ≤ S160x128.size a) (r : Fin 32) (l : Fin 10) :
    View.readAt (Elt Ideal) M.view (Rect.unit (s := S160x128) ![32 * g.val, 0] S32x10.size inb).toLoadRect f (ix2 r l) = slab M f g (ix2 r ⟨l.val, by omega⟩) := by
  rw [slab_apply, View.readAt_apply]
  congr 1
  funext a
  apply Fin.ext
  match a with
  | 0 => show 32 * g.val + 1 * r.val = 32 * g.val + r.val; omega
  | 1 => show 0 + 1 * l.val = l.val; omega

/-- Five arrays of codes, one behind the other. -/
def stack5 (u : Fin 5 → FVec Ideal S32x2560 .fp8e4m3) : FVec Ideal S32x1x5x2560 .fp8e4m3 :=
  shapeCast S32x1x5x2560 (concatenate S32x5x2560 1 [⟨S32x1x2560, shapeCast S32x1x2560 (u 0) shapeCasts_S32x2560_S32x1x2560⟩, ⟨S32x1x2560, shapeCast S32x1x2560 (u 1) shapeCasts_S32x2560_S32x1x2560⟩, ⟨S32x1x2560, shapeCast S32x1x2560 (u 2) shapeCasts_S32x2560_S32x1x2560⟩, ⟨S32x1x2560, shapeCast S32x1x2560 (u 3) shapeCasts_S32x2560_S32x1x2560⟩, ⟨S32x1x2560, shapeCast S32x1x2560 (u 4) shapeCasts_S32x2560_S32x1x2560⟩]
    concatenates_S32x1x2560_S32x1x2560_S32x1x2560_S32x1x2560_S32x1x2560_S32x5x2560_d1) shapeCasts_S32x5x2560_S32x1x5x2560

variable (c : Dev nD) (x : Ins (F := Ideal) c) (s : Scr (F := Ideal) c) (XW : Buf (Elt Ideal) (wvM.view.loc (c : Thread nD τ)))

/-- Head `g`'s running arrays after the loop. -/
def fin (g : Fin 5) : T3 Ideal := st c (accAt c XW (rdB c x s) (acB c) 99) g

theorem trips_lit : Scf.trips k0_t1_loop.lb k0_t1_loop.ub k0_t1_loop.st = 99 := trips_eq

theorem m_0 : bodyRun.sl.v915 c XW x s = (fin c x s XW 0).1 := by
  rw [bodyRun.sl.v915, trips_lit, ← rdB.eq_1, ← acB.eq_1]; rfl
theorem t_0 : bodyRun.sl.v918 c XW x s = (fin c x s XW 0).2.1 := by
  rw [bodyRun.sl.v918, trips_lit, ← rdB.eq_1, ← acB.eq_1]; rfl
theorem g_0 (r : Fin 32) (l : Fin 10) : bodyRun.sl.v937 c XW x s (ix2 r l) = (fin c x s XW 0).2.2 (ix2 r ⟨l.val, by omega⟩) := by
  rw [bodyRun.sl.v937, trips_lit, ← rdB.eq_1, ← acB.eq_1]; exact cut_apply (Memref.whole cc0_scratch13) _ 0 _ r l
theorem m_1 : bodyRun.sl.v941 c XW x s = (fin c x s XW 1).1 := by
  rw [bodyRun.sl.v941, trips_lit, ← rdB.eq_1, ← acB.eq_1]; rfl
theorem t_1 : bodyRun.sl.v944 c XW x s = (fin c x s XW 1).2.1 := by
  rw [bodyRun.sl.v944, trips_lit, ← rdB.eq_1, ← acB.eq_1]; rfl
theorem g_1 (r : Fin 32) (l : Fin 10) : bodyRun.sl.v963 c XW x s (ix2 r l) = (fin c x s XW 1).2.2 (ix2 r ⟨l.val, by omega⟩) := by
  rw [bodyRun.sl.v963, trips_lit, ← rdB.eq_1, ← acB.eq_1]; exact cut_apply (Memref.whole cc0_scratch13) _ 1 _ r l
theorem m_2 : bodyRun.sl.v967 c XW x s = (fin c x s XW 2).1 := by
  rw [bodyRun.sl.v967, trips_lit, ← rdB.eq_1, ← acB.eq_1]; rfl
theorem t_2 : bodyRun.sl.v970 c XW x s = (fin c x s XW 2).2.1 := by
  rw [bodyRun.sl.v970, trips_lit, ← rdB.eq_1, ← acB.eq_1]; rfl
theorem g_2 (r : Fin 32) (l : Fin 10) : bodyRun.sl.v989 c XW x s (ix2 r l) = (fin c x s XW 2).2.2 (ix2 r ⟨l.val, by omega⟩) := by
  rw [bodyRun.sl.v989, trips_lit, ← rdB.eq_1, ← acB.eq_1]; exact cut_apply (Memref.whole cc0_scratch13) _ 2 _ r l
theorem m_3 : bodyRun.sl.v993 c XW x s = (fin c x s XW 3).1 := by
  rw [bodyRun.sl.v993, trips_lit, ← rdB.eq_1, ← acB.eq_1]; rfl
theorem t_3 : bodyRun.sl.v996 c XW x s = (fin c x s XW 3).2.1 := by
  rw [bodyRun.sl.v996, trips_lit, ← rdB.eq_1, ← acB.eq_1]; rfl
theorem g_3 (r : Fin 32) (l : Fin 10) : bodyRun.sl.v1015 c XW x s (ix2 r l) = (fin c x s XW 3).2.2 (ix2 r ⟨l.val, by omega⟩) := by
  rw [bodyRun.sl.v1015, trips_lit, ← rdB.eq_1, ← acB.eq_1]; exact cut_apply (Memref.whole cc0_scratch13) _ 3 _ r l
theorem m_4 : bodyRun.sl.v1019 c XW x s = (fin c x s XW 4).1 := by
  rw [bodyRun.sl.v1019, trips_lit, ← rdB.eq_1, ← acB.eq_1]; rfl
theorem t_4 : bodyRun.sl.v1022 c XW x s = (fin c x s XW 4).2.1 := by
  rw [bodyRun.sl.v1022, trips_lit, ← rdB.eq_1, ← acB.eq_1]; rfl
theorem g_4 (r : Fin 32) (l : Fin 10) : bodyRun.sl.v1041 c XW x s (ix2 r l) = (fin c x s XW 4).2.2 (ix2 r ⟨l.val, by omega⟩) := by
  rw [bodyRun.sl.v1041, trips_lit, ← rdB.eq_1, ← acB.eq_1]; exact cut_apply (Memref.whole cc0_scratch13) _ 4 _ r l

/-- A head's maximum is its row's. -/
theorem fin_max (g : Fin 5) (r : Fin 32) : k0_pay309 (F := Ideal) (fin c x s XW g).1 (ix2 r 0) = Online.mxRow (lB c x XW g r) := by
  rw [max_pay, ← Online.mx_lanes]
  exact congrArg (Finset.fold max ⊥ · Finset.univ) (funext fun l => (inv_end c x s XW g r l).1)

/-- And its log of the sum of exponentials. -/
theorem fin_lse (g : Fin 5) (r : Fin 32) : k0_pay311 (F := Ideal) (fin c x s XW g).1 (fin c x s XW g).2.1 (ix2 r 0) = lseRow (lB c x XW g r) := by
  rw [lse_pay, fin_max, lseRow, ← Online.sum_lanes]
  refine congrArg (fun t => Online.mxRow (lB c x XW g r) + Ideal.log t) (Finset.sum_congr rfl fun l _ => ?_)
  rw [show (fin c x s XW g).1 (ix2 r l) = _ from (inv_end c x s XW g r l).1, show (fin c x s XW g).2.1 (ix2 r l) = _ from (inv_end c x s XW g r l).2.1]

/-- The scales' result. -/
theorem out_hs : bodyRun.sl.dma49_1 c x s = rows5 fun g r => qs (hB c x g) (ix2 r 0) := by
  rw [bodyRun.sl.dma49_1, bodyRun.sl.Hs20_1]
  refine (read_whole _ _ _ _ zero3 _).trans ?_
  refine Eq.trans (b := five (fun g => match g with | 0 => bodyRun.sl.r_14 c x s | 1 => bodyRun.sl.r_24 c x s | 2 => bodyRun.sl.r_35 c x s | 3 => bodyRun.sl.r_44 c x s | 4 => bodyRun.sl.r_55 c x s) k0_pay201) ?_ (five_rows _ _ _ ?_)
  · rw [bodyRun.sl.r_47, bodyRun.sl.r_38, bodyRun.sl.r_27, bodyRun.sl.r_16, bodyRun.sl.v179]; rfl
  · intro g r
    match g with
    | 0 => exact congrFun (s_0 c x s) _
    | 1 => exact congrFun (s_1 c x s) _
    | 2 => exact congrFun (s_2 c x s) _
    | 3 => exact congrFun (s_3 c x s) _
    | 4 => exact congrFun (s_4 c x s) _

/-- The maxima's result. -/
theorem out_max : bodyRun.sl.dma29_1 c XW x s = rows5 fun g r => Online.mxRow (lB c x XW g r) := by
  rw [bodyRun.sl.dma29_1, bodyRun.sl.Hs15_1]
  refine (read_whole _ _ _ _ zero3 _).trans ?_
  refine Eq.trans (b := five (fun g => k0_pay309 (fin c x s XW g).1) k0_pay293) ?_ (five_rows _ _ _ fun g r => fin_max c x s XW g r)
  rw [bodyRun.sl.v1052, bodyRun.sl.v1049, bodyRun.sl.v1040, bodyRun.sl.v1039, bodyRun.sl.v1038, bodyRun.sl.v1036, bodyRun.sl.r_65, bodyRun.sl.r_64, bodyRun.sl.r_62, bodyRun.sl.r_59, bodyRun.sl.r_58, bodyRun.sl.r_57, bodyRun.sl.v179, m_0, m_1, m_2, m_3, m_4]
  rfl

/-- The logs' result. -/
theorem out_lse : bodyRun.sl.dma29 c XW x s = rows5 fun g r => lseRow (lB c x XW g r) := by
  rw [bodyRun.sl.dma29, bodyRun.sl.Hs14_1]
  refine (read_whole _ _ _ _ zero3 _).trans ?_
  refine Eq.trans (b := five (fun g => k0_pay311 (fin c x s XW g).1 (fin c x s XW g).2.1) k0_pay292) ?_ (five_rows _ _ _ fun g r => fin_lse c x s XW g r)
  rw [bodyRun.sl.v1048, bodyRun.sl.v1045, bodyRun.sl.v1035, bodyRun.sl.v1034, bodyRun.sl.v1033, bodyRun.sl.r_66, bodyRun.sl.r_63, bodyRun.sl.r_61, bodyRun.sl.r_60, bodyRun.sl.r_57, bodyRun.sl.v179, m_0, m_1, m_2, m_3, m_4, t_0, t_1, t_2, t_3, t_4]
  rfl

/-- The input's codes. -/
theorem out_xc : bodyRun.sl.dma5 c x s = shapeCast S32x1x2560 (qc (k0_pay188 (inX c x))) shapeCasts_S32x2560_S32x1x2560 := by
  rw [bodyRun.sl.dma5, bodyRun.sl.Hs17_1]
  refine (read_whole _ _ _ _ zero3 _).trans ?_
  rw [k0_pay199]
  exact congrArg (shapeCast S32x1x2560 · shapeCasts_S32x2560_S32x1x2560) ((congrFun (congrFun (congrFun (congrFun rfl _) _) _) _).trans (r6_eq c x s))

/-- The input's scales. -/
theorem out_xs : bodyRun.sl.dma5_1 c x s = qs (k0_pay188 (inX c x)) := by
  rw [bodyRun.sl.dma5_1, bodyRun.sl.Hs18_1]
  refine (read_whole _ _ _ _ zero2 _).trans ?_
  rw [k0_pay200, shapeCast_self, ← r5_eq c x s, bodyRun.sl.r_5]

/-- The hidden codes. -/
theorem out_hc : bodyRun.sl.dma49 c x s = stack5 fun g => qc (hB c x g) := by
  rw [bodyRun.sl.dma49, bodyRun.sl.Hs19_1]
  refine (read_whole _ _ _ _ zero4 _).trans ?_
  rw [k0_pay269, bodyRun.sl.r_26, bodyRun.sl.r_37, bodyRun.sl.r_46, c_0, c_1, c_2, c_3, c_4]
  rfl

/-- A head's candidate logits: each one is the row's logit at the candidate's place. -/
theorem fin_cand (g : Fin 5) (r : Fin 32) (l : Fin 10) (h : (inI c x (ix4 r 0 g l)).toNat < 152064) :
    (fin c x s XW g).2.2 (ix2 r ⟨l.val, by omega⟩) = lB c x XW g r ⟨(inI c x (ix4 r 0 g l)).toNat, h⟩ := by
  have hi := (inv_end c x s XW g r ⟨l.val, by omega⟩).2.2
  rw [lo_slab, hi_slab] at hi
  generalize inI c x (ix4 r 0 g l) = w at h hi ⊢
  have e1 : (IntOp.andi w 127#32).toNat = w.toNat % 128 := by
    show (w &&& 127#32).toNat = _
    rw [BitVec.toNat_and]
    exact Nat.and_two_pow_sub_one_eq_mod w.toNat 7
  have e2 : (IntOp.shrsi .vector w 7#32).toNat = w.toNat / 128 := by
    have hm : w.msb = false := by
      rw [BitVec.msb_eq_false_iff_two_mul_lt]; omega
    show (if (7#32 : BitVec 32).toNat < 32 then w.sshiftRight' 7#32 else _).toNat = _
    rw [if_pos (by decide), BitVec.sshiftRight', BitVec.sshiftRight_eq_of_msb_false hm, BitVec.toNat_ushiftRight, Nat.shiftRight_eq_div_pow]
    rfl
  refine (hi (by omega)).trans ?_
  rw [if_pos (by omega), Online.laneF, dif_pos (by simp only [e1, e2]; omega)]
  refine congrArg _ (Fin.ext ?_)
  simp only [e1, e2]
  omega

section Cand
variable (v : View sig .tc .vmem S32x1x5x10 .f32) (f : v.ty.Contents (Elt Ideal))
/-- A store of one head's candidates. -/
abbrev cp (k : ℕ) (inb : ∀ a, (![0, 0, k, 0] : Fin 4 → ℕ) a + S32x1x1x10.size a ≤ S32x1x5x10.size a) (w : FVec Ideal S32x1x1x10 .f32) : View.Piece (Elt Ideal) S32x1x5x10 .f32 :=
  ⟨Rect.unit (s := S32x1x5x10) ![0, 0, k, 0] S32x1x1x10.size inb, w⟩
theorem cp_hit (k : Fin 5) (inb) (w : FVec Ideal S32x1x1x10 .f32) (L) (r : Fin 32) (l : Fin 10) :
    v.read (Elt Ideal) (v.writes (Elt Ideal) f (cp k.val inb w :: L)) (ix4 r 0 k l) = w (ix4 r 0 0 l) := by
  refine View.read_writes_cons_hit_of_coords v f (Rect.unit (s := S32x1x5x10) ![0, 0, k.val, 0] S32x1x1x10.size inb) w L (ix4 r (0 : Fin 1) (0 : Fin 1) l : S32x1x1x10.Idx) (ix4 r 0 k l) fun a => ?_
  match a with
  | 0 => show r.val = 0 + 1 * r.val; omega
  | 1 => rfl
  | 2 => show k.val = k.val + 1 * 0; omega
  | 3 => show l.val = 0 + 1 * l.val; omega
theorem cp_miss (k : ℕ) (inb) (w : FVec Ideal S32x1x1x10 .f32) (L) (r : Fin 32) (j : Fin 5) (l : Fin 10) (h : j.val ≠ k) :
    v.read (Elt Ideal) (v.writes (Elt Ideal) f (cp k inb w :: L)) (ix4 r 0 j l) = v.read (Elt Ideal) (v.writes (Elt Ideal) f L) (ix4 r 0 j l) :=
  View.read_writes_cons_miss_of_axis v f (cp k inb w) L _ 2 k 1 rfl rfl rfl (by show j.val < k ∨ k + 1 ≤ j.val; omega)
/-- The five of them, read back. -/
theorem cp5 (i0 i1 i2 i3 i4) (w : Fin 5 → FVec Ideal S32x1x1x10 .f32) (g : Fin 5) (r : Fin 32) (l : Fin 10) :
    v.read (Elt Ideal) (v.writes (Elt Ideal) f [cp 4 i4 (w 4), cp 3 i3 (w 3), cp 2 i2 (w 2), cp 1 i1 (w 1), cp 0 i0 (w 0)]) (ix4 r 0 g l) = w g (ix4 r 0 0 l) := by
  match g with
  | 0 =>
    rw [cp_miss v f 4 _ _ _ _ _ _ (by decide), cp_miss v f 3 _ _ _ _ _ _ (by decide), cp_miss v f 2 _ _ _ _ _ _ (by decide), cp_miss v f 1 _ _ _ _ _ _ (by decide)]
    exact cp_hit v f 0 i0 (w 0) _ r l
  | 1 =>
    rw [cp_miss v f 4 _ _ _ _ _ _ (by decide), cp_miss v f 3 _ _ _ _ _ _ (by decide), cp_miss v f 2 _ _ _ _ _ _ (by decide)]
    exact cp_hit v f 1 i1 (w 1) _ r l
  | 2 =>
    rw [cp_miss v f 4 _ _ _ _ _ _ (by decide), cp_miss v f 3 _ _ _ _ _ _ (by decide)]
    exact cp_hit v f 2 i2 (w 2) _ r l
  | 3 =>
    rw [cp_miss v f 4 _ _ _ _ _ _ (by decide)]
    exact cp_hit v f 3 i3 (w 3) _ r l
  | 4 => exact cp_hit v f 4 i4 (w 4) _ r l
end Cand

theorem cand_cast (u : FVec Ideal S32x10 .f32) (h : S32x10.ShapeCasts S32x1x1x10) (r : Fin 32) (l : Fin 10) : shapeCast S32x1x1x10 u h (ix4 r 0 0 l) = u (ix2 r l) := by
  refine shapeCast_apply u h _ _ ?_
  rw [Shape.rowMajor_val_four, Shape.rowMajor_val_two]
  show r.val * 10 + l.val = ((r.val * 1 + 0) * 1 + 0) * 10 + l.val
  omega

/-- The candidates' result. -/
theorem out_cand (g : Fin 5) (r : Fin 32) (l : Fin 10) (h : (inI c x (ix4 r 0 g l)).toNat < 152064) :
    bodyRun.sl.dma29_2 c XW x s (ix4 r 0 g l) = lB c x XW g r ⟨(inI c x (ix4 r 0 g l)).toNat, h⟩ := by
  rw [← fin_cand c x s XW, bodyRun.sl.dma29_2, bodyRun.sl.Hs16_5, bodyRun.sl.Hs16_4, bodyRun.sl.Hs16_3, bodyRun.sl.Hs16_1]
  refine (cp5 (Memref.whole cc0_scratch16).view _ _ _ _ _ _ (fun g => match g with
    | 0 => k0_pay297 (bodyRun.sl.v937 c XW x s) | 1 => k0_pay300 (bodyRun.sl.v963 c XW x s) | 2 => k0_pay304 (bodyRun.sl.v989 c XW x s)
    | 3 => k0_pay308 (bodyRun.sl.v1015 c XW x s) | 4 => bodyRun.sl.v1044 c XW x s) g r l).trans ?_
  match g with
  | 0 => exact (cand_cast _ _ r l).trans (g_0 c x s XW r l)
  | 1 => exact (cand_cast _ _ r l).trans (g_1 c x s XW r l)
  | 2 => exact (cand_cast _ _ r l).trans (g_2 c x s XW r l)
  | 3 => exact (cand_cast _ _ r l).trans (g_3 c x s XW r l)
  | 4 => show bodyRun.sl.v1044 c XW x s _ = _; rw [bodyRun.sl.v1044]; exact (cand_cast _ _ r l).trans (g_4 c x s XW r l)

end Cert.Proof.Medusa
-- ==== Proof.Medusa.Results.lean ====
/-
  The seven results as functions of the arguments: what both programs are shown to leave.
-/
module

public import proofs.«01_k».proof.Proof.Medusa.Epilogue

@[expose] public section

set_option maxRecDepth 100000

noncomputable section

namespace Cert.Proof.Medusa

open Cert.KernelIdeal Cert.KernelIdeal.Gen
open Idealize.ShloMosaic
open Idealize.ShloMosaic.TcCoe
open Idealize.ShloMosaic.ValueIdx

section
variable (X : FVec Ideal S32x1x2560 .bf16) (W : FVec Ideal S5x2560x2560 .fp8e4m3) (SR BR : FVec Ideal S5x2560 .f32)
  (WV : FVec Ideal S2560x152064 .fp8e4m3) (SV : FVec Ideal S1x152064 .f32) (ids : IVec S32x1x5x10 32)

/-- Each row's and head's log of the sum of exponentials of the logits. -/
def resLse : FVec Ideal S32x1x5 .f32 := rows5 fun g r => lseRow (Lk X W SR BR WV SV g r)
/-- Their maximum. -/
def resMax : FVec Ideal S32x1x5 .f32 := rows5 fun g r => Online.mxRow (Lk X W SR BR WV SV g r)
/-- The candidates' logits. -/
def resCand : FVec Ideal S32x1x5x10 .f32 := fun i =>
  if h : (ids i).toNat < 152064 then Lk X W SR BR WV SV (i 2) (i 0) ⟨(ids i).toNat, h⟩ else 0
/-- The codes of `x`. -/
def resXc : FVec Ideal S32x1x2560 .fp8e4m3 := shapeCast S32x1x2560 (qc (k0_pay188 X)) shapeCasts_S32x2560_S32x1x2560
/-- Its scales. -/
def resXs : FVec Ideal S32x1 .f32 := qs (k0_pay188 X)
/-- The codes of the heads' hidden rows. -/
def resHc : FVec Ideal S32x1x5x2560 .fp8e4m3 := stack5 fun g => qc (hk X W SR BR g)
/-- Their scales. -/
def resHs : FVec Ideal S32x1x5 .f32 := rows5 fun g r => qs (hk X W SR BR g) (ix2 r 0)
end

end Cert.Proof.Medusa

end
-- ==== Proof.Medusa.KernelRun.lean ====
/-
  The kernel's run over the extended reals with the contents of its seven results (`run_values`): they do not depend on what
  the scratch buffers or the results held before.
-/
module

public import proofs.«01_k».proof.Proof.Medusa.Launch
public import proofs.«01_k».proof.Proof.Medusa.Epilogue
public import Idealize.ShloMosaic.Lib.Pipeline.FrameValue

@[expose] public section

set_option maxRecDepth 200000

noncomputable section

namespace Cert.Proof.Medusa

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "𝕄" => MT nD τ sig Unit (Elt Ideal) ℕ (Pipeline.UD sig nD τ) ℕ

variable (m : (ℓ : Loc nD τ sig) → Buf (Elt Ideal) ℓ) (ρ : Dev nD → PrngReg)

/-- A head's logits, of the arguments as the region finds them. -/
abbrev lK (c : Dev nD) (g : Fin 5) : Fin 32 → Fin 152064 → EReal := lB c (ins0 m c) (V m c main_arg4) g
/-- The candidates' logits. -/
def candK (c : Dev nD) : FVec Ideal S32x1x5x10 .f32 := fun i =>
  if h : (inI c (ins0 m c) i).toNat < 152064 then lK m c (i 2) (i 0) ⟨(inI c (ins0 m c) i).toNat, h⟩ else 0

/-- What the kernel leaves in its results. -/
def GO (c : Dev nD) : Outs (F := Ideal) c where
  o0 := (rows5 fun g r => lseRow (lK m c g r) : FVec Ideal S32x1x5 .f32)
  o1 := (rows5 fun g r => Online.mxRow (lK m c g r) : FVec Ideal S32x1x5 .f32)
  o2 := candK m c
  o3 := (shapeCast S32x1x2560 (qc (k0_pay188 (inX c (ins0 m c)))) shapeCasts_S32x2560_S32x1x2560 : FVec Ideal S32x1x2560 .fp8e4m3)
  o4 := qs (k0_pay188 (inX c (ins0 m c)))
  o5 := stack5 fun g => qc (hB c (ins0 m c) g)
  o6 := (rows5 fun g r => qs (hB c (ins0 m c) g) (ix2 r 0) : FVec Ideal S32x1x5 .f32)

/-- The candidates lie in the vocabulary. -/
def IdsK (c : Dev nD) : Prop := ∀ i, (inI c (ins0 m c) i).toNat < 152064

theorem cand_eq (c : Dev nD) (hid : IdsK m c) (s : Scr (F := Ideal) c) :
    bodyRun.sl.dma29_2 c (V m c main_arg4) (ins0 m c) s = candK m c := by
  funext i
  obtain ⟨r, g, l, rfl⟩ : ∃ (r : Fin 32) (g : Fin 5) (l : Fin 10), i = ix4 r 0 g l := ⟨i 0, i 2, i 3, by
    funext a
    match a with
    | ⟨0, _⟩ => rfl
    | ⟨1, _⟩ => exact Fin.ext (Nat.lt_one_iff.1 (i 1).isLt)
    | ⟨2, _⟩ => rfl
    | ⟨3, _⟩ => rfl⟩
  rw [candK, dif_pos (hid _)]
  exact out_cand c (ins0 m c) s (V m c main_arg4) g r l (hid _)

theorem outs_ext {c : Dev nD} {a b : Outs (F := Ideal) c} (h0 : a.o0 = b.o0) (h1 : a.o1 = b.o1) (h2 : a.o2 = b.o2) (h3 : a.o3 = b.o3)
    (h4 : a.o4 = b.o4) (h5 : a.o5 = b.o5) (h6 : a.o6 = b.o6) : a = b := by
  cases a; cases b; cases h0; cases h1; cases h2; cases h3; cases h4; cases h5; cases h6; rfl

theorem outs_eq (c : Dev nD) (hid : IdsK m c) (s : Scr (F := Ideal) c) (o : Outs (F := Ideal) c) : outsRun m c s o = GO m c := by
  have e : outsRun m c s o = ⟨View.write (Elt Ideal) (Memref.whole main_v1_0).view o.o0 (bodyRun.sl.dma29 c (V m c main_arg4) (ins0 m c) s) Finset.univ,
    View.write (Elt Ideal) (Memref.whole main_v1_1).view o.o1 (bodyRun.sl.dma29_1 c (V m c main_arg4) (ins0 m c) s) Finset.univ,
    View.write (Elt Ideal) (Memref.whole main_v1_2).view o.o2 (bodyRun.sl.dma29_2 c (V m c main_arg4) (ins0 m c) s) Finset.univ,
    View.write (Elt Ideal) (Memref.whole main_v1_3).view o.o3 (bodyRun.sl.dma5 c (ins0 m c) s) Finset.univ,
    View.write (Elt Ideal) (Memref.whole main_v1_4).view o.o4 (bodyRun.sl.dma5_1 c (ins0 m c) s) Finset.univ,
    View.write (Elt Ideal) (Memref.whole main_v1_5).view o.o5 (bodyRun.sl.dma49 c (ins0 m c) s) Finset.univ,
    View.write (Elt Ideal) (Memref.whole main_v1_6).view o.o6 (bodyRun.sl.dma49_1 c (ins0 m c) s) Finset.univ⟩ := rfl
  rw [e]
  exact outs_ext ((View.write_whole_univ main_v1_0 o.o0 _).trans (out_lse c (ins0 m c) s (V m c main_arg4)))
    ((View.write_whole_univ main_v1_1 o.o1 _).trans (out_max c (ins0 m c) s (V m c main_arg4)))
    ((View.write_whole_univ main_v1_2 o.o2 _).trans (cand_eq m c hid s))
    ((View.write_whole_univ main_v1_3 o.o3 _).trans (out_xc c (ins0 m c) s))
    ((View.write_whole_univ main_v1_4 o.o4 _).trans (out_xs c (ins0 m c) s))
    ((View.write_whole_univ main_v1_5 o.o5 _).trans (out_hc c (ins0 m c) s))
    ((View.write_whole_univ main_v1_6 o.o6 _).trans (out_hs c (ins0 m c) s))

/-- The buffers after the region: the results as the kernel leaves them. -/
def G (c : Dev nD) (b : Ref sig .tc) : Buf (Elt Ideal) ((c.tc : Thread nD τ).loc b) :=
  if h : b = main_v1_0 then h ▸ (GO m c).o0
  else if h : b = main_v1_1 then h ▸ (GO m c).o1
  else if h : b = main_v1_2 then h ▸ (GO m c).o2
  else if h : b = main_v1_3 then h ▸ (GO m c).o3
  else if h : b = main_v1_4 then h ▸ (GO m c).o4
  else if h : b = main_v1_5 then h ▸ (GO m c).o5
  else if h : b = main_v1_6 then h ▸ (GO m c).o6
  else V m c b
theorem G_0 (c : Dev nD) : G m c main_v1_0 = (GO m c).o0 := by unfold G; rw [dif_pos rfl]
theorem G_1 (c : Dev nD) : G m c main_v1_1 = (GO m c).o1 := by unfold G; rw [dif_neg (by decide)]; rw [dif_pos rfl]
theorem G_2 (c : Dev nD) : G m c main_v1_2 = (GO m c).o2 := by unfold G; rw [dif_neg (by decide)]; rw [dif_neg (by decide)]; rw [dif_pos rfl]
theorem G_3 (c : Dev nD) : G m c main_v1_3 = (GO m c).o3 := by unfold G; rw [dif_neg (by decide)]; rw [dif_neg (by decide)]; rw [dif_neg (by decide)]; rw [dif_pos rfl]
theorem G_4 (c : Dev nD) : G m c main_v1_4 = (GO m c).o4 := by unfold G; rw [dif_neg (by decide)]; rw [dif_neg (by decide)]; rw [dif_neg (by decide)]; rw [dif_neg (by decide)]; rw [dif_pos rfl]
theorem G_5 (c : Dev nD) : G m c main_v1_5 = (GO m c).o5 := by unfold G; rw [dif_neg (by decide)]; rw [dif_neg (by decide)]; rw [dif_neg (by decide)]; rw [dif_neg (by decide)]; rw [dif_neg (by decide)]; rw [dif_pos rfl]
theorem G_6 (c : Dev nD) : G m c main_v1_6 = (GO m c).o6 := by unfold G; rw [dif_neg (by decide)]; rw [dif_neg (by decide)]; rw [dif_neg (by decide)]; rw [dif_neg (by decide)]; rw [dif_neg (by decide)]; rw [dif_neg (by decide)]; rw [dif_pos rfl]

theorem routed_eq (c : Dev nD) (W : (b : Ref sig .tc) → Buf (Elt Ideal) ((c.tc : Thread nD τ).loc b)) :
    (Pipeline.routed R0 c W : sProp 𝕄) = iprop(pt c (Memref.whole main_v1_0) (W main_v1_0) ∗ pt c (Memref.whole main_v1_1) (W main_v1_1) ∗ pt c (Memref.whole main_v1_2) (W main_v1_2) ∗ pt c (Memref.whole main_v1_3) (W main_v1_3) ∗ pt c (Memref.whole main_v1_4) (W main_v1_4) ∗ pt c (Memref.whole main_v1_5) (W main_v1_5) ∗ pt c (Memref.whole main_v1_6) (W main_v1_6)) := by
  unfold Pipeline.routed; rw [BI.bigSep_eq_bigSepL_of_eq [main_v1_0, main_v1_1, main_v1_2, main_v1_3, main_v1_4, main_v1_5, main_v1_6] (by decide) (by decide)]; rfl

/-- The proof data of the one region: before the point the results as the region finds them, after it as the kernel leaves them. -/
def datsV (_ : Fin 1) (c : Dev nD) : Dat τ (Elt Ideal) Unit ℕ (Pipeline.UD sig nD τ) ℕ cfg0 c where
  A w := V m c (Pipeline.arrRef (cfg0.spec) w)
  after w t := w.elim0
  Φ t := Pipeline.ΦDRG osem (cfg0.spec) H0 R0 (V m) (if t.val = 0 then V m else G m) c
  q _ := fullShare
  owed _ := 0

theorem soundV (c : Dev nD) (hid : IdsK m c) (t : Fin cfg0.N) :
    iprop((datsV m 0 c).Φ t.castSucc ∗ (datsV m 0 c).owesAt () t.castSucc)
      ⊢ wp frame (wpE (defs₀ (F := Ideal)) 𝒱₀ (c : Thread nD τ) none) Set.univ (bodyAt0 t) (fun _ => iprop((datsV m 0 c).Φ t.succ ∗ (datsV m 0 c).owesAt () t.succ)) := by
  have ht : t.val = 0 := Nat.lt_one_iff.1 t.isLt
  rw [show (datsV m 0 c).Φ t.succ = Pipeline.ΦDRG osem (cfg0.spec) H0 R0 (V m) (G m) c from congrArg (fun G' => Pipeline.ΦDRG osem (cfg0.spec) H0 R0 (V m) G' c) (if_neg (Nat.succ_ne_zero _))]
  rw [show (datsV m 0 c).Φ t.castSucc = Pipeline.ΦDRG osem (cfg0.spec) H0 R0 (V m) (V m) c from congrArg (fun G' => Pipeline.ΦDRG osem (cfg0.spec) H0 R0 (V m) G' c) (if_pos ht), Pipeline.ΦDRG_eq, Pipeline.ΦDRG_eq, routed_eq, routed_eq, G_0, G_1, G_2, G_3, G_4, G_5, G_6]
  unfold Dat.owesAt Pipeline.owesWithin
  rw [show (datsV m 0 c).owed t.castSucc = 0 from rfl, show (datsV m 0 c).owed t.succ = 0 from rfl]
  iintro ⟨⟨Hsc, Hg, Hc, HH, Ho⟩, ⟨%W, -, HW⟩⟩
  iapply (sound_core m c (outs0 m c) W _)
  isplitl [Hsc]; · iexact Hsc
  isplitl [Hc]; · iexact Hc
  isplitl [HH]; · iexact HH
  isplitl [Ho]; · iexact Ho
  isplitl [HW]; · iexact HW
  iintro %s
  rw [outs_eq m c hid s]
  iintro ⟨Hsc, Hc, HH, Ho, ⟨%W', HW'⟩⟩
  isplitl [Hsc Hg Hc HH Ho]
  · isplitl [Hsc]; · iexact Hsc
    isplitl [Hg]; · iexact Hg
    isplitl [Hc]; · iexact Hc
    isplitl [HH]; · iexact HH
    iexact Ho
  iexists W'; isplitr
  · ipureintro; exact fun _ _ => Or.inl trivial
  iexact HW'

theorem obligationV (c : Dev nD) (hid : IdsK m c) : BodyObligation (datsV m 0 c) (defs₀ (F := Ideal)) 𝒱₀ () Set.univ := fun t => by
  rw [Finset.univ_eq_empty (α := Fin cfg0.W), bigSep_empty, bigSep_empty, defs₀_row]
  refine triple_restated (soundV m c hid t) rfl ?_ fun _ => ?_
  · iintro ⟨HΦ, HW, -⟩
    isplitl [HΦ]; · iexact HΦ
    iexact HW
  · iintro ⟨HΦ, HW⟩
    isplitl [HΦ]; · iexact HΦ
    isplitl [HW]; · iexact HW
    iempintro

set_option backward.isDefEq.respectTransparency.types false in
/-- The kernel's run: it terminates with its results as `GO` says. -/
theorem run_values (hid : ∀ c, IdsK m c) : θ_run defs (onTc (τ := τ) (main (F := Ideal))) (s₀ m ρ) (fun r => Pipeline.FramePostRG cfgs (datsV m) 0 R0 (V m) (G m) r ∧ r.2.sem = fun _ => 0) :=
  Pipeline.θ_run_frame_dmaRG cfgs (datsV m) (0 : Fin 1) launch0 osem defs₀ 𝒱₀ ownSemFacts H0 R0 H0_sub R0_sub m ρ main
    (hbody := fun c => (obligationV m c (hid c)).loose) (hshare := fun c => (datsV m 0 c).share_full fun _ => rfl)
    (howed := fun _ _ => rfl) (V := V m) (hmain := hmainD m 𝒱₀) (hA := fun _ _ => rfl) (G := G m)
    (hin := fun _ => .rfl) (hout := fun _ => .rfl)
    (Q' := fun r => Pipeline.FramePostRG cfgs (datsV m) 0 R0 (V m) (G m) r ∧ r.2.sem = fun _ => 0) (hQ' := fun _ h => h)

end Cert.Proof.Medusa

end
-- ==== Proof.Medusa.KernelOut.lean ====
/-
  The kernel's run, over the extended reals: its seven results are those of the arguments (Results.lean), when the
  candidates lie in the vocabulary, and its arguments are unchanged.
-/
module

public import proofs.«01_k».proof.Proof.Medusa.Results
public import proofs.«01_k».proof.Proof.Medusa.KernelRun

@[expose] public section

set_option maxRecDepth 200000

noncomputable section

namespace Cert.Proof.Medusa

open Cert.KernelIdeal Cert.KernelIdeal.Gen
open Idealize.ShloMosaic Idealize.SL.Sem
open Idealize.ShloMosaic.TcCoe
open Idealize.ShloMosaic.ValueIdx

variable (m : (ℓ : Loc nD τ sig) → Buf (Elt Ideal) ℓ) (ρ : Dev nD → PrngReg)

/-- The columns' scales as one row. -/
def kSV (c : Dev nD) : FVec Ideal S1x152064 .f32 := V m c main_v0

theorem kSV_eq (c : Dev nD) : kSV m c = shapeCast S1x152064 (m ((c.tc : Thread nD τ).loc main_arg5)) shapeCasts_S152064_S1x152064 := by
  show StableHlo.after (List.flatten [hostOps0]) (fun b => m (c, b)) (Proc.devRef .tc main_v0) = _
  simp only [List.flatten_cons, List.flatten_nil, List.append_nil]
  after_results
  rfl

theorem kX (c : Dev nD) : inX c (ins0 m c) = m ((c.tc : Thread nD τ).loc main_arg0) := V_main_arg0 m c
theorem kW (c : Dev nD) : inW c (ins0 m c) = m ((c.tc : Thread nD τ).loc main_arg1) := V_main_arg1 m c
theorem kS (c : Dev nD) : inS c (ins0 m c) = m ((c.tc : Thread nD τ).loc main_arg2) := V_main_arg2 m c
theorem kB (c : Dev nD) : inB c (ins0 m c) = m ((c.tc : Thread nD τ).loc main_arg3) := V_main_arg3 m c
theorem kWV (c : Dev nD) : inWV c (V m c main_arg4) = m ((c.tc : Thread nD τ).loc main_arg4) := V_main_arg4 m c
theorem kV (c : Dev nD) : inV c (ins0 m c) = kSV m c := rfl
theorem kI (c : Dev nD) : inI c (ins0 m c) = m ((c.tc : Thread nD τ).loc main_arg6) := V_main_arg6 m c

/-- The kernel's results. -/
theorem kernel_run (hid : ∀ (c : Dev nD) (i : S32x1x5x10.Idx), ((m ((c.tc : Thread nD τ).loc main_arg6) : IVec S32x1x5x10 32) i).toNat < 152064) :
    θ_run defs (onTc (τ := τ) (main (F := Ideal))) ⟨m, fun _ => 0, ρ⟩ (fun r => ∀ c : Dev nD,
      r.2.mem ((c.tc : Thread nD τ).loc main_v1_0) = resLse (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (kSV m c)
      ∧ r.2.mem ((c.tc : Thread nD τ).loc main_v1_1) = resMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (kSV m c)
      ∧ r.2.mem ((c.tc : Thread nD τ).loc main_v1_2) = resCand (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (kSV m c) (m ((c.tc : Thread nD τ).loc main_arg6))
      ∧ r.2.mem ((c.tc : Thread nD τ).loc main_v1_3) = resXc (m ((c.tc : Thread nD τ).loc main_arg0))
      ∧ r.2.mem ((c.tc : Thread nD τ).loc main_v1_4) = resXs (m ((c.tc : Thread nD τ).loc main_arg0))
      ∧ r.2.mem ((c.tc : Thread nD τ).loc main_v1_5) = resHc (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_6) = resHs (m ((c.tc : Thread nD τ).loc main_arg0)) (m ((c.tc : Thread nD τ).loc main_arg1)) (m ((c.tc : Thread nD τ).loc main_arg2)) (m ((c.tc : Thread nD τ).loc main_arg3))) := by
  refine (θ_run defs _ _).mono (fun r h c => ?_) (run_values m ρ fun c i => by rw [kI]; exact hid c i)
  have h := fun b hb => (h.1.2 c b hb)
  rw [← kX m c, ← kW m c, ← kS m c, ← kB m c, ← kWV m c, ← kI m c]
  refine ⟨(h main_v1_0 (by decide)).trans ((G_0 m c).trans ?_), (h main_v1_1 (by decide)).trans ((G_1 m c).trans ?_),
    (h main_v1_2 (by decide)).trans ((G_2 m c).trans ?_), (h main_v1_3 (by decide)).trans ((G_3 m c).trans ?_),
    (h main_v1_4 (by decide)).trans ((G_4 m c).trans ?_), (h main_v1_5 (by decide)).trans ((G_5 m c).trans ?_),
    (h main_v1_6 (by decide)).trans ((G_6 m c).trans ?_)⟩
  all_goals rfl

end Cert.Proof.Medusa

end
-- ==== Proof.Medusa.RefVals.lean ====
/-
  The reference's values over the extended reals: each head's codes and scale (`rc_k`, `rs_k`), logits (`rl_k`), maximum and log
  of the sum of exponentials, and so its results (`ref_lse`, `ref_max`, `ref_logits`, `ref_xc`, `ref_xs`, `ref_hc`, `ref_hs`).
-/
module

public import proofs.«01_k».proof.Proof.Medusa.Epilogue
public import proofs.«01_k».proof.Proof.Gen.ReferenceIdeal.Frame
public import Idealize.ShloMosaic.Lib.Pipeline.ValueKit.Tiles
public import Idealize.ShloMosaic.Lib.Pipeline.ValueKit.Basic

@[expose] public section

set_option maxRecDepth 100000

noncomputable section

namespace Cert.Proof.Medusa

open Cert.ReferenceIdeal Cert.ReferenceIdeal.Gen
open Idealize.ShloMosaic
open Idealize.ShloMosaic.TcCoe
open Idealize.ShloMosaic.ValueIdx

/-- The logits of rows of codes and scales. -/
def LG (h : FVec Ideal S32x2560 .f32) (wv : FVec Ideal S2560x152064 .fp8e4m3) (sv : FVec Ideal S1x152064 .f32) : FVec Ideal S32x152064 .f32 :=
  mulf (mulf (matmul dot_S32x2560_S2560x152064_S32x152064_1_0_0_1_n_n none (qc h) wv (constant S32x152064 .f32 0x00000000#32)) (broadcastTo S32x152064 (qs h) broadcasts_S32x1_S32x152064))
    (broadcastTo S32x152064 (shapeCast S1x152064 sv shapeCasts_S1x152064_S1x152064) broadcasts_S1x152064_S32x152064)
/-- Their rows' maxima. -/
def MX (L : FVec Ideal S32x152064 .f32) : FVec Ideal S32x1 .f32 :=
  maximumf (shapeCast S32x1 (multiReduction .maximumf [1] S32 L 0xFF800000#32 reduces_S32x152064_S32 (.inl rfl) rfl) shapeCasts_S32_S32x1) (broadcast S32x1 (Scalar.ofBits (F := Ideal) .f32 0xFF7FFFFF#32))
/-- Their rows' logs of the sums of exponentials. -/
def LS (L : FVec Ideal S32x152064 .f32) : FVec Ideal S32x1 .f32 :=
  addf (MX L) (log (shapeCast S32x1 (multiReduction .add [1] S32 (exp (subf L (broadcastTo S32x152064 (MX L) broadcasts_S32x1_S32x152064))) 0x00000000#32 reduces_S32x152064_S32 (.inl rfl) rfl) shapeCasts_S32_S32x1))

theorem LG_apply (h : FVec Ideal S32x2560 .f32) (wv : FVec Ideal S2560x152064 .fp8e4m3) (sv : FVec Ideal S1x152064 .f32) (r : Fin 32) (v : Fin 152064) :
    LG h wv sv (ix2 r v) = logit (fun d => qc h (ix2 r d)) (qs h (ix2 r 0)) wv sv v := by
  have e1 : matmul dot_S32x2560_S2560x152064_S32x152064_1_0_0_1_n_n none (qc h) wv (constant (F := Ideal) S32x152064 .f32 0x00000000#32) (ix2 r v) = ∑ d : Fin 2560, qc h (ix2 r d) * wv (ix2 d v) := by
    refine (Ideal.matmul_plain_apply none (qc h) wv (constant (F := Ideal) S32x152064 .f32 0x00000000#32) r v).trans ?_
    rw [show constant (F := Ideal) S32x152064 .f32 0x00000000#32 (ix2 r v) = 0 from zero_bits, zero_add]
  have e2 : broadcastTo S32x152064 (qs h) broadcasts_S32x1_S32x152064 (ix2 r v) = qs h (ix2 r 0) := bcast_col _ _ r v (by decide)
  have e3 : broadcastTo S32x152064 (shapeCast S1x152064 sv shapeCasts_S1x152064_S1x152064) broadcasts_S1x152064_S32x152064 (ix2 r v) = sv (ix2 0 v) := by
    rw [shapeCast_self]
    refine broadcastTo_apply _ _ _ _ fun a => ?_
    match a with
    | 0 => rfl
    | 1 => rfl
  show matmul dot_S32x2560_S2560x152064_S32x152064_1_0_0_1_n_n none (qc h) wv (constant (F := Ideal) S32x152064 .f32 0x00000000#32) (ix2 r v) * broadcastTo S32x152064 (qs h) broadcasts_S32x1_S32x152064 (ix2 r v)
    * broadcastTo S32x152064 (shapeCast S1x152064 sv shapeCasts_S1x152064_S1x152064) broadcasts_S1x152064_S32x152064 (ix2 r v) = _
  rw [e1, e2, e3, logit]

section Generic
variable {n : ℕ} (L : FVec Ideal ⟨2, ![32, n]⟩ .f32) (h : (⟨2, ![32, n]⟩ : Shape).Reduces [1] ⟨1, ![32]⟩) (hφ : FKind.Formats .f32) (hc : (⟨1, ![32]⟩ : Shape).ShapeCasts ⟨2, ![32, 1]⟩)
  (hb : (⟨2, ![32, 1]⟩ : Shape).Broadcasts ⟨2, ![32, n]⟩) (hm : (0xFF800000#32 : BitVec FTy.f32.bits) = FKind.maximumf.neutral .f32 hφ) (ha : (0x00000000#32 : BitVec FTy.f32.bits) = FKind.add.neutral .f32 hφ)
/-- `MX` and `LS` of rows of any length. -/
def MXg : FVec Ideal ⟨2, ![32, 1]⟩ .f32 :=
  maximumf (shapeCast ⟨2, ![32, 1]⟩ (multiReduction .maximumf [1] ⟨1, ![32]⟩ L 0xFF800000#32 h hφ hm) hc) (broadcast ⟨2, ![32, 1]⟩ (Scalar.ofBits (F := Ideal) .f32 0xFF7FFFFF#32))
def LSg : FVec Ideal ⟨2, ![32, 1]⟩ .f32 :=
  addf (MXg L h hφ hc hm) (log (shapeCast ⟨2, ![32, 1]⟩ (multiReduction .add [1] ⟨1, ![32]⟩ (exp (subf L (broadcastTo ⟨2, ![32, n]⟩ (MXg L h hφ hc hm) hb))) 0x00000000#32 h hφ ha) hc))
theorem MXg_apply (r : Fin 32) : MXg L h hφ hc hm (ix2 r 0) = max (Finset.univ.fold max ⊥ fun v => L (ix2 r v)) Online.low :=
  congrArg (max · Online.low) (max_col L h hφ hc r hm)
theorem LSg_apply (r : Fin 32) (hn : n ≠ 1) :
    LSg L h hφ hc hb hm ha (ix2 r 0) = MXg L h hφ hc hm (ix2 r 0) + Ideal.log (∑ v : Fin n, Ideal.exp (L (ix2 r v) - MXg L h hφ hc hm (ix2 r 0))) := by
  refine congrArg (fun t => (MXg L h hφ hc hm (ix2 r 0) : EReal) + Ideal.log t) ((sum_col _ h hφ hc r ha).trans (Finset.sum_congr rfl fun v _ => ?_))
  exact congrArg (fun t => Ideal.exp (L (ix2 r v) - t)) (bcast_col _ hb r v hn)
theorem LSg_apply' (r : Fin 32) (hn : n ≠ 1) :
    LSg L h hφ hc hb hm ha (ix2 r 0) = max (Finset.univ.fold max ⊥ fun v => L (ix2 r v)) Online.low
      + Ideal.log (∑ v : Fin n, Ideal.exp (L (ix2 r v) - max (Finset.univ.fold max ⊥ fun v => L (ix2 r v)) Online.low)) := by
  rw [LSg_apply L h hφ hc hb hm ha r hn, MXg_apply]
end Generic

theorem MX_apply (L : FVec Ideal S32x152064 .f32) (r : Fin 32) : MX L (ix2 r 0) = Online.mxRow fun v => L (ix2 r v) :=
  MXg_apply (n := 152064) L reduces_S32x152064_S32 (.inl rfl) shapeCasts_S32_S32x1 rfl r

theorem LS_apply (L : FVec Ideal S32x152064 .f32) (r : Fin 32) : LS L (ix2 r 0) = lseRow fun v => L (ix2 r v) := by
  exact LSg_apply' (n := 152064) L reduces_S32x152064_S32 (.inl rfl) shapeCasts_S32_S32x1 broadcasts_S32x1_S32x152064 rfl rfl r (by decide)

/-- A row's exponent, as the reference prints it. -/
def eV (v : FVec Ideal S32x2560 .f32) : FVec Ideal S32x1 .f32 :=
  select (cmpf .olt (mulf (shapeCast S32x1 (multiReduction .maximumf [1] S32 (absf v) 0xFF800000#32 reduces_S32x2560_S32 (.inl rfl) rfl) shapeCasts_S32_S32x1) (broadcast S32x1 (Scalar.ofBits (F := Ideal) .f32 0x3B124925#32))) (broadcast S32x1 (Scalar.ofBits (F := Ideal) .f32 0x00800000#32)))
    (broadcast S32x1 (Scalar.ofBits (F := Ideal) .f32 0x00000000#32))
    (minimumf (addf (floor (divf (log (mulf (shapeCast S32x1 (multiReduction .maximumf [1] S32 (absf v) 0xFF800000#32 reduces_S32x2560_S32 (.inl rfl) rfl) shapeCasts_S32_S32x1) (broadcast S32x1 (Scalar.ofBits (F := Ideal) .f32 0x3B124925#32)))) (broadcast S32x1 (Named.named κ "ln2" 0x3F317218#32))))
      (broadcast S32x1 (Scalar.ofBits (F := Ideal) .f32 0x3F800000#32))) (broadcast S32x1 (Scalar.ofBits (F := Ideal) .f32 0x42FC0000#32)))
theorem qs_eq (v : FVec Ideal S32x2560 .f32) : exp2 (eV v) = qs v := rfl
theorem qc_eq (v : FVec Ideal S32x2560 .f32) : truncf .fp8e4m3 (minimumf (broadcast S32x2560 (Scalar.ofBits (F := Ideal) .f32 0x43E00000#32)) (maximumf (broadcast S32x2560 (Scalar.ofBits (F := Ideal) .f32 0xC3E00000#32)) (mulf v
    (broadcastTo S32x2560 (exp2 (subf (broadcast S32x1 (Scalar.ofBits (F := Ideal) .f32 0x00000000#32)) (eV v))) broadcasts_S32x1_S32x2560)))) bitsLt_fp8e4m3_f32 = qc v := rfl

section Pays
variable (X : Vec Ideal S32x1x2560 .bf16) (w : Vec Ideal S1x2560x2560 .fp8e4m3) (sr br : Vec Ideal S1x2560 .f32) (wv : Vec Ideal S2560x152064 .fp8e4m3) (sv : Vec Ideal S1x152064 .f32)
/-- A head's rows. -/
abbrev hR : FVec Ideal S32x2560 .f32 := hV (k0_pay4 X) (k0_pay9 w) sr br

theorem rc_0 : k0_pay12 (k0_pay4 X) (k0_pay6 X) (k0_pay7 X) (k0_pay9 w) sr br = qc (hR X w sr br) := by
  rw [← qc_eq, hR, hV, ← ref_xc, ← ref_xs]
  simp only [k0_pay12, k0_pay13, k0_pay11, k0_pay10, k0_pay9, eV]
theorem rs_0 : k0_pay13 (k0_pay4 X) (k0_pay6 X) (k0_pay7 X) (k0_pay9 w) sr br = qs (hR X w sr br) := by
  rw [← qs_eq, hR, hV, ← ref_xc, ← ref_xs]
  simp only [k0_pay12, k0_pay13, k0_pay11, k0_pay10, k0_pay9, eV]
theorem rl_0 : k0_pay15 (k0_pay13 (k0_pay4 X) (k0_pay6 X) (k0_pay7 X) (k0_pay9 w) sr br) (k0_pay14 (k0_pay4 X) (k0_pay6 X) (k0_pay7 X) (k0_pay9 w) sr br wv) sv = LG (hR X w sr br) wv sv := by
  simp only [k0_pay15, k0_pay14, rc_0, rs_0, LG]
theorem rm_0 : k0_pay16 (k0_pay13 (k0_pay4 X) (k0_pay6 X) (k0_pay7 X) (k0_pay9 w) sr br) (k0_pay14 (k0_pay4 X) (k0_pay6 X) (k0_pay7 X) (k0_pay9 w) sr br wv) sv = MX (LG (hR X w sr br) wv sv) := by
  simp only [k0_pay16, rl_0, MX]
theorem re_0 : k0_pay17 (k0_pay13 (k0_pay4 X) (k0_pay6 X) (k0_pay7 X) (k0_pay9 w) sr br) (k0_pay14 (k0_pay4 X) (k0_pay6 X) (k0_pay7 X) (k0_pay9 w) sr br wv) sv = LS (LG (hR X w sr br) wv sv) := by
  simp only [k0_pay17, rm_0, rl_0, LS]
theorem rc_1 : k0_pay23 (k0_pay19 (k0_pay4 X) (k0_pay6 X) (k0_pay7 X) w sr br) (k0_pay20 (k0_pay4 X) (k0_pay6 X) (k0_pay7 X) w sr br) k0_pay21 = qc (hR X w sr br) := by
  rw [← qc_eq, hR, hV, ← ref_xc, ← ref_xs]
  simp only [k0_pay19, k0_pay20, k0_pay21, k0_pay22, k0_pay23, k0_pay24, k0_pay10, k0_pay9, eV]
theorem rs_1 : k0_pay24 (k0_pay20 (k0_pay4 X) (k0_pay6 X) (k0_pay7 X) w sr br) k0_pay21 = qs (hR X w sr br) := by
  rw [← qs_eq, hR, hV, ← ref_xc, ← ref_xs]
  simp only [k0_pay19, k0_pay20, k0_pay21, k0_pay22, k0_pay23, k0_pay24, k0_pay10, k0_pay9, eV]
theorem rl_1 : k0_pay25 (k0_pay19 (k0_pay4 X) (k0_pay6 X) (k0_pay7 X) w sr br) (k0_pay20 (k0_pay4 X) (k0_pay6 X) (k0_pay7 X) w sr br) k0_pay21 wv sv = LG (hR X w sr br) wv sv := by
  simp only [k0_pay25, rc_1, rs_1, LG]
theorem rm_1 : k0_pay26 (k0_pay19 (k0_pay4 X) (k0_pay6 X) (k0_pay7 X) w sr br) (k0_pay20 (k0_pay4 X) (k0_pay6 X) (k0_pay7 X) w sr br) k0_pay21 wv sv = MX (LG (hR X w sr br) wv sv) := by
  simp only [k0_pay26, rl_1, MX]
theorem re_1 : k0_pay27 (k0_pay19 (k0_pay4 X) (k0_pay6 X) (k0_pay7 X) w sr br) (k0_pay20 (k0_pay4 X) (k0_pay6 X) (k0_pay7 X) w sr br) k0_pay21 wv sv = LS (LG (hR X w sr br) wv sv) := by
  simp only [k0_pay27, rm_1, rl_1, LS]
theorem rc_2 : k0_pay33 (k0_pay31 (k0_pay4 X) (k0_pay6 X) (k0_pay7 X) w sr br) k0_pay32 = qc (hR X w sr br) := by
  rw [← qc_eq, hR, hV, ← ref_xc, ← ref_xs]
  simp only [k0_pay29, k0_pay30, k0_pay31, k0_pay32, k0_pay33, k0_pay34, k0_pay10, k0_pay9, eV]
theorem rs_2 : k0_pay34 (k0_pay30 (k0_pay4 X) (k0_pay6 X) (k0_pay7 X) w sr br) = qs (hR X w sr br) := by
  rw [← qs_eq, hR, hV, ← ref_xc, ← ref_xs]
  simp only [k0_pay29, k0_pay30, k0_pay31, k0_pay32, k0_pay33, k0_pay34, k0_pay10, k0_pay9, eV]
theorem rl_2 : k0_pay35 (k0_pay30 (k0_pay4 X) (k0_pay6 X) (k0_pay7 X) w sr br) (k0_pay31 (k0_pay4 X) (k0_pay6 X) (k0_pay7 X) w sr br) k0_pay32 wv sv = LG (hR X w sr br) wv sv := by
  simp only [k0_pay35, rc_2, rs_2, LG]
theorem rm_2 : k0_pay36 (k0_pay30 (k0_pay4 X) (k0_pay6 X) (k0_pay7 X) w sr br) (k0_pay31 (k0_pay4 X) (k0_pay6 X) (k0_pay7 X) w sr br) k0_pay32 wv sv = MX (LG (hR X w sr br) wv sv) := by
  simp only [k0_pay36, rl_2, MX]
theorem re_2 : k0_pay37 (k0_pay30 (k0_pay4 X) (k0_pay6 X) (k0_pay7 X) w sr br) (k0_pay31 (k0_pay4 X) (k0_pay6 X) (k0_pay7 X) w sr br) k0_pay32 wv sv = LS (LG (hR X w sr br) wv sv) := by
  simp only [k0_pay37, rm_2, rl_2, LS]
theorem rc_3 : k0_pay42 (k0_pay39 (k0_pay4 X) (k0_pay6 X) (k0_pay7 X) w sr br) (k0_pay40 (k0_pay4 X) (k0_pay6 X) (k0_pay7 X) w sr br) = qc (hR X w sr br) := by
  rw [← qc_eq, hR, hV, ← ref_xc, ← ref_xs]
  simp only [k0_pay39, k0_pay40, k0_pay41, k0_pay42, k0_pay43, k0_pay10, k0_pay9, eV]
theorem rs_3 : k0_pay43 (k0_pay40 (k0_pay4 X) (k0_pay6 X) (k0_pay7 X) w sr br) = qs (hR X w sr br) := by
  rw [← qs_eq, hR, hV, ← ref_xc, ← ref_xs]
  simp only [k0_pay39, k0_pay40, k0_pay41, k0_pay42, k0_pay43, k0_pay10, k0_pay9, eV]
theorem rl_3 : k0_pay44 (k0_pay39 (k0_pay4 X) (k0_pay6 X) (k0_pay7 X) w sr br) (k0_pay40 (k0_pay4 X) (k0_pay6 X) (k0_pay7 X) w sr br) wv sv = LG (hR X w sr br) wv sv := by
  simp only [k0_pay44, rc_3, rs_3, LG]
theorem rm_3 : k0_pay45 (k0_pay39 (k0_pay4 X) (k0_pay6 X) (k0_pay7 X) w sr br) (k0_pay40 (k0_pay4 X) (k0_pay6 X) (k0_pay7 X) w sr br) wv sv = MX (LG (hR X w sr br) wv sv) := by
  simp only [k0_pay45, rl_3, MX]
theorem re_3 : k0_pay47 (k0_pay45 (k0_pay39 (k0_pay4 X) (k0_pay6 X) (k0_pay7 X) w sr br) (k0_pay40 (k0_pay4 X) (k0_pay6 X) (k0_pay7 X) w sr br) wv sv) (k0_pay46 (k0_pay39 (k0_pay4 X) (k0_pay6 X) (k0_pay7 X) w sr br) (k0_pay40 (k0_pay4 X) (k0_pay6 X) (k0_pay7 X) w sr br) wv sv) = LS (LG (hR X w sr br) wv sv) := by
  simp only [k0_pay46, k0_pay47, rm_3, rl_3, LS]
theorem rc_4 : k0_pay52 (k0_pay49 (k0_pay4 X) (k0_pay6 X) (k0_pay7 X) w sr br) (k0_pay51 (k0_pay4 X) (k0_pay6 X) (k0_pay7 X) w sr br) = qc (hR X w sr br) := by
  rw [← qc_eq, hR, hV, ← ref_xc, ← ref_xs]
  simp only [k0_pay49, k0_pay50, k0_pay51, k0_pay52, k0_pay53, k0_pay10, k0_pay9, eV]
theorem rs_4 : k0_pay53 (k0_pay50 (k0_pay4 X) (k0_pay6 X) (k0_pay7 X) w sr br) = qs (hR X w sr br) := by
  rw [← qs_eq, hR, hV, ← ref_xc, ← ref_xs]
  simp only [k0_pay49, k0_pay50, k0_pay51, k0_pay52, k0_pay53, k0_pay10, k0_pay9, eV]
theorem rl_4 : k0_pay54 (k0_pay49 (k0_pay4 X) (k0_pay6 X) (k0_pay7 X) w sr br) (k0_pay50 (k0_pay4 X) (k0_pay6 X) (k0_pay7 X) w sr br) (k0_pay51 (k0_pay4 X) (k0_pay6 X) (k0_pay7 X) w sr br) wv sv = LG (hR X w sr br) wv sv := by
  simp only [k0_pay54, rc_4, rs_4, LG]
theorem rm_4 : k0_pay55 (k0_pay49 (k0_pay4 X) (k0_pay6 X) (k0_pay7 X) w sr br) (k0_pay50 (k0_pay4 X) (k0_pay6 X) (k0_pay7 X) w sr br) (k0_pay51 (k0_pay4 X) (k0_pay6 X) (k0_pay7 X) w sr br) wv sv = MX (LG (hR X w sr br) wv sv) := by
  simp only [k0_pay55, rl_4, MX]
theorem re_4 : k0_pay56 (k0_pay49 (k0_pay4 X) (k0_pay6 X) (k0_pay7 X) w sr br) (k0_pay50 (k0_pay4 X) (k0_pay6 X) (k0_pay7 X) w sr br) (k0_pay51 (k0_pay4 X) (k0_pay6 X) (k0_pay7 X) w sr br) wv sv = LS (LG (hR X w sr br) wv sv) := by
  simp only [k0_pay56, rm_4, rl_4, LS]
end Pays

end Cert.Proof.Medusa
-- ==== Proof.Medusa.RefOut.lean ====
/-
  What the reference's one call leaves in its seven results, over the extended reals, as functions of the arguments:
  each row's log of the sum of exponentials, maximum, all logits, the codes and scales of `x` and of the heads' rows.
-/
module

public import proofs.«01_k».proof.Proof.Medusa.RefVals

@[expose] public section

set_option maxRecDepth 100000

noncomputable section

namespace Cert.Proof.Medusa

open Cert.ReferenceIdeal Cert.ReferenceIdeal.Gen
open Idealize.ShloMosaic
open Idealize.ShloMosaic.TcCoe
open Idealize.ShloMosaic.ValueIdx

/-- One of five columns beside each other, where it holds the index. -/
theorem piece5 (u : Fin 5 → FVec Ideal S32x1 .f32) (r : Fin 32) (g k : Fin 5) :
    PieceAt (t := S32x5) 1 (ix2 r g) (u g (ix2 r 0)) S32x1 (u k) k.val := fun hk hr i h0 hb => by
  have e : g = k := Fin.ext hk
  subst e
  refine congrArg (u g) (funext fun a => Fin.ext ?_)
  match a with
  | ⟨0, _⟩ => exact hb 0 (by decide)
  | ⟨1, _⟩ => exact h0

/-- Five columns beside each other. -/
theorem cat5 (u : Fin 5 → FVec Ideal S32x1 .f32) (r : Fin 32) (g : Fin 5) :
    concatenate S32x5 1 [⟨S32x1, u 0⟩, ⟨S32x1, u 1⟩, ⟨S32x1, u 2⟩, ⟨S32x1, u 3⟩, ⟨S32x1, u 4⟩] concatenates_S32x1_S32x1_S32x1_S32x1_S32x1_S32x5_d1 (ix2 r g) = u g (ix2 r 0) := by
  refine concatenate_unit_eq 1 _ _ _ _ rfl ?_
  exact ⟨piece5 u r g 0, piece5 u r g 1, piece5 u r g 2, piece5 u r g 3, piece5 u r g 4, trivial⟩

/-- They are the rows of a result of the heads. -/
theorem cols5 (u : Fin 5 → FVec Ideal S32x1 .f32) :
    shapeCast S32x1x5 (concatenate S32x5 1 [⟨S32x1, u 0⟩, ⟨S32x1, u 1⟩, ⟨S32x1, u 2⟩, ⟨S32x1, u 3⟩, ⟨S32x1, u 4⟩] concatenates_S32x1_S32x1_S32x1_S32x1_S32x1_S32x5_d1) shapeCasts_S32x5_S32x1x5
      = rows5 fun g r => u g (ix2 r 0) := by
  funext i
  obtain ⟨r, g, rfl⟩ : ∃ (r : Fin 32) (g : Fin 5), i = ix3 r 0 g := ⟨i 0, i 2, by
    funext a
    match a with
    | ⟨0, _⟩ => rfl
    | ⟨1, _⟩ => exact Fin.ext (Nat.lt_one_iff.1 (i 1).isLt)
    | ⟨2, _⟩ => rfl⟩
  exact (cast_five _ _ r g).trans (cat5 u r g)

/-- One of five slabs, read whole. -/
theorem ld_w (W : FVec Ideal S5x2560x2560 .fp8e4m3) (k : Fin 5) (inb) :
    k0_pay9 (F := Ideal) (View.ld (Val := Elt Ideal) (e' := .fp8e4m3) W (Rect.unit (s := S5x2560x2560) ![k.val, 0, 0] S1x2560x2560.size inb)) = wk W k := by
  funext i
  obtain ⟨r, v, rfl⟩ : ∃ (r v : Fin 2560), i = ix2 r v := ⟨i 0, i 1, eq_ix2 i⟩
  rw [k0_pay9]
  refine (shapeCast_1ab_ab_apply _ _ r v).trans ?_
  exact View.ld_unit_apply_of (Val := Elt Ideal) (e := .fp8e4m3) W _ _ inb _ (ix3 k r v) fun a => by
    match a with
    | ⟨0, _⟩ => rfl
    | ⟨1, _⟩ => exact (Nat.zero_add _).symm
    | ⟨2, _⟩ => exact (Nat.zero_add _).symm

/-- One of five rows. -/
theorem ld_r (R : FVec Ideal S5x2560 .f32) (k : Fin 5) (inb) :
    View.ld (Val := Elt Ideal) (e' := .f32) R (Rect.unit (s := S5x2560) ![k.val, 0] S1x2560.size inb) = rk R k := by
  funext i
  exact View.ld_unit_apply_of (Val := Elt Ideal) (e := .f32) R _ _ inb _ (ix2 k (i 1)) fun a => by
    match a with
    | ⟨0, _⟩ => exact congrArg (k.val + ·) (Nat.lt_one_iff.1 (i 0).isLt).symm
    | ⟨1, _⟩ => exact (Nat.zero_add _).symm

variable (X : FVec Ideal S32x1x2560 .bf16) (W : FVec Ideal S5x2560x2560 .fp8e4m3) (SR BR : FVec Ideal S5x2560 .f32) (WV : FVec Ideal S2560x152064 .fp8e4m3) (SV : FVec Ideal S1x152064 .f32)

theorem ld_x : View.ld (Val := Elt Ideal) (e' := .bf16) X r0_0 = X := View.ld_unit_lit (Val := Elt Ideal) (e := .bf16) _ X (by decide)
theorem ld_wv : View.ld (Val := Elt Ideal) (e' := .fp8e4m3) WV r0_4 = WV := View.ld_unit_lit (Val := Elt Ideal) (e := .fp8e4m3) _ WV (by decide)
theorem ld_sv : View.ld (Val := Elt Ideal) (e' := .f32) SV r0_5 = SV := View.ld_unit_lit (Val := Elt Ideal) (e := .f32) _ SV (by decide)

/-- The head's rows are those of its slices of the arguments. -/
theorem hR_eq (k : Fin 5) (i1 i2 i3) :
    hR X (View.ld (Val := Elt Ideal) (e' := .fp8e4m3) W (Rect.unit (s := S5x2560x2560) ![k.val, 0, 0] S1x2560x2560.size i1)) (View.ld (Val := Elt Ideal) (e' := .f32) SR (Rect.unit (s := S5x2560) ![k.val, 0] S1x2560.size i2)) (View.ld (Val := Elt Ideal) (e' := .f32) BR (Rect.unit (s := S5x2560) ![k.val, 0] S1x2560.size i3))
      = hk X W SR BR k := by
  rw [hR, ld_w, ld_r, ld_r, hk]; rfl

theorem hR0 : hR X (View.ld (Val := Elt Ideal) (e' := .fp8e4m3) W r0_2) (View.ld (Val := Elt Ideal) (e' := .f32) SR r0_3) (View.ld (Val := Elt Ideal) (e' := .f32) BR r0_3) = hk X W SR BR 0 := hR_eq X W SR BR 0 _ _ _
theorem hR1 : hR X (View.ld (Val := Elt Ideal) (e' := .fp8e4m3) W r0_7) (View.ld (Val := Elt Ideal) (e' := .f32) SR r0_8) (View.ld (Val := Elt Ideal) (e' := .f32) BR r0_8) = hk X W SR BR 1 := hR_eq X W SR BR 1 _ _ _
theorem hR2 : hR X (View.ld (Val := Elt Ideal) (e' := .fp8e4m3) W r0_10) (View.ld (Val := Elt Ideal) (e' := .f32) SR r0_11) (View.ld (Val := Elt Ideal) (e' := .f32) BR r0_11) = hk X W SR BR 2 := hR_eq X W SR BR 2 _ _ _
theorem hR3 : hR X (View.ld (Val := Elt Ideal) (e' := .fp8e4m3) W r0_13) (View.ld (Val := Elt Ideal) (e' := .f32) SR r0_14) (View.ld (Val := Elt Ideal) (e' := .f32) BR r0_14) = hk X W SR BR 3 := hR_eq X W SR BR 3 _ _ _
theorem hR4 : hR X (View.ld (Val := Elt Ideal) (e' := .fp8e4m3) W r0_16) (View.ld (Val := Elt Ideal) (e' := .f32) SR r0_17) (View.ld (Val := Elt Ideal) (e' := .f32) BR r0_17) = hk X W SR BR 4 := hR_eq X W SR BR 4 _ _ _

/-- The logits of head `g`. -/
def LH (g : Fin 5) : FVec Ideal S32x152064 .f32 := LG (hk X W SR BR g) WV SV
theorem LH_apply (g : Fin 5) (r : Fin 32) (v : Fin 152064) : LH X W SR BR WV SV g (ix2 r v) = Lk X W SR BR WV SV g r v := by
  rw [LH, LG_apply, Lk]

theorem res_lse : out0_6 (F := Ideal) X W SR BR WV SV = rows5 fun g r => lseRow (Lk X W SR BR WV SV g r) := by
  have e : out0_6 (F := Ideal) X W SR BR WV SV = k0_pay3 (LS (LH X W SR BR WV SV 0)) (LS (LH X W SR BR WV SV 1)) (LS (LH X W SR BR WV SV 2)) (LS (LH X W SR BR WV SV 3)) (LS (LH X W SR BR WV SV 4)) := by
    rw [out0_6]
    refine (View.canon_cons_unit_lit _ _ _ (by decide)).trans ?_
    simp only [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, ld_x, ld_wv, ld_sv, re_0, re_1, re_2, re_3, re_4, hR0, hR1, hR2, hR3, hR4, LH]
  rw [e, k0_pay3]
  refine (cols5 fun g => LS (LH X W SR BR WV SV g)).trans ?_
  refine congrArg rows5 (funext fun g => funext fun r => ?_)
  rw [LS_apply]; exact congrArg lseRow (funext fun v => LH_apply X W SR BR WV SV g r v)

theorem res_max : out0_7 (F := Ideal) X W SR BR WV SV = rows5 fun g r => Online.mxRow (Lk X W SR BR WV SV g r) := by
  have e : out0_7 (F := Ideal) X W SR BR WV SV = k0_pay2 (MX (LH X W SR BR WV SV 0)) (MX (LH X W SR BR WV SV 1)) (MX (LH X W SR BR WV SV 2)) (MX (LH X W SR BR WV SV 3)) (MX (LH X W SR BR WV SV 4)) := by
    rw [out0_7]
    refine (View.canon_cons_unit_lit _ _ _ (by decide)).trans ?_
    simp only [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, ld_x, ld_wv, ld_sv, rm_0, rm_1, rm_2, rm_3, rm_4, hR0, hR1, hR2, hR3, hR4, LH]
  rw [e, k0_pay2]
  refine (cols5 fun g => MX (LH X W SR BR WV SV g)).trans ?_
  refine congrArg rows5 (funext fun g => funext fun r => ?_)
  rw [MX_apply]; exact congrArg Online.mxRow (funext fun v => LH_apply X W SR BR WV SV g r v)

/-- Five columns beside each other, as a result of the heads, -/
def cc5 (a b c d e : FVec Ideal S32x1 .f32) : FVec Ideal S32x1x5 .f32 :=
  shapeCast S32x1x5 (concatenate S32x5 1 [⟨S32x1, a⟩, ⟨S32x1, b⟩, ⟨S32x1, c⟩, ⟨S32x1, d⟩, ⟨S32x1, e⟩] concatenates_S32x1_S32x1_S32x1_S32x1_S32x1_S32x5_d1) shapeCasts_S32x5_S32x1x5
/-- and five arrays of codes. -/
def st5 (a b c d e : FVec Ideal S32x2560 .fp8e4m3) : FVec Ideal S32x1x5x2560 .fp8e4m3 :=
  shapeCast S32x1x5x2560 (concatenate S32x5x2560 1 [⟨S32x1x2560, shapeCast S32x1x2560 a shapeCasts_S32x2560_S32x1x2560⟩, ⟨S32x1x2560, shapeCast S32x1x2560 b shapeCasts_S32x2560_S32x1x2560⟩, ⟨S32x1x2560, shapeCast S32x1x2560 c shapeCasts_S32x2560_S32x1x2560⟩, ⟨S32x1x2560, shapeCast S32x1x2560 d shapeCasts_S32x2560_S32x1x2560⟩, ⟨S32x1x2560, shapeCast S32x1x2560 e shapeCasts_S32x2560_S32x1x2560⟩]
    concatenates_S32x1x2560_S32x1x2560_S32x1x2560_S32x1x2560_S32x1x2560_S32x5x2560_d1) shapeCasts_S32x5x2560_S32x1x5x2560
theorem cc5_eq (a b c d e : FVec Ideal S32x1 .f32) : k0_pay1 (k0_pay59 a b c d e) = cc5 a b c d (k0_pay53 e) := by
  rw [k0_pay1, k0_pay59, cc5]
theorem st5_eq (a b c d : FVec Ideal S32x2560 .fp8e4m3) (e : FVec Ideal S32x2560 .f32) (f : FVec Ideal S32x1 .f32) : k0_pay58 a b c d e f = st5 a b c d (k0_pay52 e f) := by
  rw [k0_pay58, st5]

theorem res_hs : out0_12 (F := Ideal) X W SR BR WV SV = rows5 fun g r => qs (hk X W SR BR g) (ix2 r 0) := by
  have e : out0_12 (F := Ideal) X W SR BR WV SV = cc5 (qs (hk X W SR BR 0)) (qs (hk X W SR BR 1)) (qs (hk X W SR BR 2)) (qs (hk X W SR BR 3)) (qs (hk X W SR BR 4)) := by
    rw [out0_12]
    refine (View.canon_cons_unit_lit _ _ _ (by decide)).trans ?_
    simp only [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, cc5_eq, ld_x, rs_0, rs_1, rs_2, rs_3, rs_4, hR0, hR1, hR2, hR3, hR4]
  rw [e]
  exact cols5 fun g => qs (hk X W SR BR g)

theorem res_hc : out0_11 (F := Ideal) X W SR BR WV SV = stack5 fun g => qc (hk X W SR BR g) := by
  have e : out0_11 (F := Ideal) X W SR BR WV SV = st5 (qc (hk X W SR BR 0)) (qc (hk X W SR BR 1)) (qc (hk X W SR BR 2)) (qc (hk X W SR BR 3)) (qc (hk X W SR BR 4)) := by
    rw [out0_11]
    refine (View.canon_cons_unit_lit _ _ _ (by decide)).trans ?_
    simp only [k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, st5_eq, ld_x, rc_0, rc_1, rc_2, rc_3, rc_4, hR0, hR1, hR2, hR3, hR4]
  rw [e]; rfl

theorem res_xc : out0_9 (F := Ideal) X W SR BR WV SV = shapeCast S32x1x2560 (qc (KernelIdeal.Gen.k0_pay188 X)) shapeCasts_S32x2560_S32x1x2560 := by
  rw [out0_9]
  refine (View.canon_cons_unit_lit _ _ _ (by decide)).trans ?_
  rw [ld_x, k0_pay8, ref_xc]; rfl

theorem res_xs : out0_10 (F := Ideal) X W SR BR WV SV = qs (KernelIdeal.Gen.k0_pay188 X) := by
  rw [out0_10]
  refine (View.canon_cons_unit_lit _ _ _ (by decide)).trans ?_
  rw [ld_x, ref_xs]; rfl

/-- One head's slab of logits, where it holds the index. -/
theorem tile5 (g k : Fin 5) (r : Fin 32) (v : Fin 152064) (w : FVec Ideal S1x32x152064 .f32)
    (hw : w = shapeCast S1x32x152064 (LH X W SR BR WV SV k) shapeCasts_S32x152064_S1x32x152064) :
    View.TileAt (Val := Elt Ideal) (e := .f32) (ix3 g r v : S5x32x152064.Idx) ![k.val, 0, 0] S1x32x152064.size w (Lk X W SR BR WV SV g r v) := fun x hx => by
  have h0 : (g : Nat) = k + x 0 := hx 0
  have h1 : (r : Nat) = 0 + x 1 := hx 1
  have h2 : (v : Nat) = 0 + x 2 := hx 2
  have z : (x 0 : Nat) = 0 := Nat.lt_one_iff.1 (x 0).isLt
  have e : g = k := Fin.ext (by omega)
  subst e
  have ex : x = ix3 0 r v := by
    funext a; apply Fin.ext
    match a with
    | ⟨0, _⟩ => exact z
    | ⟨1, _⟩ => show (x 1 : Nat) = r; omega
    | ⟨2, _⟩ => show (x 2 : Nat) = v; omega
  rw [ex, hw, shapeCast_ab_1ab_apply, LH_apply]

theorem res_logits (g : Fin 5) (r : Fin 32) (v : Fin 152064) :
    out0_8 (F := Ideal) X W SR BR WV SV (ix3 g r v) = Lk X W SR BR WV SV g r v := by
  rw [out0_8]
  refine View.canon_eq_of_allAt _ _ _ ?_ ?_
  · exact View.cover_of_tiled_head _ _ _ rfl _
  · refine View.allAt_cons_unit _ _ _ _ _ (tile5 X W SR BR WV SV g 4 r v _ ?_) ?_
    · simp only [k0_pay60, k0_pay61, k0_pay62, k0_pay75, k0_pay76, k0_pay77, k0_pay57, ld_x, ld_wv, ld_sv, rl_4, hR4, LH]
    refine View.allAt_cons_unit _ _ _ _ _ (tile5 X W SR BR WV SV g 3 r v _ ?_) ?_
    · simp only [k0_pay60, k0_pay61, k0_pay62, k0_pay72, k0_pay73, k0_pay48, ld_x, ld_wv, ld_sv, rl_3, hR3, LH]
    refine View.allAt_cons_unit _ _ _ _ _ (tile5 X W SR BR WV SV g 2 r v _ ?_) ?_
    · simp only [k0_pay60, k0_pay61, k0_pay62, k0_pay69, k0_pay70, k0_pay71, k0_pay38, ld_x, ld_wv, ld_sv, rl_2, hR2, LH]
    refine View.allAt_cons_unit _ _ _ _ _ (tile5 X W SR BR WV SV g 1 r v _ ?_) ?_
    · simp only [k0_pay60, k0_pay61, k0_pay62, k0_pay66, k0_pay67, k0_pay68, k0_pay28, ld_x, ld_wv, ld_sv, rl_1, hR1, LH]
    refine View.allAt_cons_unit _ _ _ _ _ (tile5 X W SR BR WV SV g 0 r v _ ?_) (View.allAt_nil _ _)
    · simp only [k0_pay60, k0_pay61, k0_pay62, k0_pay63, k0_pay64, k0_pay65, k0_pay18, ld_x, ld_wv, ld_sv, rl_0, hR0, LH]

end Cert.Proof.Medusa
-- ==== Proof.Medusa.RefArr.lean ====
/-
  The reference's one call at its arrays: every window is a whole array, so each result array ends as the body's value of
  the argument arrays.
-/
module

public import proofs.«01_k».proof.Proof.Gen.ReferenceIdeal.Frame
public import Idealize.ShloMosaic.Lib.Pipeline.Value

@[expose] public section

set_option maxRecDepth 100000

noncomputable section

namespace Cert.Proof.Medusa

open Cert.ReferenceIdeal Cert.ReferenceIdeal.Gen
open Idealize.ShloMosaic
open Idealize.ShloMosaic.TcCoe

variable (m : (ℓ : Loc nD τ sig) → Buf (Elt Ideal) ℓ)

/-- An input window's block is its array. -/
theorem iblk0 (c : Dev nD) (t) : iblk m c 0 t = V m c main_arg0 := by
  funext y
  exact congrArg (V m c main_arg0) (funext fun a => Fin.ext (Pipeline.Window.rect_emb_val_of_index_zero win0_0 t a rfl y))
theorem iblk1 (c : Dev nD) (t) : iblk m c 1 t = V m c main_arg1 := by
  funext y
  exact congrArg (V m c main_arg1) (funext fun a => Fin.ext (Pipeline.Window.rect_emb_val_of_index_zero win0_1 t a rfl y))
theorem iblk2 (c : Dev nD) (t) : iblk m c 2 t = V m c main_arg2 := by
  funext y
  exact congrArg (V m c main_arg2) (funext fun a => Fin.ext (Pipeline.Window.rect_emb_val_of_index_zero win0_2 t a rfl y))
theorem iblk3 (c : Dev nD) (t) : iblk m c 3 t = V m c main_arg3 := by
  funext y
  exact congrArg (V m c main_arg3) (funext fun a => Fin.ext (Pipeline.Window.rect_emb_val_of_index_zero win0_3 t a rfl y))
theorem iblk4 (c : Dev nD) (t) : iblk m c 4 t = V m c main_arg4 := by
  funext y
  exact congrArg (V m c main_arg4) (funext fun a => Fin.ext (Pipeline.Window.rect_emb_val_of_index_zero win0_4 t a rfl y))
theorem iblk5 (c : Dev nD) (t) : iblk m c 5 t = V m c main_v0 := by
  funext y
  exact congrArg (V m c main_v0) (funext fun a => Fin.ext (Pipeline.Window.rect_emb_val_of_index_zero win0_5 t a rfl y))

/-- One point writes back: no other block meets it. -/
theorem disj (w : Fin cfg0.W) : ∀ t t' : Fin cfg0.N, (cfg0.win w).flush t = true → (cfg0.win w).flush t' = true → t ≠ t' →
    Disjoint ((cfg0.win w).blk t).view.set ((cfg0.win w).blk t').view.set :=
  fun t t' _ _ h => absurd ((fin_N0 t).trans (fin_N0 t').symm) h

/-! A result array after the call. -/

theorem arr6 (c : Dev nD) : (dats m 0 c).arrAt 6 cfg0.N
    = out0_6 (F := Ideal) (V m c main_arg0) (V m c main_arg1) (V m c main_arg2) (V m c main_arg3) (V m c main_arg4) (V m c main_v0) := by
  have e := after0_6 m c t0_0
  rw [iblk0, iblk1, iblk2, iblk3, iblk4, iblk5] at e
  funext y
  refine (congrArg ((dats m 0 c).arrAt 6 cfg0.N) (funext fun a => Fin.ext
    (Pipeline.Window.rect_emb_val_of_index_zero win0_6 t0_0 a rfl y).symm)).trans ?_
  refine ((dats m 0 c).arrAt_emb_eq_flushed 6 (disj 6) t0_0 (by decide +kernel) y).trans ?_
  exact congrFun e y

theorem arr7 (c : Dev nD) : (dats m 0 c).arrAt 7 cfg0.N
    = out0_7 (F := Ideal) (V m c main_arg0) (V m c main_arg1) (V m c main_arg2) (V m c main_arg3) (V m c main_arg4) (V m c main_v0) := by
  have e := after0_7 m c t0_0
  rw [iblk0, iblk1, iblk2, iblk3, iblk4, iblk5] at e
  funext y
  refine (congrArg ((dats m 0 c).arrAt 7 cfg0.N) (funext fun a => Fin.ext
    (Pipeline.Window.rect_emb_val_of_index_zero win0_7 t0_0 a rfl y).symm)).trans ?_
  refine ((dats m 0 c).arrAt_emb_eq_flushed 7 (disj 7) t0_0 (by decide +kernel) y).trans ?_
  exact congrFun e y

theorem arr8 (c : Dev nD) : (dats m 0 c).arrAt 8 cfg0.N
    = out0_8 (F := Ideal) (V m c main_arg0) (V m c main_arg1) (V m c main_arg2) (V m c main_arg3) (V m c main_arg4) (V m c main_v0) := by
  have e := after0_8 m c t0_0
  rw [iblk0, iblk1, iblk2, iblk3, iblk4, iblk5] at e
  funext y
  refine (congrArg ((dats m 0 c).arrAt 8 cfg0.N) (funext fun a => Fin.ext
    (Pipeline.Window.rect_emb_val_of_index_zero win0_8 t0_0 a rfl y).symm)).trans ?_
  refine ((dats m 0 c).arrAt_emb_eq_flushed 8 (disj 8) t0_0 (by decide +kernel) y).trans ?_
  exact congrFun e y

theorem arr9 (c : Dev nD) : (dats m 0 c).arrAt 9 cfg0.N
    = out0_9 (F := Ideal) (V m c main_arg0) (V m c main_arg1) (V m c main_arg2) (V m c main_arg3) (V m c main_arg4) (V m c main_v0) := by
  have e := after0_9 m c t0_0
  rw [iblk0, iblk1, iblk2, iblk3, iblk4, iblk5] at e
  funext y
  refine (congrArg ((dats m 0 c).arrAt 9 cfg0.N) (funext fun a => Fin.ext
    (Pipeline.Window.rect_emb_val_of_index_zero win0_9 t0_0 a rfl y).symm)).trans ?_
  refine ((dats m 0 c).arrAt_emb_eq_flushed 9 (disj 9) t0_0 (by decide +kernel) y).trans ?_
  exact congrFun e y

theorem arr10 (c : Dev nD) : (dats m 0 c).arrAt 10 cfg0.N
    = out0_10 (F := Ideal) (V m c main_arg0) (V m c main_arg1) (V m c main_arg2) (V m c main_arg3) (V m c main_arg4) (V m c main_v0) := by
  have e := after0_10 m c t0_0
  rw [iblk0, iblk1, iblk2, iblk3, iblk4, iblk5] at e
  funext y
  refine (congrArg ((dats m 0 c).arrAt 10 cfg0.N) (funext fun a => Fin.ext
    (Pipeline.Window.rect_emb_val_of_index_zero win0_10 t0_0 a rfl y).symm)).trans ?_
  refine ((dats m 0 c).arrAt_emb_eq_flushed 10 (disj 10) t0_0 (by decide +kernel) y).trans ?_
  exact congrFun e y

theorem arr11 (c : Dev nD) : (dats m 0 c).arrAt 11 cfg0.N
    = out0_11 (F := Ideal) (V m c main_arg0) (V m c main_arg1) (V m c main_arg2) (V m c main_arg3) (V m c main_arg4) (V m c main_v0) := by
  have e := after0_11 m c t0_0
  rw [iblk0, iblk1, iblk2, iblk3, iblk4, iblk5] at e
  funext y
  refine (congrArg ((dats m 0 c).arrAt 11 cfg0.N) (funext fun a => Fin.ext
    (Pipeline.Window.rect_emb_val_of_index_zero win0_11 t0_0 a rfl y).symm)).trans ?_
  refine ((dats m 0 c).arrAt_emb_eq_flushed 11 (disj 11) t0_0 (by decide +kernel) y).trans ?_
  exact congrFun e y

theorem arr12 (c : Dev nD) : (dats m 0 c).arrAt 12 cfg0.N
    = out0_12 (F := Ideal) (V m c main_arg0) (V m c main_arg1) (V m c main_arg2) (V m c main_arg3) (V m c main_arg4) (V m c main_v0) := by
  have e := after0_12 m c t0_0
  rw [iblk0, iblk1, iblk2, iblk3, iblk4, iblk5] at e
  funext y
  refine (congrArg ((dats m 0 c).arrAt 12 cfg0.N) (funext fun a => Fin.ext
    (Pipeline.Window.rect_emb_val_of_index_zero win0_12 t0_0 a rfl y).symm)).trans ?_
  refine ((dats m 0 c).arrAt_emb_eq_flushed 12 (disj 12) t0_0 (by decide +kernel) y).trans ?_
  exact congrFun e y

end Cert.Proof.Medusa

end
-- ==== Proof.Medusa.Gather.lean ====
/-
  Taking along the last axis, at an index: the gather of one element per candidate, and the check that its index lies in
  the axis.
-/
module

public import Idealize.ShloMosaic.Lib.ValueIdxCore
public import Idealize.ShloMosaic.PureOps
public import Idealize.ShloMosaic.PureOps.Reduce

@[expose] public section

noncomputable section

namespace Cert.Proof.Medusa

open Idealize.ShloMosaic
open Idealize.ShloMosaic.ValueIdx

/-- One element of the last axis for each of ten indices, rows and heads being batches. -/
abbrev candDims (n : Nat) (wf : GatherDims.WF ⟨4, ![32, 1, 5, n]⟩ ⟨4, ![32, 5, 10, 1]⟩ ⟨4, ![32, 1, 5, 10]⟩ [1] [3] [0, 2] [3] [0, 1] 3 ![1, 1, 1, 1]) :
    GatherDims ⟨4, ![32, 1, 5, n]⟩ ⟨4, ![32, 5, 10, 1]⟩ ⟨4, ![32, 1, 5, 10]⟩ where
  offsetDims := [1]
  collapsedSliceDims := [3]
  operandBatchingDims := [0, 2]
  startIndicesBatchingDims := [0, 1]
  startIndexMap := [3]
  indexVectorDim := 3
  sliceSizes := ![1, 1, 1, 1]
  wf := wf

/-- The gather at a candidate: the operand's element at the candidate's index, kept inside the axis. -/
theorem gather_cand {α : Type} {n w : Nat} (hn : 0 < n)
    (wf : GatherDims.WF ⟨4, ![32, 1, 5, n]⟩ ⟨4, ![32, 5, 10, 1]⟩ ⟨4, ![32, 1, 5, 10]⟩ [1] [3] [0, 2] [3] [0, 1] 3 ![1, 1, 1, 1])
    (x : (⟨4, ![32, 1, 5, n]⟩ : Shape).Idx → α) (idx : IVec ⟨4, ![32, 5, 10, 1]⟩ w) (r : Fin 32) (g : Fin 5) (l : Fin 10) :
    Host.gather (candDims n wf) x idx (ix4 r 0 g l)
      = x (ix4 r 0 g ⟨min (idx (ix4 r g l 0)).toInt.toNat (n - 1), by omega⟩) := by
  unfold Host.gather
  congr 1
  funext a
  have hc : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have hb : ∀ b : Fin 4, b ∈ (candDims n wf).operandBatchingDims ↔ b ∈ ([0, 2] : List (Fin 4)) := fun _ => Iff.rfl
  rcases hc with rfl | rfl | rfl | rfl
  · refine Fin.ext ?_
    show (candDims n wf).start (ix4 r 0 g l) idx 0 + (candDims n wf).batchCoord (ix4 r 0 g l) 0
      + (candDims n wf).offCoord (ix4 r 0 g l) 0 = _
    rw [GatherDims.start_batching _ _ _ _ ((hb 0).mpr (by decide)),
      GatherDims.offCoord_eq_zero _ _ _ (fun h => ((GatherDims.mem_sKept _ _).mp h).2 ((hb 0).mpr (by decide)))]
    simp only [Nat.zero_add, Nat.add_zero]
    unfold GatherDims.batchCoord
    rw [dif_pos ((hb 0).mpr (by decide))]
    rfl
  · exact Fin.ext (Nat.lt_one_iff.1 (Fin.isLt _))
  · refine Fin.ext ?_
    show (candDims n wf).start (ix4 r 0 g l) idx 2 + (candDims n wf).batchCoord (ix4 r 0 g l) 2
      + (candDims n wf).offCoord (ix4 r 0 g l) 2 = _
    rw [GatherDims.start_batching _ _ _ _ ((hb 2).mpr (by decide)),
      GatherDims.offCoord_eq_zero _ _ _ (fun h => ((GatherDims.mem_sKept _ _).mp h).2 ((hb 2).mpr (by decide)))]
    simp only [Nat.zero_add, Nat.add_zero]
    unfold GatherDims.batchCoord
    rw [dif_pos ((hb 2).mpr (by decide))]
    rfl
  · refine Fin.ext ?_
    show (candDims n wf).start (ix4 r 0 g l) idx 3 + (candDims n wf).batchCoord (ix4 r 0 g l) 3
      + (candDims n wf).offCoord (ix4 r 0 g l) 3 = _
    rw [GatherDims.batchCoord_eq_zero _ _ _ (fun h => absurd ((hb 3).mp h) (by decide)),
      GatherDims.offCoord_eq_zero _ _ _ (fun h => ((GatherDims.mem_sKept _ _).mp h).1 (List.mem_singleton.mpr rfl))]
    simp only [Nat.add_zero]
    unfold GatherDims.start
    rw [dif_pos (show (3 : Fin 4) ∈ (candDims n wf).startIndexMap from List.mem_singleton.mpr rfl)]
    have hsi : (candDims n wf).siIdx (ix4 r 0 g l) ⟨List.idxOf (3 : Fin 4) (candDims n wf).startIndexMap,
        List.idxOf_lt_length_iff.2 (List.mem_singleton.mpr rfl)⟩ = ix4 r g l 0 := by
      funext b; refine Fin.ext ?_
      match b with
      | ⟨0, _⟩ => rfl
      | ⟨1, _⟩ => rfl
      | ⟨2, _⟩ => rfl
      | ⟨3, _⟩ => rfl
    rw [hsi]
    rfl

/-- "And" of one-bit words that are all one, over any axes: one. -/
theorem reduce_and_one {s t u : Shape} {axes : List (Fin s.rank)} (x : IVec s 1) (init : IVec u 1) (h : s.ReducesTo axes t)
    (hu : 0 < u.numel) (j : t.Idx) (hx : ∀ i, x i = 1#1) (hi : ∀ i, init i = 1#1) :
    Host.reduce IntOp.andi x init h hu j = 1#1 := by
  rw [Host.reduce_eq_foldl, hi]
  generalize List.filter _ _ = L
  induction L with
  | nil => rfl
  | cons i L ih => rw [List.foldl_cons, hx]; exact ih

/-- If the "and" over all axes is one, every word is. -/
theorem one_of_reduce_and {s t u : Shape} {axes : List (Fin s.rank)} (x : IVec s 1) (init : IVec u 1) (h : s.ReducesTo axes t)
    (hu : 0 < u.numel) (i : s.Idx) (he : Host.reduce IntOp.andi x init h hu (h.drop i) = 1#1) : x i = 1#1 := by
  rw [Host.reduce_eq_foldl] at he
  have key : ∀ (L : List s.Idx) (b : BitVec 1), L.foldl (fun r i => IntOp.andi r (x i)) b = 1#1 → b = 1#1 ∧ ∀ i ∈ L, x i = 1#1 := by
    intro L
    induction L with
    | nil => intro b hb; exact ⟨hb, fun _ h => absurd h List.not_mem_nil⟩
    | cons k L ih =>
      intro b hb
      obtain ⟨h1, h2⟩ := ih _ hb
      have hbk : b = 1#1 ∧ x k = 1#1 := by
        have h1' : b &&& x k = 1#1 := h1
        rcases BitVec.eq_zero_or_eq_one b with e | e <;> rcases BitVec.eq_zero_or_eq_one (x k) with e' | e' <;>
          rw [e, e'] at h1' <;> first | exact ⟨e, e'⟩ | exact absurd h1' (by decide)
      exact ⟨hbk.1, fun j hj => (List.mem_cons.mp hj).elim (fun e => e ▸ hbk.2) (h2 j)⟩
  refine (key _ _ he).2 i (List.mem_filter.mpr ⟨List.mem_map.mpr ⟨s.rowMajor i, List.mem_finRange _, Equiv.symm_apply_apply _ _⟩, by simp⟩)

end Cert.Proof.Medusa

end
-- ==== Proof.Medusa.Tail.lean ====
/-
  The reference's last lines: the candidates' logits, taken along the vocabulary.
-/
module

public import proofs.«01_k».proof.Proof.Gen.ReferenceIdeal.Frame
public import proofs.«01_k».proof.Proof.Medusa.Gather
public import Idealize.ShloMosaic.Lib.Pipeline.Value

@[expose] public section

set_option maxRecDepth 100000

noncomputable section

namespace Cert.Proof.Medusa

open Cert.ReferenceIdeal Cert.ReferenceIdeal.Gen
open Idealize.ShloMosaic
open Idealize.ShloMosaic.TcCoe
open Idealize.ShloMosaic.ValueIdx

/-- The indices, a negative one counted from the end. -/
def wrapIds (ids : IVec S32x1x5x10 32) : IVec S32x1x5x10 32 :=
  select (cmpi .slt ids (broadcastInDim S32x1x5x10 ![] bcast_S_S32x1x5x10 (constantI S_ 32 0#32)))
    (addi ids (broadcastInDim S32x1x5x10 ![] bcast_S_S32x1x5x10 (constantI S_ 32 152064#32))) ids
/-- The gather's start indices. -/
def startIds (ids : IVec S32x1x5x10 32) : IVec S32x5x10x1 32 := shapeCast S32x5x10x1 (wrapIds ids) shapeCasts_S32x1x5x10_S32x5x10x1
/-- Whether an index lies in the vocabulary. -/
def okIds (ids : IVec S32x1x5x10 32) : IVec S32x5x10 1 :=
  Host.reduce IntOp.andi
    (andi (cmpi .sge (startIds ids) (broadcastInDim S32x5x10x1 ![] bcast_S_S32x5x10x1 (constantI S_ 32 0#32)))
      (cmpi .sle (startIds ids) (broadcastInDim S32x5x10x1 ![0, 1, 2, 3] bcast_S1x1x1x1_S32x5x10x1_0_1_2_3
        (broadcastInDim S1x1x1x1 ![3] bcast_S1_S1x1x1x1_3 (constantI S1 32 152063#32)))))
    (constantI S_ 1 1#1) reducesTo_S32x5x10x1_S32x5x10_d3 h_S_
/-- The logits at the indices, not-a-number outside the vocabulary. -/
def takeLast (x : FVec Ideal S32x1x5x152064 .f32) (ids : IVec S32x1x5x10 32) : FVec Ideal S32x1x5x10 .f32 :=
  select (broadcastInDim S32x1x5x10 ![0, 2, 3] bcast_S32x5x10_S32x1x5x10_0_2_3 (okIds ids))
    (Host.gather gather_S32x1x5x152064_S32x5x10x1_S32x1x5x10_1_3_02_01_3_3_1111 x (startIds ids))
    (broadcastInDim S32x1x5x10 ![] bcast_S_S32x1x5x10 (constant (F := Ideal) S_ .f32 0x7FC00000#32))

/-- The logits, a row's heads together. -/
def logitRows (x : FVec Ideal S5x32x152064 .f32) : FVec Ideal S32x1x5x152064 .f32 :=
  shapeCast S32x1x5x152064 (transpose S32x5x152064 [1, 0, 2] x transposes_S5x32x152064_S32x5x152064_1_0_2) shapeCasts_S32x5x152064_S32x1x5x152064

theorem wrapIds_apply (ids : IVec S32x1x5x10 32) (i) (h : (ids i).toNat < 152064) : wrapIds ids i = ids i := by
  have e : (ids i).slt 0#32 = false := by
    rw [Bool.eq_false_iff]
    intro h1
    have h2 := BitVec.slt_iff_toInt_lt.mp h1
    rw [show (0#32).toInt = 0 from rfl, BitVec.toInt_eq_toNat_cond] at h2
    split at h2 <;> omega
  show Scalar.select (BitVec.ofBool ((ids i).slt 0#32)) _ _ = _
  rw [e]
  rfl

theorem startIds_apply (ids : IVec S32x1x5x10 32) (hid : ∀ i, (ids i).toNat < 152064) (r : Fin 32) (g : Fin 5) (l : Fin 10) :
    startIds ids (ix4 r g l 0) = ids (ix4 r 0 g l) := by
  rw [startIds]
  refine (shapeCast_apply (wrapIds ids) _ _ (ix4 r 0 g l) ?_).trans (wrapIds_apply ids _ (hid _))
  rw [Shape.rowMajor_val_four, Shape.rowMajor_val_four]
  show ((r.val * 1 + 0) * 5 + g.val) * 10 + l.val = ((r.val * 5 + g.val) * 10 + l.val) * 1 + 0
  omega

theorem okIds_apply (ids : IVec S32x1x5x10 32) (hid : ∀ i, (ids i).toNat < 152064) (j) : okIds ids j = 1#1 := by
  refine reduce_and_one _ _ _ _ j (fun i => ?_) fun _ => rfl
  obtain ⟨r, g, l, rfl⟩ : ∃ (r : Fin 32) (g : Fin 5) (l : Fin 10), i = ix4 r g l 0 := ⟨i 0, i 1, i 2, by
    funext a
    match a with
    | ⟨0, _⟩ => rfl
    | ⟨1, _⟩ => rfl
    | ⟨2, _⟩ => rfl
    | ⟨3, _⟩ => exact Fin.ext (Nat.lt_one_iff.1 (i 3).isLt)⟩
  show BitVec.ofBool ((0#32).sle (startIds ids (ix4 r g l 0))) &&& BitVec.ofBool ((startIds ids (ix4 r g l 0)).sle 152063#32) = 1#1
  rw [startIds_apply ids hid]
  have hb := hid (ix4 r 0 g l)
  generalize ids (ix4 r 0 g l) = b at hb
  have h0 : (0#32).sle b = true := BitVec.sle_iff_toInt_le.mpr (by
    rw [show (0#32).toInt = 0 from rfl, BitVec.toInt_eq_toNat_cond]; split <;> omega)
  have h1 : b.sle 152063#32 = true := BitVec.sle_iff_toInt_le.mpr (by
    rw [show (152063#32).toInt = 152063 from rfl, BitVec.toInt_eq_toNat_cond]; split <;> omega)
  rw [h0, h1]
  rfl

/-- The gather with the program's dimension numbers. -/
theorem takeLast_apply (x : FVec Ideal S32x1x5x152064 .f32) (ids : IVec S32x1x5x10 32) (hid : ∀ i, (ids i).toNat < 152064)
    (r : Fin 32) (g : Fin 5) (l : Fin 10) :
    takeLast x ids (ix4 r 0 g l) = x (ix4 r 0 g ⟨(ids (ix4 r 0 g l)).toNat, hid _⟩) := by
  have e : broadcastInDim S32x1x5x10 ![0, 2, 3] bcast_S32x5x10_S32x1x5x10_0_2_3 (okIds ids) (ix4 r 0 g l) = 1#1 := okIds_apply ids hid _
  refine (select_apply _ _ _ _).trans ?_
  rw [e, select_one]
  refine (gather_cand (n := 152064) (by omega) _ x (startIds ids) r g l).trans ?_
  refine congrArg x (congrArg (ix4 r 0 g) (Fin.ext ?_))
  show min (startIds ids (ix4 r g l 0)).toInt.toNat 152063 = (ids (ix4 r 0 g l)).toNat
  rw [startIds_apply ids hid]
  have hb := hid (ix4 r 0 g l)
  rw [BitVec.toInt_eq_toNat_cond]
  split <;> omega

theorem logitRows_apply' {n : Nat} (x : FVec Ideal ⟨3, ![5, 32, n]⟩ .f32) (ht : (⟨3, ![5, 32, n]⟩ : Shape).Transposes [1, 0, 2] ⟨3, ![32, 5, n]⟩)
    (hc : (⟨3, ![32, 5, n]⟩ : Shape).ShapeCasts ⟨4, ![32, 1, 5, n]⟩) (r : Fin 32) (g : Fin 5) (v : Fin n) :
    shapeCast ⟨4, ![32, 1, 5, n]⟩ (transpose ⟨3, ![32, 5, n]⟩ [1, 0, 2] x ht) hc (ix4 r 0 g v) = x (ix3 g r v) := by
  refine (shapeCast_apply _ _ _ (ix3 r g v) ?_).trans (transpose_apply [1, 0, 2] x ht (ix3 r g v) (ix3 g r v) fun b => ?_)
  · rw [Shape.rowMajor_val_four, Shape.rowMajor_val_three]
    show (r.val * 5 + g.val) * n + v.val = ((r.val * 1 + 0) * 5 + g.val) * n + v.val
    rw [Nat.mul_one, Nat.add_zero]
  · match b with
    | ⟨0, _⟩ => rfl
    | ⟨1, _⟩ => rfl
    | ⟨2, _⟩ => rfl

theorem logitRows_apply (x : FVec Ideal S5x32x152064 .f32) (r : Fin 32) (g : Fin 5) (v : Fin 152064) :
    logitRows x (ix4 r 0 g v) = x (ix3 g r v) := logitRows_apply' (n := 152064) x _ _ r g v

/-- What the last lines leave in the candidates' result. -/
theorem tail_after (U : Valuation τ sig (Elt Ideal)) :
    StableHlo.after (List.flatten [hostOps1, hostOps1_1]) U (Proc.devRef .tc main_v4)
      = takeLast (logitRows (U (Proc.devRef .tc main_v1_2))) (U (Proc.devRef .tc main_arg6)) := by
  simp only [List.flatten_cons, List.flatten_nil, List.append_nil, List.cons_append, List.nil_append]
  after_results
  rfl

end Cert.Proof.Medusa

end
-- ==== Proof.Medusa.RefRun.lean ====
/-
  The reference's run, over the extended reals: its seven results are those of the arguments (Results.lean), when the
  candidates lie in the vocabulary.
-/
module

public import proofs.«01_k».proof.Proof.Medusa.Results
public import proofs.«01_k».proof.Proof.Medusa.RefOut
public import proofs.«01_k».proof.Proof.Medusa.RefArr
public import proofs.«01_k».proof.Proof.Medusa.Tail

@[expose] public section

set_option maxRecDepth 200000

noncomputable section

namespace Cert.Proof.Medusa

open Cert.ReferenceIdeal Cert.ReferenceIdeal.Gen
open Idealize.ShloMosaic Idealize.SL.Sem
open Idealize.ShloMosaic.TcCoe
open Idealize.ShloMosaic.ValueIdx

variable (m : (ℓ : Loc nD τ sig) → Buf (Elt Ideal) ℓ) (ρ : Dev nD → PrngReg)

/-- The columns' scales as one row. -/
def rSV (c : Dev nD) : FVec Ideal S1x152064 .f32 := V m c main_v0

theorem rSV_eq (c : Dev nD) : rSV m c = shapeCast S1x152064 (m ((c.tc : Thread nD τ).loc main_arg5)) shapeCasts_S152064_S1x152064 := by
  show StableHlo.after (List.flatten [hostOps0]) (fun b => m (c, b)) (Proc.devRef .tc main_v0) = _
  simp only [List.flatten_cons, List.flatten_nil, List.append_nil]
  after_results
  rfl

/-- The candidates' result, off the logits. -/
theorem cand_ref (X : FVec Ideal S32x1x2560 .bf16) (W : FVec Ideal S5x2560x2560 .fp8e4m3) (SR BR : FVec Ideal S5x2560 .f32)
    (WV : FVec Ideal S2560x152064 .fp8e4m3) (SV : FVec Ideal S1x152064 .f32) (ids : IVec S32x1x5x10 32) (hid : ∀ i, (ids i).toNat < 152064) :
    takeLast (logitRows (out0_8 (F := Ideal) X W SR BR WV SV)) ids = resCand X W SR BR WV SV ids := by
  funext i
  obtain ⟨r, g, l, rfl⟩ : ∃ (r : Fin 32) (g : Fin 5) (l : Fin 10), i = ix4 r 0 g l := ⟨i 0, i 2, i 3, by
    funext a
    match a with
    | ⟨0, _⟩ => rfl
    | ⟨1, _⟩ => exact Fin.ext (Nat.lt_one_iff.1 (i 1).isLt)
    | ⟨2, _⟩ => rfl
    | ⟨3, _⟩ => rfl⟩
  refine (takeLast_apply _ ids hid r g l).trans ((logitRows_apply _ r g _).trans ((res_logits X W SR BR WV SV g r _).trans ?_))
  rw [resCand, dif_pos (hid (ix4 r 0 g l))]

/-- The last lines' result. -/
theorem tail_cand (c : Dev nD) (hid : ∀ i : S32x1x5x10.Idx, ((m ((c.tc : Thread nD τ).loc main_arg6) : IVec S32x1x5x10 32) i).toNat < 152064) :
    Pipeline.afterTail₀ cfgs (dats m) 0 (V0 m) [hostOps1, hostOps1_1] c main_v4
      = resCand (V m c main_arg0) (V m c main_arg1) (V m c main_arg2) (V m c main_arg3) (V m c main_arg4) (rSV m c) (m ((c.tc : Thread nD τ).loc main_arg6)) := by
  unfold Pipeline.afterTail₀
  rw [tail_after, Pipeline.withArrays_of_ne _ c (V0 m c) _ main_arg6 (by exact (by decide : ∀ w, Pipeline.arrRef spec0 w ≠ main_arg6))]
  refine Eq.trans (congrArg₂ (fun a b => takeLast (logitRows a) b)
    ((Pipeline.withArrays_arr spec0 launch0.win.arr_inj c (V0 m c) (fun w => (dats m 0 c).arrAt w cfg0.N) 8).trans (arr8 m c)) (V_main_arg6 m c)) ?_
  exact cand_ref _ _ _ _ _ _ _ hid

/-- The reference's results. -/
theorem reference_run (hid : ∀ (c : Dev nD) (i : S32x1x5x10.Idx), ((m ((c.tc : Thread nD τ).loc main_arg6) : IVec S32x1x5x10 32) i).toNat < 152064) :
    θ_run defs (onTc (τ := τ) (main (F := Ideal))) ⟨m, fun _ => 0, ρ⟩ (fun r => ∀ c : Dev nD,
      r.2.mem ((c.tc : Thread nD τ).loc main_v1_0) = resLse (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rSV m c)
      ∧ r.2.mem ((c.tc : Thread nD τ).loc main_v1_1) = resMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rSV m c)
      ∧ r.2.mem ((c.tc : Thread nD τ).loc main_v4) = resCand (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rSV m c) (m ((c.tc : Thread nD τ).loc main_arg6))
      ∧ r.2.mem ((c.tc : Thread nD τ).loc main_v1_3) = resXc (m ((c.tc : Thread nD τ).loc main_arg0))
      ∧ r.2.mem ((c.tc : Thread nD τ).loc main_v1_4) = resXs (m ((c.tc : Thread nD τ).loc main_arg0))
      ∧ r.2.mem ((c.tc : Thread nD τ).loc main_v1_5) = resHc (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_6) = resHs (m ((c.tc : Thread nD τ).loc main_arg0)) (m ((c.tc : Thread nD τ).loc main_arg1)) (m ((c.tc : Thread nD τ).loc main_arg2)) (m ((c.tc : Thread nD τ).loc main_arg3))) := by
  refine (θ_run defs _ _).mono (fun r h c => ?_) (run_main m ρ)
  rw [← V_main_arg0 m c, ← V_main_arg1 m c, ← V_main_arg2 m c, ← V_main_arg3 m c, ← V_main_arg4 m c]
  exact ⟨((h c).1 6).trans ((arr6 m c).trans (res_lse _ _ _ _ _ _)), ((h c).1 7).trans ((arr7 m c).trans (res_max _ _ _ _ _ _)),
    ((h c).2 main_v4 (Pipeline.mem_restRefs_of main_v4 (by decide) (by decide))).trans (tail_cand m c (hid c)),
    ((h c).1 9).trans ((arr9 m c).trans (res_xc _ _ _ _ _ _)), ((h c).1 10).trans ((arr10 m c).trans (res_xs _ _ _ _ _ _)),
    ((h c).1 11).trans ((arr11 m c).trans (res_hc _ _ _ _ _ _)), ((h c).1 12).trans ((arr12 m c).trans (res_hs _ _ _ _ _ _))⟩

end Cert.Proof.Medusa

end
-- ==== Proof.Medusa.PreIds.lean ====
/-
  The precondition: every candidate index lies in the vocabulary.
-/
module

public import proofs.«01_k».proof.Proof.Medusa.Gather
public import proofs.«01_k».proof.Pre_ids_in_range

@[expose] public section

noncomputable section

namespace Cert.Proof.Medusa

open Idealize.ShloMosaic
open Cert.Pre_ids_in_range

/-- The side conditions that the precondition states. -/
theorem preFacts : Cert.Pre_ids_in_range.Facts where
  bcast_S_S32x1x5x10 := by decide
  reducesTo_S32x1x5x10_S_d0_1_2_3 := by decide
  h_S_ := by decide

/-- A word that is, signed, at least zero and below 152064 is below it unsigned. -/
theorem word_lt (b : BitVec 32) (h : IntOp.andi (IntOp.cmpi .sge b 0#32) (IntOp.cmpi .slt b 152064#32) = 1#1) : b.toNat < 152064 := by
  have h' : BitVec.ofBool ((0#32).sle b) &&& BitVec.ofBool (b.slt 152064#32) = 1#1 := h
  have h0 : (0#32).sle b = true ∧ b.slt 152064#32 = true := by
    cases e : (0#32).sle b <;> cases e' : b.slt 152064#32 <;> rw [e, e'] at h' <;>
      first | exact ⟨rfl, rfl⟩ | exact absurd h' (by decide)
  have h1 := BitVec.sle_iff_toInt_le.mp h0.1
  have h2 := BitVec.slt_iff_toInt_lt.mp h0.2
  rw [show (0#32).toInt = 0 from rfl] at h1
  rw [show (152064#32).toInt = 152064 from rfl] at h2
  rw [BitVec.toInt_eq_toNat_cond] at h1 h2
  split at h1 <;> omega

/-- The precondition gives the bound of every index. -/
theorem ids_lt {F : FTy → Type} [FloatOps F] (a0 a1 a2 a3 a4 a5) (ids : IVec S32x1x5x10 32)
    (h : @fn preFacts F _ a0 a1 a2 a3 a4 a5 ids = fun _ => 1#1) (i : S32x1x5x10.Idx) : (ids i).toNat < 152064 := by
  have e := one_of_reduce_and _ _ _ _ i (congrFun h _)
  exact word_lt _ e

end Cert.Proof.Medusa

end
-- ==== Proof.lean ====
/- The claims of `Cert.Claim` (Defs.lean), put together: the kernel's frame at the machine's floats and at the ideal
   ones is one run (Proof/Medusa/Launch.lean `run_frame`), since the two printed programs are the same text; the
   equality of the seven results over the extended reals is the two runs of Proof/Medusa/KernelOut.lean and
   Proof/Medusa/RefRun.lean, each stated over the same functions of the arguments (Proof/Medusa/Results.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Medusa.Launch
public import proofs.«01_k».proof.Proof.Medusa.KernelOut
public import proofs.«01_k».proof.Proof.Medusa.RefRun
public import proofs.«01_k».proof.Proof.Medusa.PreIds
public import Idealize.ShloMosaic.Lib.Claim
public import Idealize.ShloMosaic.Adequacy
public import Idealize.ShloMosaic.Init

@[expose] public section

noncomputable section

namespace Cert.Proof

open Idealize.ShloMosaic Idealize.SL.Sem

set_option maxRecDepth 100000 in
set_option maxHeartbeats 0 in
/-- The kernel's body table is the ideal kernel's. -/
theorem defs_eq {F : FTy → Type} [FloatOps F] :
    @Cert.Kernel.defs₀ F _ Cert.Kernel.Gen.facts = @Cert.KernelIdeal.defs₀ F _ Cert.KernelIdeal.Gen.facts := rfl

set_option maxRecDepth 100000 in
set_option maxHeartbeats 0 in
/-- The kernel's frame at the machine's floats: the ideal kernel's run at them. -/
theorem kernel_frame : quiescent_Kernel (hKernel := Cert.Kernel.Gen.facts) := fun m g _ =>
  Cert.Proof.Medusa.run_frame (F := Bits) m g

/-- The ideal kernel's frame. -/
theorem ideal_frame : quiescent_KernelIdeal (hKernelIdeal := Cert.KernelIdeal.Gen.facts) := fun m g _ =>
  Cert.Proof.Medusa.run_frame (F := Ideal) m g

/-- The reference's frame. -/
theorem reference_frame : quiescent_ReferenceIdeal (hReferenceIdeal := Cert.ReferenceIdeal.Gen.facts) := fun m g _ =>
  Cert.ReferenceIdeal.Gen.frame m g

/-- The same under the precondition. -/
theorem ideal_frame_pre : quiescent_KernelIdeal_pre_ids_in_range (hKernelIdeal := Cert.KernelIdeal.Gen.facts) (hPre_ids_in_range := Cert.Proof.Medusa.preFacts) :=
  fun m g _ => Cert.Proof.Medusa.run_frame (F := Ideal) m g
theorem reference_frame_pre : quiescent_ReferenceIdeal_pre_ids_in_range (hReferenceIdeal := Cert.ReferenceIdeal.Gen.facts) (hPre_ids_in_range := Cert.Proof.Medusa.preFacts) :=
  fun m g _ => Cert.ReferenceIdeal.Gen.frame m g

set_option maxRecDepth 100000 in
/-- The kernel and the reference end with equal results, all seven, over the extended reals. -/
theorem algebraic : algebraic_KernelIdeal_ReferenceIdeal_pre_ids_in_range (hKernelIdeal := Cert.KernelIdeal.Gen.facts)
    (hReferenceIdeal := Cert.ReferenceIdeal.Gen.facts) (hPre_ids_in_range := Cert.Proof.Medusa.preFacts) := by
  intro m g m' g' hpre hag
  have hid := fun c => Cert.Proof.Medusa.ids_lt _ _ _ _ _ _ _ (hpre c)
  have hid' : ∀ (c : Dev Cert.ReferenceIdeal.nD) (i : Cert.ReferenceIdeal.S32x1x5x10.Idx),
      ((m' ((c.tc : Thread Cert.ReferenceIdeal.nD Cert.ReferenceIdeal.τ).loc Cert.ReferenceIdeal.main_arg6) : IVec Cert.ReferenceIdeal.S32x1x5x10 32) i).toNat < 152064 := fun c i => by
    rw [(hag c).2.2.2.2.2.2]; exact hid c i
  have hsv : ∀ c : Dev Cert.KernelIdeal.nD, Cert.Proof.Medusa.rSV m' c = Cert.Proof.Medusa.kSV m c := fun c => by
    rw [Cert.Proof.Medusa.rSV_eq, Cert.Proof.Medusa.kSV_eq, (hag c).2.2.2.2.2.1]
  refine ⟨fun c => Cert.Proof.Medusa.resLse (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.Proof.Medusa.kSV m c),
    fun c => Cert.Proof.Medusa.resMax (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.Proof.Medusa.kSV m c),
    fun c => Cert.Proof.Medusa.resCand (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.Proof.Medusa.kSV m c) (m ((c.tc : Thread Cert.KernelIdeal.nD Cert.KernelIdeal.τ).loc Cert.KernelIdeal.main_arg6)),
    fun c => Cert.Proof.Medusa.resXc (m ((c.tc : Thread Cert.KernelIdeal.nD Cert.KernelIdeal.τ).loc Cert.KernelIdeal.main_arg0)),
    fun c => Cert.Proof.Medusa.resXs (m ((c.tc : Thread Cert.KernelIdeal.nD Cert.KernelIdeal.τ).loc Cert.KernelIdeal.main_arg0)),
    fun c => Cert.Proof.Medusa.resHc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Proof.Medusa.resHs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run _ _ _).mono (fun r h c => ?_) (θ_run_and (Cert.Proof.Medusa.kernel_run m g hid) (Cert.Proof.Medusa.run_frame (F := Ideal) m g)),
    (θ_run _ _ _).mono (fun r h c => ?_) (θ_run_and (Cert.Proof.Medusa.reference_run m' g' hid') (Cert.ReferenceIdeal.Gen.frame m' g'))⟩
  · obtain ⟨h0, h1, h2, h3, h4, h5, h6⟩ := h.1 c
    exact ⟨h0, h1, h2, h3, h4, h5, h6, h.2.1 c⟩
  · obtain ⟨h0, h1, h2, h3, h4, h5, h6⟩ := h.1 c
    have ha := h.2.1 c
    obtain ⟨e0, e1, e2, e3, e4, e5, e6⟩ := hag c
    rw [e0, e1, e2, e3, e4, hsv c] at h0 h1
    rw [e0, e1, e2, e3, e4, hsv c, e6] at h2
    rw [e0] at h3 h4
    rw [e0, e1, e2, e3] at h5 h6
    exact ⟨h0, h1, h2, h3, h4, h5, h6, ha⟩

theorem claim : Cert.Claim := ⟨Cert.Kernel.Gen.facts, Cert.KernelIdeal.Gen.facts, Cert.ReferenceIdeal.Gen.facts, Cert.Proof.Medusa.preFacts,
  kernel_frame, ideal_frame, ideal_frame_pre, reference_frame, reference_frame_pre, trivial, algebraic⟩

end Cert.Proof

end
